-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_q_k_sink [hPre_finite_q_k_sink : Cert.Pre_finite_q_k_sink.Facts] (m : (ℓ : Loc Cert.KernelIdeal.nD Cert.KernelIdeal.τ Cert.KernelIdeal.sig) → Buf (Elt Ideal) ℓ) : Prop :=
  ∀ c : Dev Cert.KernelIdeal.nD,
    (Cert.Pre_finite_q_k_sink.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_q_k_sink.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_q_k_sink.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_q_k_sink [hPre_finite_q_k_sink : Cert.Pre_finite_q_k_sink.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_q_k_sink.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_q_k_sink.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_q_k_sink.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_KernelCtx (m : (ℓ : Loc Cert.KernelCtx.nD Cert.KernelCtx.τ Cert.KernelCtx.sig) → Buf (Elt Bits) ℓ) : Prop :=
  True

def Pre_KernelCtxIdeal (m : (ℓ : Loc Cert.KernelCtxIdeal.nD Cert.KernelCtxIdeal.τ Cert.KernelCtxIdeal.sig) → Buf (Elt Ideal) ℓ) : Prop :=
  True

def Pre_KernelCtxIdeal_finite_ctx_q_k_sink [hPre_finite_ctx_q_k_sink : Cert.Pre_finite_ctx_q_k_sink.Facts] (m : (ℓ : Loc Cert.KernelCtxIdeal.nD Cert.KernelCtxIdeal.τ Cert.KernelCtxIdeal.sig) → Buf (Elt Ideal) ℓ) : Prop :=
  ∀ c : Dev Cert.KernelCtxIdeal.nD,
    (Cert.Pre_finite_ctx_q_k_sink.fn (F := Ideal) (m ((c.tc : Thread Cert.KernelCtxIdeal.nD Cert.KernelCtxIdeal.τ).loc Cert.KernelCtxIdeal.main_arg0)) (m ((c.tc : Thread Cert.KernelCtxIdeal.nD Cert.KernelCtxIdeal.τ).loc Cert.KernelCtxIdeal.main_arg1))).1 = (fun _ => 1#1)
    ∧ (Cert.Pre_finite_ctx_q_k_sink.fn (F := Ideal) (m ((c.tc : Thread Cert.KernelCtxIdeal.nD Cert.KernelCtxIdeal.τ).loc Cert.KernelCtxIdeal.main_arg0)) (m ((c.tc : Thread Cert.KernelCtxIdeal.nD Cert.KernelCtxIdeal.τ).loc Cert.KernelCtxIdeal.main_arg1))).2 = (fun _ => 1#1)

def Pre_ReferenceCtxIdeal (m : (ℓ : Loc Cert.ReferenceCtxIdeal.nD Cert.ReferenceCtxIdeal.τ Cert.ReferenceCtxIdeal.sig) → Buf (Elt Ideal) ℓ) : Prop :=
  True

def Pre_ReferenceCtxIdeal_finite_ctx_q_k_sink [hPre_finite_ctx_q_k_sink : Cert.Pre_finite_ctx_q_k_sink.Facts] (m : (ℓ : Loc Cert.ReferenceCtxIdeal.nD Cert.ReferenceCtxIdeal.τ Cert.ReferenceCtxIdeal.sig) → Buf (Elt Ideal) ℓ) : Prop :=
  ∀ c : Dev Cert.ReferenceCtxIdeal.nD,
    (Cert.Pre_finite_ctx_q_k_sink.fn (F := Ideal) (m ((c.tc : Thread Cert.ReferenceCtxIdeal.nD Cert.ReferenceCtxIdeal.τ).loc Cert.ReferenceCtxIdeal.main_arg0)) (m ((c.tc : Thread Cert.ReferenceCtxIdeal.nD Cert.ReferenceCtxIdeal.τ).loc Cert.ReferenceCtxIdeal.main_arg1))).1 = (fun _ => 1#1)
    ∧ (Cert.Pre_finite_ctx_q_k_sink.fn (F := Ideal) (m ((c.tc : Thread Cert.ReferenceCtxIdeal.nD Cert.ReferenceCtxIdeal.τ).loc Cert.ReferenceCtxIdeal.main_arg0)) (m ((c.tc : Thread Cert.ReferenceCtxIdeal.nD Cert.ReferenceCtxIdeal.τ).loc Cert.ReferenceCtxIdeal.main_arg1))).2 = (fun _ => 1#1)

def Pre_KernelRes (m : (ℓ : Loc Cert.KernelRes.nD Cert.KernelRes.τ Cert.KernelRes.sig) → Buf (Elt Bits) ℓ) : Prop :=
  True

def Pre_KernelResIdeal (m : (ℓ : Loc Cert.KernelResIdeal.nD Cert.KernelResIdeal.τ Cert.KernelResIdeal.sig) → Buf (Elt Ideal) ℓ) : Prop :=
  True

def Pre_ReferenceResIdeal (m : (ℓ : Loc Cert.ReferenceResIdeal.nD Cert.ReferenceResIdeal.τ Cert.ReferenceResIdeal.sig) → Buf (Elt Ideal) ℓ) : Prop :=
  True

def Pre_KernelConv (m : (ℓ : Loc Cert.KernelConv.nD Cert.KernelConv.τ Cert.KernelConv.sig) → Buf (Elt Bits) ℓ) : Prop :=
  True

def Pre_KernelConvIdeal (m : (ℓ : Loc Cert.KernelConvIdeal.nD Cert.KernelConvIdeal.τ Cert.KernelConvIdeal.sig) → Buf (Elt Ideal) ℓ) : Prop :=
  True

def Pre_ReferenceConvIdeal (m : (ℓ : Loc Cert.ReferenceConvIdeal.nD Cert.ReferenceConvIdeal.τ Cert.ReferenceConvIdeal.sig) → Buf (Elt Ideal) ℓ) : Prop :=
  True

def Pre_KernelQkv (m : (ℓ : Loc Cert.KernelQkv.nD Cert.KernelQkv.τ Cert.KernelQkv.sig) → Buf (Elt Bits) ℓ) : Prop :=
  True

def Pre_KernelQkvIdeal (m : (ℓ : Loc Cert.KernelQkvIdeal.nD Cert.KernelQkvIdeal.τ Cert.KernelQkvIdeal.sig) → Buf (Elt Ideal) ℓ) : Prop :=
  True

def Pre_ReferenceQkvIdeal (m : (ℓ : Loc Cert.ReferenceQkvIdeal.nD Cert.ReferenceQkvIdeal.τ Cert.ReferenceQkvIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_q_k_sink [hKernelIdeal : Cert.KernelIdeal.Facts] [hPre_finite_q_k_sink : Cert.Pre_finite_q_k_sink.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_q_k_sink m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_q_k_sink [hReferenceIdeal : Cert.ReferenceIdeal.Facts] [hPre_finite_q_k_sink : Cert.Pre_finite_q_k_sink.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_q_k_sink m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelCtx [hKernelCtx : Cert.KernelCtx.Facts] : Prop :=
  ∀ (m : (ℓ : Loc Cert.KernelCtx.nD Cert.KernelCtx.τ Cert.KernelCtx.sig) → Buf (Elt Bits) ℓ) (g : Dev Cert.KernelCtx.nD → PrngReg), Pre_KernelCtx m →
    θ_run (Cert.KernelCtx.defs (F := Bits)) (onTc (τ := Cert.KernelCtx.τ) (Cert.KernelCtx.main (F := Bits))) ⟨m, fun _ => 0, g⟩ (fun r => (∀ c : Dev Cert.KernelCtx.nD,
      r.2.mem ((c.tc : Thread Cert.KernelCtx.nD Cert.KernelCtx.τ).loc Cert.KernelCtx.main_arg0) = m ((c.tc : Thread Cert.KernelCtx.nD Cert.KernelCtx.τ).loc Cert.KernelCtx.main_arg0)
      ∧ r.2.mem ((c.tc : Thread Cert.KernelCtx.nD Cert.KernelCtx.τ).loc Cert.KernelCtx.main_arg1) = m ((c.tc : Thread Cert.KernelCtx.nD Cert.KernelCtx.τ).loc Cert.KernelCtx.main_arg1))
      ∧ r.2.sem = fun _ => 0)

def quiescent_KernelCtxIdeal [hKernelCtxIdeal : Cert.KernelCtxIdeal.Facts] : Prop :=
  ∀ (m : (ℓ : Loc Cert.KernelCtxIdeal.nD Cert.KernelCtxIdeal.τ Cert.KernelCtxIdeal.sig) → Buf (Elt Ideal) ℓ) (g : Dev Cert.KernelCtxIdeal.nD → PrngReg), Pre_KernelCtxIdeal m →
    θ_run (Cert.KernelCtxIdeal.defs (F := Ideal)) (onTc (τ := Cert.KernelCtxIdeal.τ) (Cert.KernelCtxIdeal.main (F := Ideal))) ⟨m, fun _ => 0, g⟩ (fun r => (∀ c : Dev Cert.KernelCtxIdeal.nD,
      r.2.mem ((c.tc : Thread Cert.KernelCtxIdeal.nD Cert.KernelCtxIdeal.τ).loc Cert.KernelCtxIdeal.main_arg0) = m ((c.tc : Thread Cert.KernelCtxIdeal.nD Cert.KernelCtxIdeal.τ).loc Cert.KernelCtxIdeal.main_arg0)
      ∧ r.2.mem ((c.tc : Thread Cert.KernelCtxIdeal.nD Cert.KernelCtxIdeal.τ).loc Cert.KernelCtxIdeal.main_arg1) = m ((c.tc : Thread Cert.KernelCtxIdeal.nD Cert.KernelCtxIdeal.τ).loc Cert.KernelCtxIdeal.main_arg1))
      ∧ r.2.sem = fun _ => 0)

def quiescent_KernelCtxIdeal_pre_finite_ctx_q_k_sink [hKernelCtxIdeal : Cert.KernelCtxIdeal.Facts] [hPre_finite_ctx_q_k_sink : Cert.Pre_finite_ctx_q_k_sink.Facts] : Prop :=
  ∀ (m : (ℓ : Loc Cert.KernelCtxIdeal.nD Cert.KernelCtxIdeal.τ Cert.KernelCtxIdeal.sig) → Buf (Elt Ideal) ℓ) (g : Dev Cert.KernelCtxIdeal.nD → PrngReg), Pre_KernelCtxIdeal_finite_ctx_q_k_sink m →
    θ_run (Cert.KernelCtxIdeal.defs (F := Ideal)) (onTc (τ := Cert.KernelCtxIdeal.τ) (Cert.KernelCtxIdeal.main (F := Ideal))) ⟨m, fun _ => 0, g⟩ (fun r => (∀ c : Dev Cert.KernelCtxIdeal.nD,
      r.2.mem ((c.tc : Thread Cert.KernelCtxIdeal.nD Cert.KernelCtxIdeal.τ).loc Cert.KernelCtxIdeal.main_arg0) = m ((c.tc : Thread Cert.KernelCtxIdeal.nD Cert.KernelCtxIdeal.τ).loc Cert.KernelCtxIdeal.main_arg0)
      ∧ r.2.mem ((c.tc : Thread Cert.KernelCtxIdeal.nD Cert.KernelCtxIdeal.τ).loc Cert.KernelCtxIdeal.main_arg1) = m ((c.tc : Thread Cert.KernelCtxIdeal.nD Cert.KernelCtxIdeal.τ).loc Cert.KernelCtxIdeal.main_arg1))
      ∧ r.2.sem = fun _ => 0)

def quiescent_ReferenceCtxIdeal [hReferenceCtxIdeal : Cert.ReferenceCtxIdeal.Facts] : Prop :=
  ∀ (m : (ℓ : Loc Cert.ReferenceCtxIdeal.nD Cert.ReferenceCtxIdeal.τ Cert.ReferenceCtxIdeal.sig) → Buf (Elt Ideal) ℓ) (g : Dev Cert.ReferenceCtxIdeal.nD → PrngReg), Pre_ReferenceCtxIdeal m →
    θ_run (Cert.ReferenceCtxIdeal.defs (F := Ideal)) (onTc (τ := Cert.ReferenceCtxIdeal.τ) (Cert.ReferenceCtxIdeal.main (F := Ideal))) ⟨m, fun _ => 0, g⟩ (fun r => (∀ c : Dev Cert.ReferenceCtxIdeal.nD,
      r.2.mem ((c.tc : Thread Cert.ReferenceCtxIdeal.nD Cert.ReferenceCtxIdeal.τ).loc Cert.ReferenceCtxIdeal.main_arg0) = m ((c.tc : Thread Cert.ReferenceCtxIdeal.nD Cert.ReferenceCtxIdeal.τ).loc Cert.ReferenceCtxIdeal.main_arg0)
      ∧ r.2.mem ((c.tc : Thread Cert.ReferenceCtxIdeal.nD Cert.ReferenceCtxIdeal.τ).loc Cert.ReferenceCtxIdeal.main_arg1) = m ((c.tc : Thread Cert.ReferenceCtxIdeal.nD Cert.ReferenceCtxIdeal.τ).loc Cert.ReferenceCtxIdeal.main_arg1))
      ∧ r.2.sem = fun _ => 0)

def quiescent_ReferenceCtxIdeal_pre_finite_ctx_q_k_sink [hReferenceCtxIdeal : Cert.ReferenceCtxIdeal.Facts] [hPre_finite_ctx_q_k_sink : Cert.Pre_finite_ctx_q_k_sink.Facts] : Prop :=
  ∀ (m : (ℓ : Loc Cert.ReferenceCtxIdeal.nD Cert.ReferenceCtxIdeal.τ Cert.ReferenceCtxIdeal.sig) → Buf (Elt Ideal) ℓ) (g : Dev Cert.ReferenceCtxIdeal.nD → PrngReg), Pre_ReferenceCtxIdeal_finite_ctx_q_k_sink m →
    θ_run (Cert.ReferenceCtxIdeal.defs (F := Ideal)) (onTc (τ := Cert.ReferenceCtxIdeal.τ) (Cert.ReferenceCtxIdeal.main (F := Ideal))) ⟨m, fun _ => 0, g⟩ (fun r => (∀ c : Dev Cert.ReferenceCtxIdeal.nD,
      r.2.mem ((c.tc : Thread Cert.ReferenceCtxIdeal.nD Cert.ReferenceCtxIdeal.τ).loc Cert.ReferenceCtxIdeal.main_arg0) = m ((c.tc : Thread Cert.ReferenceCtxIdeal.nD Cert.ReferenceCtxIdeal.τ).loc Cert.ReferenceCtxIdeal.main_arg0)
      ∧ r.2.mem ((c.tc : Thread Cert.ReferenceCtxIdeal.nD Cert.ReferenceCtxIdeal.τ).loc Cert.ReferenceCtxIdeal.main_arg1) = m ((c.tc : Thread Cert.ReferenceCtxIdeal.nD Cert.ReferenceCtxIdeal.τ).loc Cert.ReferenceCtxIdeal.main_arg1))
      ∧ r.2.sem = fun _ => 0)

def quiescent_KernelRes [hKernelRes : Cert.KernelRes.Facts] : Prop :=
  ∀ (m : (ℓ : Loc Cert.KernelRes.nD Cert.KernelRes.τ Cert.KernelRes.sig) → Buf (Elt Bits) ℓ) (g : Dev Cert.KernelRes.nD → PrngReg), Pre_KernelRes m →
    θ_run (Cert.KernelRes.defs (F := Bits)) (onTc (τ := Cert.KernelRes.τ) (Cert.KernelRes.main (F := Bits))) ⟨m, fun _ => 0, g⟩ (fun r => (∀ c : Dev Cert.KernelRes.nD,
      r.2.mem ((c.tc : Thread Cert.KernelRes.nD Cert.KernelRes.τ).loc Cert.KernelRes.main_arg0) = m ((c.tc : Thread Cert.KernelRes.nD Cert.KernelRes.τ).loc Cert.KernelRes.main_arg0)
      ∧ r.2.mem ((c.tc : Thread Cert.KernelRes.nD Cert.KernelRes.τ).loc Cert.KernelRes.main_arg1) = m ((c.tc : Thread Cert.KernelRes.nD Cert.KernelRes.τ).loc Cert.KernelRes.main_arg1)
      ∧ r.2.mem ((c.tc : Thread Cert.KernelRes.nD Cert.KernelRes.τ).loc Cert.KernelRes.main_arg2) = m ((c.tc : Thread Cert.KernelRes.nD Cert.KernelRes.τ).loc Cert.KernelRes.main_arg2)
      ∧ r.2.mem ((c.tc : Thread Cert.KernelRes.nD Cert.KernelRes.τ).loc Cert.KernelRes.main_arg3) = m ((c.tc : Thread Cert.KernelRes.nD Cert.KernelRes.τ).loc Cert.KernelRes.main_arg3))
      ∧ r.2.sem = fun _ => 0)

def quiescent_KernelResIdeal [hKernelResIdeal : Cert.KernelResIdeal.Facts] : Prop :=
  ∀ (m : (ℓ : Loc Cert.KernelResIdeal.nD Cert.KernelResIdeal.τ Cert.KernelResIdeal.sig) → Buf (Elt Ideal) ℓ) (g : Dev Cert.KernelResIdeal.nD → PrngReg), Pre_KernelResIdeal m →
    θ_run (Cert.KernelResIdeal.defs (F := Ideal)) (onTc (τ := Cert.KernelResIdeal.τ) (Cert.KernelResIdeal.main (F := Ideal))) ⟨m, fun _ => 0, g⟩ (fun r => (∀ c : Dev Cert.KernelResIdeal.nD,
      r.2.mem ((c.tc : Thread Cert.KernelResIdeal.nD Cert.KernelResIdeal.τ).loc Cert.KernelResIdeal.main_arg0) = m ((c.tc : Thread Cert.KernelResIdeal.nD Cert.KernelResIdeal.τ).loc Cert.KernelResIdeal.main_arg0)
      ∧ r.2.mem ((c.tc : Thread Cert.KernelResIdeal.nD Cert.KernelResIdeal.τ).loc Cert.KernelResIdeal.main_arg1) = m ((c.tc : Thread Cert.KernelResIdeal.nD Cert.KernelResIdeal.τ).loc Cert.KernelResIdeal.main_arg1)
      ∧ r.2.mem ((c.tc : Thread Cert.KernelResIdeal.nD Cert.KernelResIdeal.τ).loc Cert.KernelResIdeal.main_arg2) = m ((c.tc : Thread Cert.KernelResIdeal.nD Cert.KernelResIdeal.τ).loc Cert.KernelResIdeal.main_arg2)
      ∧ r.2.mem ((c.tc : Thread Cert.KernelResIdeal.nD Cert.KernelResIdeal.τ).loc Cert.KernelResIdeal.main_arg3) = m ((c.tc : Thread Cert.KernelResIdeal.nD Cert.KernelResIdeal.τ).loc Cert.KernelResIdeal.main_arg3))
      ∧ r.2.sem = fun _ => 0)

def quiescent_ReferenceResIdeal [hReferenceResIdeal : Cert.ReferenceResIdeal.Facts] : Prop :=
  ∀ (m : (ℓ : Loc Cert.ReferenceResIdeal.nD Cert.ReferenceResIdeal.τ Cert.ReferenceResIdeal.sig) → Buf (Elt Ideal) ℓ) (g : Dev Cert.ReferenceResIdeal.nD → PrngReg), Pre_ReferenceResIdeal m →
    θ_run (Cert.ReferenceResIdeal.defs (F := Ideal)) (onTc (τ := Cert.ReferenceResIdeal.τ) (Cert.ReferenceResIdeal.main (F := Ideal))) ⟨m, fun _ => 0, g⟩ (fun r => (∀ c : Dev Cert.ReferenceResIdeal.nD,
      r.2.mem ((c.tc : Thread Cert.ReferenceResIdeal.nD Cert.ReferenceResIdeal.τ).loc Cert.ReferenceResIdeal.main_arg0) = m ((c.tc : Thread Cert.ReferenceResIdeal.nD Cert.ReferenceResIdeal.τ).loc Cert.ReferenceResIdeal.main_arg0)
      ∧ r.2.mem ((c.tc : Thread Cert.ReferenceResIdeal.nD Cert.ReferenceResIdeal.τ).loc Cert.ReferenceResIdeal.main_arg1) = m ((c.tc : Thread Cert.ReferenceResIdeal.nD Cert.ReferenceResIdeal.τ).loc Cert.ReferenceResIdeal.main_arg1)
      ∧ r.2.mem ((c.tc : Thread Cert.ReferenceResIdeal.nD Cert.ReferenceResIdeal.τ).loc Cert.ReferenceResIdeal.main_arg2) = m ((c.tc : Thread Cert.ReferenceResIdeal.nD Cert.ReferenceResIdeal.τ).loc Cert.ReferenceResIdeal.main_arg2)
      ∧ r.2.mem ((c.tc : Thread Cert.ReferenceResIdeal.nD Cert.ReferenceResIdeal.τ).loc Cert.ReferenceResIdeal.main_arg3) = m ((c.tc : Thread Cert.ReferenceResIdeal.nD Cert.ReferenceResIdeal.τ).loc Cert.ReferenceResIdeal.main_arg3))
      ∧ r.2.sem = fun _ => 0)

def quiescent_KernelConv [hKernelConv : Cert.KernelConv.Facts] : Prop :=
  ∀ (m : (ℓ : Loc Cert.KernelConv.nD Cert.KernelConv.τ Cert.KernelConv.sig) → Buf (Elt Bits) ℓ) (g : Dev Cert.KernelConv.nD → PrngReg), Pre_KernelConv m →
    θ_run (Cert.KernelConv.defs (F := Bits)) (onTc (τ := Cert.KernelConv.τ) (Cert.KernelConv.main (F := Bits))) ⟨m, fun _ => 0, g⟩ (fun r => (∀ c : Dev Cert.KernelConv.nD,
      r.2.mem ((c.tc : Thread Cert.KernelConv.nD Cert.KernelConv.τ).loc Cert.KernelConv.main_arg0) = m ((c.tc : Thread Cert.KernelConv.nD Cert.KernelConv.τ).loc Cert.KernelConv.main_arg0)
      ∧ r.2.mem ((c.tc : Thread Cert.KernelConv.nD Cert.KernelConv.τ).loc Cert.KernelConv.main_arg1) = m ((c.tc : Thread Cert.KernelConv.nD Cert.KernelConv.τ).loc Cert.KernelConv.main_arg1)
      ∧ r.2.mem ((c.tc : Thread Cert.KernelConv.nD Cert.KernelConv.τ).loc Cert.KernelConv.main_arg2) = m ((c.tc : Thread Cert.KernelConv.nD Cert.KernelConv.τ).loc Cert.KernelConv.main_arg2)
      ∧ r.2.mem ((c.tc : Thread Cert.KernelConv.nD Cert.KernelConv.τ).loc Cert.KernelConv.main_arg3) = m ((c.tc : Thread Cert.KernelConv.nD Cert.KernelConv.τ).loc Cert.KernelConv.main_arg3)
      ∧ r.2.mem ((c.tc : Thread Cert.KernelConv.nD Cert.KernelConv.τ).loc Cert.KernelConv.main_arg4) = m ((c.tc : Thread Cert.KernelConv.nD Cert.KernelConv.τ).loc Cert.KernelConv.main_arg4)
      ∧ r.2.mem ((c.tc : Thread Cert.KernelConv.nD Cert.KernelConv.τ).loc Cert.KernelConv.main_arg5) = m ((c.tc : Thread Cert.KernelConv.nD Cert.KernelConv.τ).loc Cert.KernelConv.main_arg5))
      ∧ r.2.sem = fun _ => 0)

def quiescent_KernelConvIdeal [hKernelConvIdeal : Cert.KernelConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg), Pre_KernelConvIdeal m →
    θ_run (Cert.KernelConvIdeal.defs (F := Ideal)) (onTc (τ := Cert.KernelConvIdeal.τ) (Cert.KernelConvIdeal.main (F := Ideal))) ⟨m, fun _ => 0, g⟩ (fun r => (∀ c : Dev Cert.KernelConvIdeal.nD,
      r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
      ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
      ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2)
      ∧ r.2.mem ((c.tc : Thread Cert.KernelConvIdeal.nD Cert.KernelConvIdeal.τ).loc Cert.KernelConvIdeal.main_arg3) = m ((c.tc : Thread Cert.KernelConvIdeal.nD Cert.KernelConvIdeal.τ).loc Cert.KernelConvIdeal.main_arg3)
      ∧ r.2.mem ((c.tc : Thread Cert.KernelConvIdeal.nD Cert.KernelConvIdeal.τ).loc Cert.KernelConvIdeal.main_arg4) = m ((c.tc : Thread Cert.KernelConvIdeal.nD Cert.KernelConvIdeal.τ).loc Cert.KernelConvIdeal.main_arg4)
      ∧ r.2.mem ((c.tc : Thread Cert.KernelConvIdeal.nD Cert.KernelConvIdeal.τ).loc Cert.KernelConvIdeal.main_arg5) = m ((c.tc : Thread Cert.KernelConvIdeal.nD Cert.KernelConvIdeal.τ).loc Cert.KernelConvIdeal.main_arg5))
      ∧ r.2.sem = fun _ => 0)

def quiescent_ReferenceConvIdeal [hReferenceConvIdeal : Cert.ReferenceConvIdeal.Facts] : Prop :=
  ∀ (m : (ℓ : Loc Cert.ReferenceConvIdeal.nD Cert.ReferenceConvIdeal.τ Cert.ReferenceConvIdeal.sig) → Buf (Elt Ideal) ℓ) (g : Dev Cert.ReferenceConvIdeal.nD → PrngReg), Pre_ReferenceConvIdeal m →
    θ_run (Cert.ReferenceConvIdeal.defs (F := Ideal)) (onTc (τ := Cert.ReferenceConvIdeal.τ) (Cert.ReferenceConvIdeal.main (F := Ideal))) ⟨m, fun _ => 0, g⟩ (fun r => (∀ c : Dev Cert.ReferenceConvIdeal.nD,
      r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1)
      ∧ r.2.mem ((c.tc : Thread Cert.ReferenceConvIdeal.nD Cert.ReferenceConvIdeal.τ).loc Cert.ReferenceConvIdeal.main_arg2) = m ((c.tc : Thread Cert.ReferenceConvIdeal.nD Cert.ReferenceConvIdeal.τ).loc Cert.ReferenceConvIdeal.main_arg2)
      ∧ r.2.mem ((c.tc : Thread Cert.ReferenceConvIdeal.nD Cert.ReferenceConvIdeal.τ).loc Cert.ReferenceConvIdeal.main_arg3) = m ((c.tc : Thread Cert.ReferenceConvIdeal.nD Cert.ReferenceConvIdeal.τ).loc Cert.ReferenceConvIdeal.main_arg3)
      ∧ r.2.mem ((c.tc : Thread Cert.ReferenceConvIdeal.nD Cert.ReferenceConvIdeal.τ).loc Cert.ReferenceConvIdeal.main_arg4) = m ((c.tc : Thread Cert.ReferenceConvIdeal.nD Cert.ReferenceConvIdeal.τ).loc Cert.ReferenceConvIdeal.main_arg4)
      ∧ r.2.mem ((c.tc : Thread Cert.ReferenceConvIdeal.nD Cert.ReferenceConvIdeal.τ).loc Cert.ReferenceConvIdeal.main_arg5) = m ((c.tc : Thread Cert.ReferenceConvIdeal.nD Cert.ReferenceConvIdeal.τ).loc Cert.ReferenceConvIdeal.main_arg5))
      ∧ r.2.sem = fun _ => 0)

def quiescent_KernelQkv [hKernelQkv : Cert.KernelQkv.Facts] : Prop :=
  ∀ (m : (ℓ : Loc Cert.KernelQkv.nD Cert.KernelQkv.τ Cert.KernelQkv.sig) → Buf (Elt Bits) ℓ) (g : Dev Cert.KernelQkv.nD → PrngReg), Pre_KernelQkv m →
    θ_run (Cert.KernelQkv.defs (F := Bits)) (onTc (τ := Cert.KernelQkv.τ) (Cert.KernelQkv.main (F := Bits))) ⟨m, fun _ => 0, g⟩ (fun r => (∀ c : Dev Cert.KernelQkv.nD,
      r.2.mem ((c.tc : Thread Cert.KernelQkv.nD Cert.KernelQkv.τ).loc Cert.KernelQkv.main_arg0) = m ((c.tc : Thread Cert.KernelQkv.nD Cert.KernelQkv.τ).loc Cert.KernelQkv.main_arg0)
      ∧ r.2.mem ((c.tc : Thread Cert.KernelQkv.nD Cert.KernelQkv.τ).loc Cert.KernelQkv.main_arg1) = m ((c.tc : Thread Cert.KernelQkv.nD Cert.KernelQkv.τ).loc Cert.KernelQkv.main_arg1)
      ∧ r.2.mem ((c.tc : Thread Cert.KernelQkv.nD Cert.KernelQkv.τ).loc Cert.KernelQkv.main_arg2) = m ((c.tc : Thread Cert.KernelQkv.nD Cert.KernelQkv.τ).loc Cert.KernelQkv.main_arg2)
      ∧ r.2.mem ((c.tc : Thread Cert.KernelQkv.nD Cert.KernelQkv.τ).loc Cert.KernelQkv.main_arg3) = m ((c.tc : Thread Cert.KernelQkv.nD Cert.KernelQkv.τ).loc Cert.KernelQkv.main_arg3))
      ∧ r.2.sem = fun _ => 0)

def quiescent_KernelQkvIdeal [hKernelQkvIdeal : Cert.KernelQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg), Pre_KernelQkvIdeal m →
    θ_run (Cert.KernelQkvIdeal.defs (F := Ideal)) (onTc (τ := Cert.KernelQkvIdeal.τ) (Cert.KernelQkvIdeal.main (F := Ideal))) ⟨m, fun _ => 0, g⟩ (fun r => (∀ c : Dev Cert.KernelQkvIdeal.nD,
      r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
      ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
      ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2)
      ∧ r.2.mem ((c.tc : Thread Cert.KernelQkvIdeal.nD Cert.KernelQkvIdeal.τ).loc Cert.KernelQkvIdeal.main_arg3) = m ((c.tc : Thread Cert.KernelQkvIdeal.nD Cert.KernelQkvIdeal.τ).loc Cert.KernelQkvIdeal.main_arg3))
      ∧ r.2.sem = fun _ => 0)

def quiescent_ReferenceQkvIdeal [hReferenceQkvIdeal : Cert.ReferenceQkvIdeal.Facts] : Prop :=
  ∀ (m : (ℓ : Loc Cert.ReferenceQkvIdeal.nD Cert.ReferenceQkvIdeal.τ Cert.ReferenceQkvIdeal.sig) → Buf (Elt Ideal) ℓ) (g : Dev Cert.ReferenceQkvIdeal.nD → PrngReg), Pre_ReferenceQkvIdeal m →
    θ_run (Cert.ReferenceQkvIdeal.defs (F := Ideal)) (onTc (τ := Cert.ReferenceQkvIdeal.τ) (Cert.ReferenceQkvIdeal.main (F := Ideal))) ⟨m, fun _ => 0, g⟩ (fun r => (∀ c : Dev Cert.ReferenceQkvIdeal.nD,
      r.2.mem ((c.tc : Thread Cert.ReferenceQkvIdeal.nD Cert.ReferenceQkvIdeal.τ).loc Cert.ReferenceQkvIdeal.main_arg0) = m ((c.tc : Thread Cert.ReferenceQkvIdeal.nD Cert.ReferenceQkvIdeal.τ).loc Cert.ReferenceQkvIdeal.main_arg0)
      ∧ r.2.mem ((c.tc : Thread Cert.ReferenceQkvIdeal.nD Cert.ReferenceQkvIdeal.τ).loc Cert.ReferenceQkvIdeal.main_arg1) = m ((c.tc : Thread Cert.ReferenceQkvIdeal.nD Cert.ReferenceQkvIdeal.τ).loc Cert.ReferenceQkvIdeal.main_arg1)
      ∧ r.2.mem ((c.tc : Thread Cert.ReferenceQkvIdeal.nD Cert.ReferenceQkvIdeal.τ).loc Cert.ReferenceQkvIdeal.main_arg2) = m ((c.tc : Thread Cert.ReferenceQkvIdeal.nD Cert.ReferenceQkvIdeal.τ).loc Cert.ReferenceQkvIdeal.main_arg2)
      ∧ r.2.mem ((c.tc : Thread Cert.ReferenceQkvIdeal.nD Cert.ReferenceQkvIdeal.τ).loc Cert.ReferenceQkvIdeal.main_arg3) = m ((c.tc : Thread Cert.ReferenceQkvIdeal.nD Cert.ReferenceQkvIdeal.τ).loc Cert.ReferenceQkvIdeal.main_arg3))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal_pre_finite_q_k_sink [hKernelIdeal : Cert.KernelIdeal.Facts] [hReferenceIdeal : Cert.ReferenceIdeal.Facts] [hPre_finite_q_k_sink : Cert.Pre_finite_q_k_sink.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_q_k_sink m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KernelCtx_KernelCtxIdeal : Prop :=
  IdealRules.named_const.Statement Cert.KernelCtxIdeal.κ "q_scale" .f32 0x3E38AA3B#32 (((1 / 8) * (Real.log 2)⁻¹ : ℝ) : EReal)
  ∧ IdealRules.named_const.Statement Cert.KernelCtxIdeal.κ "log2e" .f32 0x3FB8AA3B#32 (((Real.log 2)⁻¹ : ℝ) : EReal)

def algebraic_KernelCtxIdeal_ReferenceCtxIdeal_pre_finite_ctx_q_k_sink [hKernelCtxIdeal : Cert.KernelCtxIdeal.Facts] [hReferenceCtxIdeal : Cert.ReferenceCtxIdeal.Facts] [hPre_finite_ctx_q_k_sink : Cert.Pre_finite_ctx_q_k_sink.Facts] : Prop :=
  ∀ (m : (ℓ : Loc Cert.KernelCtxIdeal.nD Cert.KernelCtxIdeal.τ Cert.KernelCtxIdeal.sig) → Buf (Elt Ideal) ℓ) (g : Dev Cert.KernelCtxIdeal.nD → PrngReg)
    (m' : (ℓ : Loc Cert.ReferenceCtxIdeal.nD Cert.ReferenceCtxIdeal.τ Cert.ReferenceCtxIdeal.sig) → Buf (Elt Ideal) ℓ) (g' : Dev Cert.ReferenceCtxIdeal.nD → PrngReg), Pre_KernelCtxIdeal_finite_ctx_q_k_sink m →
    (∀ c : Dev Cert.KernelCtxIdeal.nD,
      m' ((c.tc : Thread Cert.ReferenceCtxIdeal.nD Cert.ReferenceCtxIdeal.τ).loc Cert.ReferenceCtxIdeal.main_arg0) = m ((c.tc : Thread Cert.KernelCtxIdeal.nD Cert.KernelCtxIdeal.τ).loc Cert.KernelCtxIdeal.main_arg0)
      ∧ m' ((c.tc : Thread Cert.ReferenceCtxIdeal.nD Cert.ReferenceCtxIdeal.τ).loc Cert.ReferenceCtxIdeal.main_arg1) = m ((c.tc : Thread Cert.KernelCtxIdeal.nD Cert.KernelCtxIdeal.τ).loc Cert.KernelCtxIdeal.main_arg1)) →
    ∃ (v0 : (c : Dev Cert.KernelCtxIdeal.nD) → Buf (Elt Ideal) ((c.tc : Thread Cert.KernelCtxIdeal.nD Cert.KernelCtxIdeal.τ).loc Cert.KernelCtxIdeal.main_v0)),
      θ_run (Cert.KernelCtxIdeal.defs (F := Ideal)) (onTc (τ := Cert.KernelCtxIdeal.τ) (Cert.KernelCtxIdeal.main (F := Ideal))) ⟨m, fun _ => 0, g⟩ (fun r => ∀ c : Dev Cert.KernelCtxIdeal.nD,
          r.2.mem ((c.tc : Thread Cert.KernelCtxIdeal.nD Cert.KernelCtxIdeal.τ).loc Cert.KernelCtxIdeal.main_v0) = v0 c
          ∧ r.2.mem ((c.tc : Thread Cert.KernelCtxIdeal.nD Cert.KernelCtxIdeal.τ).loc Cert.KernelCtxIdeal.main_arg0) = m ((c.tc : Thread Cert.KernelCtxIdeal.nD Cert.KernelCtxIdeal.τ).loc Cert.KernelCtxIdeal.main_arg0)
          ∧ r.2.mem ((c.tc : Thread Cert.KernelCtxIdeal.nD Cert.KernelCtxIdeal.τ).loc Cert.KernelCtxIdeal.main_arg1) = m ((c.tc : Thread Cert.KernelCtxIdeal.nD Cert.KernelCtxIdeal.τ).loc Cert.KernelCtxIdeal.main_arg1))
      ∧ θ_run (Cert.ReferenceCtxIdeal.defs (F := Ideal)) (onTc (τ := Cert.ReferenceCtxIdeal.τ) (Cert.ReferenceCtxIdeal.main (F := Ideal))) ⟨m', fun _ => 0, g'⟩ (fun r => ∀ c : Dev Cert.ReferenceCtxIdeal.nD,
          r.2.mem ((c.tc : Thread Cert.ReferenceCtxIdeal.nD Cert.ReferenceCtxIdeal.τ).loc Cert.ReferenceCtxIdeal.main_v31) = v0 c
          ∧ r.2.mem ((c.tc : Thread Cert.ReferenceCtxIdeal.nD Cert.ReferenceCtxIdeal.τ).loc Cert.ReferenceCtxIdeal.main_arg0) = m' ((c.tc : Thread Cert.ReferenceCtxIdeal.nD Cert.ReferenceCtxIdeal.τ).loc Cert.ReferenceCtxIdeal.main_arg0)
          ∧ r.2.mem ((c.tc : Thread Cert.ReferenceCtxIdeal.nD Cert.ReferenceCtxIdeal.τ).loc Cert.ReferenceCtxIdeal.main_arg1) = m' ((c.tc : Thread Cert.ReferenceCtxIdeal.nD Cert.ReferenceCtxIdeal.τ).loc Cert.ReferenceCtxIdeal.main_arg1))

def preserves_KernelRes_KernelResIdeal : Prop :=
  True

def algebraic_KernelResIdeal_ReferenceResIdeal [hKernelResIdeal : Cert.KernelResIdeal.Facts] [hReferenceResIdeal : Cert.ReferenceResIdeal.Facts] : Prop :=
  ∀ (m : (ℓ : Loc Cert.KernelResIdeal.nD Cert.KernelResIdeal.τ Cert.KernelResIdeal.sig) → Buf (Elt Ideal) ℓ) (g : Dev Cert.KernelResIdeal.nD → PrngReg)
    (m' : (ℓ : Loc Cert.ReferenceResIdeal.nD Cert.ReferenceResIdeal.τ Cert.ReferenceResIdeal.sig) → Buf (Elt Ideal) ℓ) (g' : Dev Cert.ReferenceResIdeal.nD → PrngReg), Pre_KernelResIdeal m →
    (∀ c : Dev Cert.KernelResIdeal.nD,
      m' ((c.tc : Thread Cert.ReferenceResIdeal.nD Cert.ReferenceResIdeal.τ).loc Cert.ReferenceResIdeal.main_arg0) = m ((c.tc : Thread Cert.KernelResIdeal.nD Cert.KernelResIdeal.τ).loc Cert.KernelResIdeal.main_arg0)
      ∧ m' ((c.tc : Thread Cert.ReferenceResIdeal.nD Cert.ReferenceResIdeal.τ).loc Cert.ReferenceResIdeal.main_arg1) = m ((c.tc : Thread Cert.KernelResIdeal.nD Cert.KernelResIdeal.τ).loc Cert.KernelResIdeal.main_arg1)
      ∧ m' ((c.tc : Thread Cert.ReferenceResIdeal.nD Cert.ReferenceResIdeal.τ).loc Cert.ReferenceResIdeal.main_arg2) = m ((c.tc : Thread Cert.KernelResIdeal.nD Cert.KernelResIdeal.τ).loc Cert.KernelResIdeal.main_arg2)
      ∧ m' ((c.tc : Thread Cert.ReferenceResIdeal.nD Cert.ReferenceResIdeal.τ).loc Cert.ReferenceResIdeal.main_arg3) = m ((c.tc : Thread Cert.KernelResIdeal.nD Cert.KernelResIdeal.τ).loc Cert.KernelResIdeal.main_arg3)) →
    ∃ (v0 : (c : Dev Cert.KernelResIdeal.nD) → Buf (Elt Ideal) ((c.tc : Thread Cert.KernelResIdeal.nD Cert.KernelResIdeal.τ).loc Cert.KernelResIdeal.main_v0)),
      θ_run (Cert.KernelResIdeal.defs (F := Ideal)) (onTc (τ := Cert.KernelResIdeal.τ) (Cert.KernelResIdeal.main (F := Ideal))) ⟨m, fun _ => 0, g⟩ (fun r => ∀ c : Dev Cert.KernelResIdeal.nD,
          r.2.mem ((c.tc : Thread Cert.KernelResIdeal.nD Cert.KernelResIdeal.τ).loc Cert.KernelResIdeal.main_v0) = v0 c
          ∧ r.2.mem ((c.tc : Thread Cert.KernelResIdeal.nD Cert.KernelResIdeal.τ).loc Cert.KernelResIdeal.main_arg0) = m ((c.tc : Thread Cert.KernelResIdeal.nD Cert.KernelResIdeal.τ).loc Cert.KernelResIdeal.main_arg0)
          ∧ r.2.mem ((c.tc : Thread Cert.KernelResIdeal.nD Cert.KernelResIdeal.τ).loc Cert.KernelResIdeal.main_arg1) = m ((c.tc : Thread Cert.KernelResIdeal.nD Cert.KernelResIdeal.τ).loc Cert.KernelResIdeal.main_arg1)
          ∧ r.2.mem ((c.tc : Thread Cert.KernelResIdeal.nD Cert.KernelResIdeal.τ).loc Cert.KernelResIdeal.main_arg2) = m ((c.tc : Thread Cert.KernelResIdeal.nD Cert.KernelResIdeal.τ).loc Cert.KernelResIdeal.main_arg2)
          ∧ r.2.mem ((c.tc : Thread Cert.KernelResIdeal.nD Cert.KernelResIdeal.τ).loc Cert.KernelResIdeal.main_arg3) = m ((c.tc : Thread Cert.KernelResIdeal.nD Cert.KernelResIdeal.τ).loc Cert.KernelResIdeal.main_arg3))
      ∧ θ_run (Cert.ReferenceResIdeal.defs (F := Ideal)) (onTc (τ := Cert.ReferenceResIdeal.τ) (Cert.ReferenceResIdeal.main (F := Ideal))) ⟨m', fun _ => 0, g'⟩ (fun r => ∀ c : Dev Cert.ReferenceResIdeal.nD,
          r.2.mem ((c.tc : Thread Cert.ReferenceResIdeal.nD Cert.ReferenceResIdeal.τ).loc Cert.ReferenceResIdeal.main_v8) = v0 c
          ∧ r.2.mem ((c.tc : Thread Cert.ReferenceResIdeal.nD Cert.ReferenceResIdeal.τ).loc Cert.ReferenceResIdeal.main_arg0) = m' ((c.tc : Thread Cert.ReferenceResIdeal.nD Cert.ReferenceResIdeal.τ).loc Cert.ReferenceResIdeal.main_arg0)
          ∧ r.2.mem ((c.tc : Thread Cert.ReferenceResIdeal.nD Cert.ReferenceResIdeal.τ).loc Cert.ReferenceResIdeal.main_arg1) = m' ((c.tc : Thread Cert.ReferenceResIdeal.nD Cert.ReferenceResIdeal.τ).loc Cert.ReferenceResIdeal.main_arg1)
          ∧ r.2.mem ((c.tc : Thread Cert.ReferenceResIdeal.nD Cert.ReferenceResIdeal.τ).loc Cert.ReferenceResIdeal.main_arg2) = m' ((c.tc : Thread Cert.ReferenceResIdeal.nD Cert.ReferenceResIdeal.τ).loc Cert.ReferenceResIdeal.main_arg2)
          ∧ r.2.mem ((c.tc : Thread Cert.ReferenceResIdeal.nD Cert.ReferenceResIdeal.τ).loc Cert.ReferenceResIdeal.main_arg3) = m' ((c.tc : Thread Cert.ReferenceResIdeal.nD Cert.ReferenceResIdeal.τ).loc Cert.ReferenceResIdeal.main_arg3))

def preserves_KernelConv_KernelConvIdeal : Prop :=
  True

def algebraic_KernelConvIdeal_ReferenceConvIdeal [hKernelConvIdeal : Cert.KernelConvIdeal.Facts] [hReferenceConvIdeal : Cert.ReferenceConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg)
    (m' : (ℓ : Loc Cert.ReferenceConvIdeal.nD Cert.ReferenceConvIdeal.τ Cert.ReferenceConvIdeal.sig) → Buf (Elt Ideal) ℓ) (g' : Dev Cert.ReferenceConvIdeal.nD → PrngReg), Pre_KernelConvIdeal m →
    (∀ c : Dev Cert.KernelConvIdeal.nD,
      m' ((c.tc : Thread Cert.ReferenceConvIdeal.nD Cert.ReferenceConvIdeal.τ).loc Cert.ReferenceConvIdeal.main_arg0) = m ((c.tc : Thread Cert.KernelConvIdeal.nD Cert.KernelConvIdeal.τ).loc Cert.KernelConvIdeal.main_arg0)
      ∧ m' ((c.tc : Thread Cert.ReferenceConvIdeal.nD Cert.ReferenceConvIdeal.τ).loc Cert.ReferenceConvIdeal.main_arg1) = m ((c.tc : Thread Cert.KernelConvIdeal.nD Cert.KernelConvIdeal.τ).loc Cert.KernelConvIdeal.main_arg1)
      ∧ m' ((c.tc : Thread Cert.ReferenceConvIdeal.nD Cert.ReferenceConvIdeal.τ).loc Cert.ReferenceConvIdeal.main_arg2) = m ((c.tc : Thread Cert.KernelConvIdeal.nD Cert.KernelConvIdeal.τ).loc Cert.KernelConvIdeal.main_arg2)
      ∧ m' ((c.tc : Thread Cert.ReferenceConvIdeal.nD Cert.ReferenceConvIdeal.τ).loc Cert.ReferenceConvIdeal.main_arg3) = m ((c.tc : Thread Cert.KernelConvIdeal.nD Cert.KernelConvIdeal.τ).loc Cert.KernelConvIdeal.main_arg3)
      ∧ m' ((c.tc : Thread Cert.ReferenceConvIdeal.nD Cert.ReferenceConvIdeal.τ).loc Cert.ReferenceConvIdeal.main_arg4) = m ((c.tc : Thread Cert.KernelConvIdeal.nD Cert.KernelConvIdeal.τ).loc Cert.KernelConvIdeal.main_arg4)
      ∧ m' ((c.tc : Thread Cert.ReferenceConvIdeal.nD Cert.ReferenceConvIdeal.τ).loc Cert.ReferenceConvIdeal.main_arg5) = m ((c.tc : Thread Cert.KernelConvIdeal.nD Cert.KernelConvIdeal.τ).loc Cert.KernelConvIdeal.main_arg5)) →
    ∃ (v0 : (c : Dev Cert.KernelConvIdeal.nD) → Buf (Elt Ideal) ((c.tc : Thread Cert.KernelConvIdeal.nD Cert.KernelConvIdeal.τ).loc Cert.KernelConvIdeal.main_v1)),
      θ_run (Cert.KernelConvIdeal.defs (F := Ideal)) (onTc (τ := Cert.KernelConvIdeal.τ) (Cert.KernelConvIdeal.main (F := Ideal))) ⟨m, fun _ => 0, g⟩ (fun r => ∀ c : Dev Cert.KernelConvIdeal.nD,
          r.2.mem ((c.tc : Thread Cert.KernelConvIdeal.nD Cert.KernelConvIdeal.τ).loc Cert.KernelConvIdeal.main_v1) = v0 c
          ∧ r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
          ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
          ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2)
          ∧ r.2.mem ((c.tc : Thread Cert.KernelConvIdeal.nD Cert.KernelConvIdeal.τ).loc Cert.KernelConvIdeal.main_arg3) = m ((c.tc : Thread Cert.KernelConvIdeal.nD Cert.KernelConvIdeal.τ).loc Cert.KernelConvIdeal.main_arg3)
          ∧ r.2.mem ((c.tc : Thread Cert.KernelConvIdeal.nD Cert.KernelConvIdeal.τ).loc Cert.KernelConvIdeal.main_arg4) = m ((c.tc : Thread Cert.KernelConvIdeal.nD Cert.KernelConvIdeal.τ).loc Cert.KernelConvIdeal.main_arg4)
          ∧ r.2.mem ((c.tc : Thread Cert.KernelConvIdeal.nD Cert.KernelConvIdeal.τ).loc Cert.KernelConvIdeal.main_arg5) = m ((c.tc : Thread Cert.KernelConvIdeal.nD Cert.KernelConvIdeal.τ).loc Cert.KernelConvIdeal.main_arg5))
      ∧ θ_run (Cert.ReferenceConvIdeal.defs (F := Ideal)) (onTc (τ := Cert.ReferenceConvIdeal.τ) (Cert.ReferenceConvIdeal.main (F := Ideal))) ⟨m', fun _ => 0, g'⟩ (fun r => ∀ c : Dev Cert.ReferenceConvIdeal.nD,
          r.2.mem ((c.tc : Thread Cert.ReferenceConvIdeal.nD Cert.ReferenceConvIdeal.τ).loc Cert.ReferenceConvIdeal.main_v44) = v0 c
          ∧ r.2.mem ((c.tc : Thread Cert.ReferenceConvIdeal.nD Cert.ReferenceConvIdeal.τ).loc Cert.ReferenceConvIdeal.main_arg0) = m' ((c.tc : Thread Cert.ReferenceConvIdeal.nD Cert.ReferenceConvIdeal.τ).loc Cert.ReferenceConvIdeal.main_arg0)
          ∧ r.2.mem ((c.tc : Thread Cert.ReferenceConvIdeal.nD Cert.ReferenceConvIdeal.τ).loc Cert.ReferenceConvIdeal.main_arg1) = m' ((c.tc : Thread Cert.ReferenceConvIdeal.nD Cert.ReferenceConvIdeal.τ).loc Cert.ReferenceConvIdeal.main_arg1)
          ∧ r.2.mem ((c.tc : Thread Cert.ReferenceConvIdeal.nD Cert.ReferenceConvIdeal.τ).loc Cert.ReferenceConvIdeal.main_arg2) = m' ((c.tc : Thread Cert.ReferenceConvIdeal.nD Cert.ReferenceConvIdeal.τ).loc Cert.ReferenceConvIdeal.main_arg2)
          ∧ r.2.mem ((c.tc : Thread Cert.ReferenceConvIdeal.nD Cert.ReferenceConvIdeal.τ).loc Cert.ReferenceConvIdeal.main_arg3) = m' ((c.tc : Thread Cert.ReferenceConvIdeal.nD Cert.ReferenceConvIdeal.τ).loc Cert.ReferenceConvIdeal.main_arg3)
          ∧ r.2.mem ((c.tc : Thread Cert.ReferenceConvIdeal.nD Cert.ReferenceConvIdeal.τ).loc Cert.ReferenceConvIdeal.main_arg4) = m' ((c.tc : Thread Cert.ReferenceConvIdeal.nD Cert.ReferenceConvIdeal.τ).loc Cert.ReferenceConvIdeal.main_arg4)
          ∧ r.2.mem ((c.tc : Thread Cert.ReferenceConvIdeal.nD Cert.ReferenceConvIdeal.τ).loc Cert.ReferenceConvIdeal.main_arg5) = m' ((c.tc : Thread Cert.ReferenceConvIdeal.nD Cert.ReferenceConvIdeal.τ).loc Cert.ReferenceConvIdeal.main_arg5))

def preserves_KernelQkv_KernelQkvIdeal : Prop :=
  IdealRules.named_const.Statement Cert.KernelQkvIdeal.κ "q_scale" .f32 0x3E38AA3B#32 (((1 / 8) * (Real.log 2)⁻¹ : ℝ) : EReal)

def algebraic_KernelQkvIdeal_ReferenceQkvIdeal [hKernelQkvIdeal : Cert.KernelQkvIdeal.Facts] [hReferenceQkvIdeal : Cert.ReferenceQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg)
    (m' : (ℓ : Loc Cert.ReferenceQkvIdeal.nD Cert.ReferenceQkvIdeal.τ Cert.ReferenceQkvIdeal.sig) → Buf (Elt Ideal) ℓ) (g' : Dev Cert.ReferenceQkvIdeal.nD → PrngReg), Pre_KernelQkvIdeal m →
    (∀ c : Dev Cert.KernelQkvIdeal.nD,
      m' ((c.tc : Thread Cert.ReferenceQkvIdeal.nD Cert.ReferenceQkvIdeal.τ).loc Cert.ReferenceQkvIdeal.main_arg0) = m ((c.tc : Thread Cert.KernelQkvIdeal.nD Cert.KernelQkvIdeal.τ).loc Cert.KernelQkvIdeal.main_arg0)
      ∧ m' ((c.tc : Thread Cert.ReferenceQkvIdeal.nD Cert.ReferenceQkvIdeal.τ).loc Cert.ReferenceQkvIdeal.main_arg1) = m ((c.tc : Thread Cert.KernelQkvIdeal.nD Cert.KernelQkvIdeal.τ).loc Cert.KernelQkvIdeal.main_arg1)
      ∧ m' ((c.tc : Thread Cert.ReferenceQkvIdeal.nD Cert.ReferenceQkvIdeal.τ).loc Cert.ReferenceQkvIdeal.main_arg2) = m ((c.tc : Thread Cert.KernelQkvIdeal.nD Cert.KernelQkvIdeal.τ).loc Cert.KernelQkvIdeal.main_arg2)
      ∧ m' ((c.tc : Thread Cert.ReferenceQkvIdeal.nD Cert.ReferenceQkvIdeal.τ).loc Cert.ReferenceQkvIdeal.main_arg3) = m ((c.tc : Thread Cert.KernelQkvIdeal.nD Cert.KernelQkvIdeal.τ).loc Cert.KernelQkvIdeal.main_arg3)) →
    ∃ (v0 : (c : Dev Cert.KernelQkvIdeal.nD) → Buf (Elt Ideal) ((c.tc : Thread Cert.KernelQkvIdeal.nD Cert.KernelQkvIdeal.τ).loc Cert.KernelQkvIdeal.main_v46)),
      θ_run (Cert.KernelQkvIdeal.defs (F := Ideal)) (onTc (τ := Cert.KernelQkvIdeal.τ) (Cert.KernelQkvIdeal.main (F := Ideal))) ⟨m, fun _ => 0, g⟩ (fun r => ∀ c : Dev Cert.KernelQkvIdeal.nD,
          r.2.mem ((c.tc : Thread Cert.KernelQkvIdeal.nD Cert.KernelQkvIdeal.τ).loc Cert.KernelQkvIdeal.main_v46) = v0 c
          ∧ r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
          ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
          ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2)
          ∧ r.2.mem ((c.tc : Thread Cert.KernelQkvIdeal.nD Cert.KernelQkvIdeal.τ).loc Cert.KernelQkvIdeal.main_arg3) = m ((c.tc : Thread Cert.KernelQkvIdeal.nD Cert.KernelQkvIdeal.τ).loc Cert.KernelQkvIdeal.main_arg3))
      ∧ θ_run (Cert.ReferenceQkvIdeal.defs (F := Ideal)) (onTc (τ := Cert.ReferenceQkvIdeal.τ) (Cert.ReferenceQkvIdeal.main (F := Ideal))) ⟨m', fun _ => 0, g'⟩ (fun r => ∀ c : Dev Cert.ReferenceQkvIdeal.nD,
          r.2.mem ((c.tc : Thread Cert.ReferenceQkvIdeal.nD Cert.ReferenceQkvIdeal.τ).loc Cert.ReferenceQkvIdeal.main_v112) = v0 c
          ∧ r.2.mem ((c.tc : Thread Cert.ReferenceQkvIdeal.nD Cert.ReferenceQkvIdeal.τ).loc Cert.ReferenceQkvIdeal.main_arg0) = m' ((c.tc : Thread Cert.ReferenceQkvIdeal.nD Cert.ReferenceQkvIdeal.τ).loc Cert.ReferenceQkvIdeal.main_arg0)
          ∧ r.2.mem ((c.tc : Thread Cert.ReferenceQkvIdeal.nD Cert.ReferenceQkvIdeal.τ).loc Cert.ReferenceQkvIdeal.main_arg1) = m' ((c.tc : Thread Cert.ReferenceQkvIdeal.nD Cert.ReferenceQkvIdeal.τ).loc Cert.ReferenceQkvIdeal.main_arg1)
          ∧ r.2.mem ((c.tc : Thread Cert.ReferenceQkvIdeal.nD Cert.ReferenceQkvIdeal.τ).loc Cert.ReferenceQkvIdeal.main_arg2) = m' ((c.tc : Thread Cert.ReferenceQkvIdeal.nD Cert.ReferenceQkvIdeal.τ).loc Cert.ReferenceQkvIdeal.main_arg2)
          ∧ r.2.mem ((c.tc : Thread Cert.ReferenceQkvIdeal.nD Cert.ReferenceQkvIdeal.τ).loc Cert.ReferenceQkvIdeal.main_arg3) = m' ((c.tc : Thread Cert.ReferenceQkvIdeal.nD Cert.ReferenceQkvIdeal.τ).loc Cert.ReferenceQkvIdeal.main_arg3))

def Claim : Prop :=
  ∃ (hKernel : Cert.Kernel.Facts) (hKernelIdeal : Cert.KernelIdeal.Facts) (hReferenceIdeal : Cert.ReferenceIdeal.Facts) (hKernelCtx : Cert.KernelCtx.Facts) (hKernelCtxIdeal : Cert.KernelCtxIdeal.Facts) (hReferenceCtxIdeal : Cert.ReferenceCtxIdeal.Facts) (hKernelRes : Cert.KernelRes.Facts) (hKernelResIdeal : Cert.KernelResIdeal.Facts) (hReferenceResIdeal : Cert.ReferenceResIdeal.Facts) (hKernelConv : Cert.KernelConv.Facts) (hKernelConvIdeal : Cert.KernelConvIdeal.Facts) (hReferenceConvIdeal : Cert.ReferenceConvIdeal.Facts) (hKernelQkv : Cert.KernelQkv.Facts) (hKernelQkvIdeal : Cert.KernelQkvIdeal.Facts) (hReferenceQkvIdeal : Cert.ReferenceQkvIdeal.Facts) (hPre_finite_q_k_sink : Cert.Pre_finite_q_k_sink.Facts) (hPre_finite_ctx_q_k_sink : Cert.Pre_finite_ctx_q_k_sink.Facts),
    quiescent_Kernel (hKernel := hKernel)
    ∧ quiescent_KernelIdeal (hKernelIdeal := hKernelIdeal)
    ∧ quiescent_KernelIdeal_pre_finite_q_k_sink (hKernelIdeal := hKernelIdeal) (hPre_finite_q_k_sink := hPre_finite_q_k_sink)
    ∧ quiescent_ReferenceIdeal (hReferenceIdeal := hReferenceIdeal)
    ∧ quiescent_ReferenceIdeal_pre_finite_q_k_sink (hReferenceIdeal := hReferenceIdeal) (hPre_finite_q_k_sink := hPre_finite_q_k_sink)
    ∧ quiescent_KernelCtx (hKernelCtx := hKernelCtx)
    ∧ quiescent_KernelCtxIdeal (hKernelCtxIdeal := hKernelCtxIdeal)
    ∧ quiescent_KernelCtxIdeal_pre_finite_ctx_q_k_sink (hKernelCtxIdeal := hKernelCtxIdeal) (hPre_finite_ctx_q_k_sink := hPre_finite_ctx_q_k_sink)
    ∧ quiescent_ReferenceCtxIdeal (hReferenceCtxIdeal := hReferenceCtxIdeal)
    ∧ quiescent_ReferenceCtxIdeal_pre_finite_ctx_q_k_sink (hReferenceCtxIdeal := hReferenceCtxIdeal) (hPre_finite_ctx_q_k_sink := hPre_finite_ctx_q_k_sink)
    ∧ quiescent_KernelRes (hKernelRes := hKernelRes)
    ∧ quiescent_KernelResIdeal (hKernelResIdeal := hKernelResIdeal)
    ∧ quiescent_ReferenceResIdeal (hReferenceResIdeal := hReferenceResIdeal)
    ∧ quiescent_KernelConv (hKernelConv := hKernelConv)
    ∧ quiescent_KernelConvIdeal (hKernelConvIdeal := hKernelConvIdeal)
    ∧ quiescent_ReferenceConvIdeal (hReferenceConvIdeal := hReferenceConvIdeal)
    ∧ quiescent_KernelQkv (hKernelQkv := hKernelQkv)
    ∧ quiescent_KernelQkvIdeal (hKernelQkvIdeal := hKernelQkvIdeal)
    ∧ quiescent_ReferenceQkvIdeal (hReferenceQkvIdeal := hReferenceQkvIdeal)
    ∧ preserves_Kernel_KernelIdeal
    ∧ algebraic_KernelIdeal_ReferenceIdeal_pre_finite_q_k_sink (hKernelIdeal := hKernelIdeal) (hReferenceIdeal := hReferenceIdeal) (hPre_finite_q_k_sink := hPre_finite_q_k_sink)
    ∧ preserves_KernelCtx_KernelCtxIdeal
    ∧ algebraic_KernelCtxIdeal_ReferenceCtxIdeal_pre_finite_ctx_q_k_sink (hKernelCtxIdeal := hKernelCtxIdeal) (hReferenceCtxIdeal := hReferenceCtxIdeal) (hPre_finite_ctx_q_k_sink := hPre_finite_ctx_q_k_sink)
    ∧ preserves_KernelRes_KernelResIdeal
    ∧ algebraic_KernelResIdeal_ReferenceResIdeal (hKernelResIdeal := hKernelResIdeal) (hReferenceResIdeal := hReferenceResIdeal)
    ∧ preserves_KernelConv_KernelConvIdeal
    ∧ algebraic_KernelConvIdeal_ReferenceConvIdeal (hKernelConvIdeal := hKernelConvIdeal) (hReferenceConvIdeal := hReferenceConvIdeal)
    ∧ preserves_KernelQkv_KernelQkvIdeal
    ∧ algebraic_KernelQkvIdeal_ReferenceQkvIdeal (hKernelQkvIdeal := hKernelQkvIdeal) (hReferenceQkvIdeal := hReferenceQkvIdeal)
-- ==== Pre_finite_ctx_q_k_sink.lean ====
abbrev S2048x2560 : Shape := ⟨2, ![2048, 2560]⟩
abbrev S32 : Shape := ⟨1, ![32]⟩
abbrev S2048x2304 : Shape := ⟨2, ![2048, 2304]⟩
abbrev S_ : Shape := ⟨0, ![]⟩

class Facts : Prop where
  slices_S2048x2560_S2048x2304_0_0 : S2048x2560.Slices ![0, 0] S2048x2304
  bitsLt_bf16_f32 : FTy.bits .bf16 < FTy.bits .f32
  bcast_S_S2048x2304 : S_.BroadcastsInDim S2048x2304 (![] : Fin 0 → Fin S2048x2304.rank)
  bcast_S_S32 : S_.BroadcastsInDim S32 (![] : Fin 0 → Fin S32.rank)

variable [Facts]

def fn {F : FTy → Type} [FloatOps F] (main_arg0 : FVec F S2048x2560 .bf16) (main_arg1 : FVec F S32 .f32) : IVec S2048x2304 1 × IVec S32 1 :=
  let main_v0 : FVec F S2048x2304 .bf16 := (extractStridedSlice S2048x2304 ![0, 0] · slices_S2048x2560_S2048x2304_0_0) main_arg0
  let main_v1 : FVec F S2048x2304 .f32 := (extf .f32 · bitsLt_bf16_f32) main_v0
  let main_v2 : FVec F S2048x2304 .f32 := Host.absf main_v1
  let main_cst : FVec F S_ .f32 := constant S_ .f32 0x7F800000#32
  let main_v3 : FVec F S2048x2304 .f32 := broadcastInDim S2048x2304 ![] bcast_S_S2048x2304 main_cst
  let main_v4 : IVec S2048x2304 1 := cmpf .olt main_v2 main_v3
  let main_v5 : FVec F S32 .f32 := Host.absf main_arg1
  let main_cst_0 : FVec F S_ .f32 := constant S_ .f32 0x7F800000#32
  let main_v6 : FVec F S32 .f32 := broadcastInDim S32 ![] bcast_S_S32 main_cst_0
  let main_v7 : IVec S32 1 := cmpf .olt main_v5 main_v6
  (main_v4, main_v7)
-- ==== Pre_finite_q_k_sink.lean ====
abbrev S32768x2560 : Shape := ⟨2, ![32768, 2560]⟩
abbrev S2048x2560 : Shape := ⟨2, ![2048, 2560]⟩
abbrev S32 : Shape := ⟨1, ![32]⟩
abbrev S32768x2304 : Shape := ⟨2, ![32768, 2304]⟩
abbrev S_ : Shape := ⟨0, ![]⟩
abbrev S2048x256 : Shape := ⟨2, ![2048, 256]⟩

class Facts : Prop where
  slices_S32768x2560_S32768x2304_0_0 : S32768x2560.Slices ![0, 0] S32768x2304
  bitsLt_bf16_f32 : FTy.bits .bf16 < FTy.bits .f32
  bcast_S_S32768x2304 : S_.BroadcastsInDim S32768x2304 (![] : Fin 0 → Fin S32768x2304.rank)
  slices_S2048x2560_S2048x256_0_2048 : S2048x2560.Slices ![0, 2048] S2048x256
  bcast_S_S2048x256 : S_.BroadcastsInDim S2048x256 (![] : Fin 0 → Fin S2048x256.rank)
  bcast_S_S32 : S_.BroadcastsInDim S32 (![] : Fin 0 → Fin S32.rank)

variable [Facts]

def fn {F : FTy → Type} [FloatOps F] (main_arg0 : FVec F S32768x2560 .bf16) (main_arg1 : FVec F S2048x2560 .bf16) (main_arg2 : FVec F S32 .f32) : IVec S32768x2304 1 × IVec S2048x256 1 × IVec S32 1 :=
  let main_v0 : FVec F S32768x2304 .bf16 := (extractStridedSlice S32768x2304 ![0, 0] · slices_S32768x2560_S32768x2304_0_0) main_arg0
  let main_v1 : FVec F S32768x2304 .f32 := (extf .f32 · bitsLt_bf16_f32) main_v0
  let main_v2 : FVec F S32768x2304 .f32 := Host.absf main_v1
  let main_cst : FVec F S_ .f32 := constant S_ .f32 0x7F800000#32
  let main_v3 : FVec F S32768x2304 .f32 := broadcastInDim S32768x2304 ![] bcast_S_S32768x2304 main_cst
  let main_v4 : IVec S32768x2304 1 := cmpf .olt main_v2 main_v3
  let main_v5 : FVec F S2048x256 .bf16 := (extractStridedSlice S2048x256 ![0, 2048] · slices_S2048x2560_S2048x256_0_2048) main_arg1
  let main_v6 : FVec F S2048x256 .f32 := (extf .f32 · bitsLt_bf16_f32) main_v5
  let main_v7 : FVec F S2048x256 .f32 := Host.absf main_v6
  let main_cst_0 : FVec F S_ .f32 := constant S_ .f32 0x7F800000#32
  let main_v8 : FVec F S2048x256 .f32 := broadcastInDim S2048x256 ![] bcast_S_S2048x256 main_cst_0
  let main_v9 : IVec S2048x256 1 := cmpf .olt main_v7 main_v8
  let main_v10 : FVec F S32 .f32 := Host.absf main_arg2
  let main_cst_1 : FVec F S_ .f32 := constant S_ .f32 0x7F800000#32
  let main_v11 : FVec F S32 .f32 := broadcastInDim S32 ![] bcast_S_S32 main_cst_1
  let main_v12 : IVec S32 1 := cmpf .olt main_v10 main_v11
  (main_v4, main_v9, main_v12)
-- ==== Kernel.lean ====
abbrev S32768x2560 : Shape := ⟨2, ![32768, 2560]⟩
abbrev S2048x2560 : Shape := ⟨2, ![2048, 2560]⟩
abbrev S32 : Shape := ⟨1, ![32]⟩
abbrev S32768x2048 : Shape := ⟨2, ![32768, 2048]⟩
abbrev S128x2048 : Shape := ⟨2, ![128, 2048]⟩
abbrev S4096x256 : Shape := ⟨2, ![4096, 256]⟩
abbrev S256x256 : Shape := ⟨2, ![256, 256]⟩
abbrev S128x640 : Shape := ⟨2, ![128, 640]⟩
abbrev S384x256 : Shape := ⟨2, ![384, 256]⟩
abbrev S640x256 : Shape := ⟨2, ![640, 256]⟩
abbrev S640x64 : Shape := ⟨2, ![640, 64]⟩
abbrev S8x1x1 : Shape := ⟨3, ![8, 1, 1]⟩
abbrev S128x64 : Shape := ⟨2, ![128, 64]⟩
abbrev S1 : Shape := ⟨1, ![1]⟩
abbrev S1024x64 : Shape := ⟨2, ![1024, 64]⟩
abbrev S640x128 : Shape := ⟨2, ![640, 128]⟩
abbrev S1024x640 : Shape := ⟨2, ![1024, 640]⟩
abbrev S8x128x640 : Shape := ⟨3, ![8, 128, 640]⟩
abbrev S1x128x640 : Shape := ⟨3, ![1, 128, 640]⟩
abbrev S8x128 : Shape := ⟨2, ![8, 128]⟩
abbrev S8x128x1 : Shape := ⟨3, ![8, 128, 1]⟩
abbrev S1024x128 : Shape := ⟨2, ![1024, 128]⟩
abbrev S8x128x128 : Shape := ⟨3, ![8, 128, 128]⟩
abbrev S8x128x64 : Shape := ⟨3, ![8, 128, 64]⟩
abbrev S1x128x64 : Shape := ⟨3, ![1, 128, 64]⟩
abbrev S128x128 : Shape := ⟨2, ![128, 128]⟩

abbrev nBuf : Space → Nat
  | .hbm => 4
  | .vmem => 12
  | .smem => 1
  | _ => 0

abbrev bufTy : (tb : Table) → Fin (tcTables nBuf tb) → BufTy
  | .hbm, ⟨0, _⟩ => ⟨S32768x2560, .bf16⟩
  | .hbm, ⟨1, _⟩ => ⟨S2048x2560, .bf16⟩
  | .hbm, ⟨2, _⟩ => ⟨S32, .f32⟩
  | .hbm, ⟨3, _⟩ => ⟨S32768x2048, .bf16⟩
  | .local _ .vmem, ⟨0, _⟩ => ⟨S128x2048, .bf16⟩
  | .local _ .vmem, ⟨1, _⟩ => ⟨S128x2048, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S128x2048, .bf16⟩
  | .local _ .vmem, ⟨11, _⟩ => ⟨S128x2048, .bf16⟩
  | .local _ .smem, ⟨0, _⟩ => ⟨S32, .f32⟩
  | _, _ => ⟨S32768x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 32], ![false, false]⟩

def k0_mult1 (i : grid0.Coords) : BitVec 32 :=
  let c3712_i32 : BitVec 32 := 3712#32
  let c0_i32 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.subi v0 c128_i32_0
  let v2 : BitVec 32 := Scalar.maxsi c0_i32 v1
  let v3 : BitVec 32 := Scalar.minsi c3712_i32 v2
  v3
def k0_off1 (i : grid0.Coords) : Fin 2 → Nat :=
  let c3712_i32 : BitVec 32 := 3712#32
  let c0_i32 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.subi v0 c128_i32_0
  let v2 : BitVec 32 := Scalar.maxsi c0_i32 v1
  let v3 : BitVec 32 := Scalar.minsi c3712_i32 v2
  let v4 : BitVec 32 := v3
  let v21 : Index := Scalar.indexCast v4
  let c0 : Index := 0#32
  ![v21.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, c9_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, c9_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S32768x2560 : Shape := ⟨2, ![32768, 2560]⟩
abbrev S2048x2560 : Shape := ⟨2, ![2048, 2560]⟩
abbrev S32 : Shape := ⟨1, ![32]⟩
abbrev S8x4096x2560 : Shape := ⟨3, ![8, 4096, 2560]⟩
abbrev S8x4096x2048 : Shape := ⟨3, ![8, 4096, 2048]⟩
abbrev S8x4096x256 : Shape := ⟨3, ![8, 4096, 256]⟩
abbrev S8x4096x4x8x64 : Shape := ⟨5, ![8, 4096, 4, 8, 64]⟩
abbrev S8x4096x4x64 : Shape := ⟨4, ![8, 4096, 4, 64]⟩
abbrev S8x256x2560 : Shape := ⟨3, ![8, 256, 2560]⟩
abbrev S8x256x2048 : Shape := ⟨3, ![8, 256, 2048]⟩
abbrev S8x256x256 : Shape := ⟨3, ![8, 256, 256]⟩
abbrev S8x256x4x8x64 : Shape := ⟨5, ![8, 256, 4, 8, 64]⟩
abbrev S8x256x4x64 : Shape := ⟨4, ![8, 256, 4, 64]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4096x256 : Shape := ⟨2, ![4096, 256]⟩
abbrev S4096x4352 : Shape := ⟨2, ![4096, 4352]⟩
abbrev S8x4352x4x64 : Shape := ⟨4, ![8, 4352, 4, 64]⟩
abbrev S4x8 : Shape := ⟨2, ![4, 8]⟩
abbrev S8x4x4352x4096x8 : Shape := ⟨5, ![8, 4, 4352, 4096, 8]⟩
abbrev S8x4x8x4096x4352 : Shape := ⟨5, ![8, 4, 8, 4096, 4352]⟩
abbrev S1x4x8x1x1 : Shape := ⟨5, ![1, 4, 8, 1, 1]⟩
abbrev S8x4x8x4096x1 : Shape := ⟨5, ![8, 4, 8, 4096, 1]⟩
abbrev S8x4x8x4096x4353 : Shape := ⟨5, ![8, 4, 8, 4096, 4353]⟩
abbrev S8x4x8x4096 : Shape := ⟨4, ![8, 4, 8, 4096]⟩
abbrev S8x4x64x8x4096 : Shape := ⟨5, ![8, 4, 64, 8, 4096]⟩
abbrev S32768x2048 : Shape := ⟨2, ![32768, 2048]⟩

abbrev nBuf : Space → Nat
  | .hbm => 73
  | .vmem => 0
  | .smem => 0
  | _ => 0

abbrev bufTy : (tb : Table) → Fin (tcTables nBuf tb) → BufTy
  | .hbm, ⟨0, _⟩ => ⟨S32768x2560, .bf16⟩
  | .hbm, ⟨1, _⟩ => ⟨S2048x2560, .bf16⟩
  | .hbm, ⟨2, _⟩ => ⟨S32, .f32⟩
  | .hbm, ⟨3, _⟩ => ⟨S32768x2560, .f32⟩
  | .hbm, ⟨4, _⟩ => ⟨S8x4096x2560, .f32⟩
  | .hbm, ⟨5, _⟩ => ⟨S8x4096x2048, .f32⟩
  | .hbm, ⟨6, _⟩ => ⟨S8x4096x256, .f32⟩
  | .hbm, ⟨7, _⟩ => ⟨S8x4096x256, .f32⟩
  | .hbm, ⟨8, _⟩ => ⟨S8x4096x4x8x64, .f32⟩
  | .hbm, ⟨9, _⟩ => ⟨S8x4096x4x64, .f32⟩
  | .hbm, ⟨10, _⟩ => ⟨S8x4096x4x64, .f32⟩
  | .hbm, ⟨11, _⟩ => ⟨S2048x2560, .f32⟩
  | .hbm, ⟨12, _⟩ => ⟨S8x256x2560, .f32⟩
  | .hbm, ⟨13, _⟩ => ⟨S8x256x2048, .f32⟩
  | .hbm, ⟨14, _⟩ => ⟨S8x256x256, .f32⟩
  | .hbm, ⟨15, _⟩ => ⟨S8x256x256, .f32⟩
  | .hbm, ⟨16, _⟩ => ⟨S8x256x4x8x64, .f32⟩
  | .hbm, ⟨17, _⟩ => ⟨S8x256x4x64, .f32⟩
  | .hbm, ⟨18, _⟩ => ⟨S8x256x4x64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8x4096x4x8x64, .f32⟩
  | .hbm, ⟨24, _⟩ => ⟨S8x4096x4x8x64, .f32⟩
  | .hbm, ⟨25, _⟩ => ⟨S4096, .i32⟩
  | .hbm, ⟨26, _⟩ => ⟨S4096x1, .i32⟩
  | .hbm, ⟨27, _⟩ => ⟨S1x4096, .i32⟩
  | .hbm, ⟨28, _⟩ => ⟨S4096x4096, .i32⟩
  | .hbm, ⟨29, _⟩ => ⟨S4096x4096, .i32⟩
  | .hbm, ⟨30, _⟩ => ⟨S4096x4096, .i32⟩
  | .hbm, ⟨31, _⟩ => ⟨S4096x4096, .i32⟩
  | .hbm, ⟨32, _⟩ => ⟨S_, .i32⟩
  | .hbm, ⟨33, _⟩ => ⟨S4096x4096, .i32⟩
  | .hbm, ⟨34, _⟩ => ⟨S4096x4096, .i1⟩
  | .hbm, ⟨35, _⟩ => ⟨S_, .i1⟩
  | .hbm, ⟨36, _⟩ => ⟨S4096x256, .i1⟩
  | .hbm, ⟨37, _⟩ => ⟨S4096x4352, .i1⟩
  | .hbm, ⟨38, _⟩ => ⟨S8x4352x4x64, .f32⟩
  | .hbm, ⟨39, _⟩ => ⟨S8x4352x4x64, .f32⟩
  | .hbm, ⟨40, _⟩ => ⟨S4x8, .f32⟩
  | .hbm, ⟨41, _⟩ => ⟨S8x4x4352x4096x8, .f32⟩
  | .hbm, ⟨42, _⟩ => ⟨S8x4x8x4096x4352, .f32⟩
  | .hbm, ⟨43, _⟩ => ⟨S_, .f32⟩
  | .hbm, ⟨44, _⟩ => ⟨S8x4x8x4096x4352, .f32⟩
  | .hbm, ⟨45, _⟩ => ⟨S8x4x8x4096x4352, .f32⟩
  | .hbm, ⟨46, _⟩ => ⟨S_, .f32⟩
  | .hbm, ⟨47, _⟩ => ⟨S_, .f32⟩
  | .hbm, ⟨48, _⟩ => ⟨S8x4x8x4096x4352, .i1⟩
  | .hbm, ⟨49, _⟩ => ⟨S8x4x8x4096x4352, .f32⟩
  | .hbm, ⟨50, _⟩ => ⟨S8x4x8x4096x4352, .f32⟩
  | .hbm, ⟨51, _⟩ => ⟨S1x4x8x1x1, .f32⟩
  | .hbm, ⟨52, _⟩ => ⟨S8x4x8x4096x1, .f32⟩
  | .hbm, ⟨53, _⟩ => ⟨S8x4x8x4096x4353, .f32⟩
  | .hbm, ⟨54, _⟩ => ⟨S_, .f32⟩
  | .hbm, ⟨55, _⟩ => ⟨S8x4x8x4096, .f32⟩
  | .hbm, ⟨56, _⟩ => ⟨S_, .f32⟩
  | .hbm, ⟨57, _⟩ => ⟨S8x4x8x4096, .f32⟩
  | .hbm, ⟨58, _⟩ => ⟨S8x4x8x4096, .f32⟩
  | .hbm, ⟨59, _⟩ => ⟨S8x4x8x4096x1, .f32⟩
  | .hbm, ⟨60, _⟩ => ⟨S8x4x8x4096x4353, .f32⟩
  | .hbm, ⟨61, _⟩ => ⟨S8x4x8x4096x4353, .f32⟩
  | .hbm, ⟨62, _⟩ => ⟨S8x4x8x4096x4353, .f32⟩
  | .hbm, ⟨63, _⟩ => ⟨S_, .f32⟩
  | .hbm, ⟨64, _⟩ => ⟨S8x4x8x4096, .f32⟩
  | .hbm, ⟨65, _⟩ => ⟨S8x4x8x4096x1, .f32⟩
  | .hbm, ⟨66, _⟩ => ⟨S8x4x8x4096x4353, .f32⟩
  | .hbm, ⟨67, _⟩ => ⟨S8x4x8x4096x4353, .f32⟩
  | .hbm, ⟨68, _⟩ => ⟨S8x4x8x4096x4352, .f32⟩
  | .hbm, ⟨69, _⟩ => ⟨S8x4x64x8x4096, .f32⟩
  | .hbm, ⟨70, _⟩ => ⟨S8x4096x4x8x64, .f32⟩
  | .hbm, ⟨71, _⟩ => ⟨S32768x2048, .f32⟩
  | .hbm, ⟨72, _⟩ => ⟨S32768x2048, .bf16⟩
  | _, _ => ⟨S32768x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_c : Ref sig .tc := ⟨.hbm, 32, rfl⟩
abbrev main_v27 : Ref sig .tc := ⟨.hbm, 33, rfl⟩
abbrev main_v28 : Ref sig .tc := ⟨.hbm, 34, rfl⟩
abbrev main_c_1 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_2 : Ref sig .tc := ⟨.hbm, 43, rfl⟩
abbrev main_v36 : Ref sig .tc := ⟨.hbm, 44, rfl⟩
abbrev main_v37 : Ref sig .tc := ⟨.hbm, 45, rfl⟩
abbrev main_cst_3 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_4 : Ref sig .tc := ⟨.hbm, 54, rfl⟩
abbrev main_v42 : Ref sig .tc := ⟨.hbm, 55, rfl⟩
abbrev main_cst_5 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_6 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩

abbrev nD : Nat := 1
abbrev τ : Topo := Topo.v7x

variable {F : FTy → Type} [FloatOps F]
-- ==== KernelCtx.lean ====
abbrev S2048x2560 : Shape := ⟨2, ![2048, 2560]⟩
abbrev S32 : Shape := ⟨1, ![32]⟩
abbrev S2048x2048 : Shape := ⟨2, ![2048, 2048]⟩
abbrev S256x2048 : Shape := ⟨2, ![256, 2048]⟩
abbrev S256x256 : Shape := ⟨2, ![256, 256]⟩
abbrev S256x64 : Shape := ⟨2, ![256, 64]⟩
abbrev S8x1x1 : Shape := ⟨3, ![8, 1, 1]⟩
abbrev S1 : Shape := ⟨1, ![1]⟩
abbrev S2048x64 : Shape := ⟨2, ![2048, 64]⟩
abbrev S256x128 : Shape := ⟨2, ![256, 128]⟩
abbrev S2048x256 : Shape := ⟨2, ![2048, 256]⟩
abbrev S8x256x256 : Shape := ⟨3, ![8, 256, 256]⟩
abbrev S8x256 : Shape := ⟨2, ![8, 256]⟩
abbrev S8x256x1 : Shape := ⟨3, ![8, 256, 1]⟩
abbrev S2048x128 : Shape := ⟨2, ![2048, 128]⟩
abbrev S8x256x128 : Shape := ⟨3, ![8, 256, 128]⟩
abbrev S8x256x64 : Shape := ⟨3, ![8, 256, 64]⟩
abbrev S1x256x64 : Shape := ⟨3, ![1, 256, 64]⟩

abbrev nBuf : Space → Nat
  | .hbm => 3
  | .vmem => 8
  | .smem => 1
  | _ => 0

abbrev bufTy : (tb : Table) → Fin (tcTables nBuf tb) → BufTy
  | .hbm, ⟨0, _⟩ => ⟨S2048x2560, .bf16⟩
  | .hbm, ⟨1, _⟩ => ⟨S32, .f32⟩
  | .hbm, ⟨2, _⟩ => ⟨S2048x2048, .bf16⟩
  | .local _ .vmem, ⟨0, _⟩ => ⟨S256x2048, .bf16⟩
  | .local _ .vmem, ⟨1, _⟩ => ⟨S256x2048, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S256x2048, .bf16⟩
  | .local _ .vmem, ⟨7, _⟩ => ⟨S256x2048, .bf16⟩
  | .local _ .smem, ⟨0, _⟩ => ⟨S32, .f32⟩
  | _, _ => ⟨S2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelCtxIdeal.lean ====
variable {F : FTy → Type} [FloatOps F] [Named F]
def κ : String → Option EReal := fun
  | "log2e" => some (((Real.log 2)⁻¹ : ℝ) : EReal)
  | "q_scale" => some (((1 / 8) * (Real.log 2)⁻¹ : ℝ) : EReal)
  | _ => none
-- ==== ReferenceCtxIdeal.lean ====
abbrev S2048x2560 : Shape := ⟨2, ![2048, 2560]⟩
abbrev S32 : Shape := ⟨1, ![32]⟩
abbrev S8x256x2560 : Shape := ⟨3, ![8, 256, 2560]⟩
abbrev S8x256x2048 : Shape := ⟨3, ![8, 256, 2048]⟩
abbrev S8x256x256 : Shape := ⟨3, ![8, 256, 256]⟩
abbrev S8x256x4x8x64 : Shape := ⟨5, ![8, 256, 4, 8, 64]⟩
abbrev S8x256x4x64 : Shape := ⟨4, ![8, 256, 4, 64]⟩
abbrev S4x8 : Shape := ⟨2, ![4, 8]⟩
abbrev S8x4x256x256x8 : Shape := ⟨5, ![8, 4, 256, 256, 8]⟩
abbrev S8x4x8x256x256 : Shape := ⟨5, ![8, 4, 8, 256, 256]⟩
abbrev S_ : Shape := ⟨0, ![]⟩
abbrev S1x4x8x1x1 : Shape := ⟨5, ![1, 4, 8, 1, 1]⟩
abbrev S8x4x8x256x1 : Shape := ⟨5, ![8, 4, 8, 256, 1]⟩
abbrev S8x4x8x256x257 : Shape := ⟨5, ![8, 4, 8, 256, 257]⟩
abbrev S8x4x8x256 : Shape := ⟨4, ![8, 4, 8, 256]⟩
abbrev S8x4x64x8x256 : Shape := ⟨5, ![8, 4, 64, 8, 256]⟩
abbrev S2048x2048 : Shape := ⟨2, ![2048, 2048]⟩

abbrev nBuf : Space → Nat
  | .hbm => 38
  | .vmem => 0
  | .smem => 0
  | _ => 0

abbrev bufTy : (tb : Table) → Fin (tcTables nBuf tb) → BufTy
  | .hbm, ⟨0, _⟩ => ⟨S2048x2560, .bf16⟩
  | .hbm, ⟨1, _⟩ => ⟨S32, .f32⟩
  | .hbm, ⟨2, _⟩ => ⟨S2048x2560, .f32⟩
  | .hbm, ⟨3, _⟩ => ⟨S8x256x2560, .f32⟩
  | .hbm, ⟨4, _⟩ => ⟨S8x256x2048, .f32⟩
  | .hbm, ⟨5, _⟩ => ⟨S8x256x256, .f32⟩
  | .hbm, ⟨6, _⟩ => ⟨S8x256x256, .f32⟩
  | .hbm, ⟨7, _⟩ => ⟨S8x256x4x8x64, .f32⟩
  | .hbm, ⟨8, _⟩ => ⟨S8x256x4x64, .f32⟩
  | .hbm, ⟨9, _⟩ => ⟨S8x256x4x64, .f32⟩
  | .hbm, ⟨10, _⟩ => ⟨S4x8, .f32⟩
  | .hbm, ⟨11, _⟩ => ⟨S8x4x256x256x8, .f32⟩
  | .hbm, ⟨12, _⟩ => ⟨S8x4x8x256x256, .f32⟩
  | .hbm, ⟨13, _⟩ => ⟨S_, .f32⟩
  | .hbm, ⟨14, _⟩ => ⟨S8x4x8x256x256, .f32⟩
  | .hbm, ⟨15, _⟩ => ⟨S8x4x8x256x256, .f32⟩
  | .hbm, ⟨16, _⟩ => ⟨S1x4x8x1x1, .f32⟩
  | .hbm, ⟨17, _⟩ => ⟨S8x4x8x256x1, .f32⟩
  | .hbm, ⟨18, _⟩ => ⟨S8x4x8x256x257, .f32⟩
  | .hbm, ⟨19, _⟩ => ⟨S_, .f32⟩
  | .hbm, ⟨20, _⟩ => ⟨S8x4x8x256, .f32⟩
  | .hbm, ⟨21, _⟩ => ⟨S_, .f32⟩
  | .hbm, ⟨22, _⟩ => ⟨S8x4x8x256, .f32⟩
  | .hbm, ⟨23, _⟩ => ⟨S8x4x8x256, .f32⟩
  | .hbm, ⟨24, _⟩ => ⟨S8x4x8x256x1, .f32⟩
  | .hbm, ⟨25, _⟩ => ⟨S8x4x8x256x257, .f32⟩
  | .hbm, ⟨26, _⟩ => ⟨S8x4x8x256x257, .f32⟩
  | .hbm, ⟨27, _⟩ => ⟨S8x4x8x256x257, .f32⟩
  | .hbm, ⟨28, _⟩ => ⟨S_, .f32⟩
  | .hbm, ⟨29, _⟩ => ⟨S8x4x8x256, .f32⟩
  | .hbm, ⟨30, _⟩ => ⟨S8x4x8x256x1, .f32⟩
  | .hbm, ⟨31, _⟩ => ⟨S8x4x8x256x257, .f32⟩
  | .hbm, ⟨32, _⟩ => ⟨S8x4x8x256x257, .f32⟩
  | .hbm, ⟨33, _⟩ => ⟨S8x4x8x256x256, .f32⟩
  | .hbm, ⟨34, _⟩ => ⟨S8x4x64x8x256, .f32⟩
  | .hbm, ⟨35, _⟩ => ⟨S8x256x4x8x64, .f32⟩
  | .hbm, ⟨36, _⟩ => ⟨S2048x2048, .f32⟩
  | .hbm, ⟨37, _⟩ => ⟨S2048x2048, .bf16⟩
  | _, _ => ⟨S2048x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩

abbrev nD : Nat := 1
abbrev τ : Topo := Topo.v7x

variable {F : FTy → Type} [FloatOps F]
-- ==== KernelRes.lean ====
abbrev S32768x2048 : Shape := ⟨2, ![32768, 2048]⟩
abbrev S2048x2048 : Shape := ⟨2, ![2048, 2048]⟩
abbrev S8x1x2048 : Shape := ⟨3, ![8, 1, 2048]⟩
abbrev S1024x2048 : Shape := ⟨2, ![1024, 2048]⟩
abbrev S2048x1024 : Shape := ⟨2, ![2048, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 5
  | .vmem => 10
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .bf16⟩
  | .hbm, ⟨2, _⟩ => ⟨S32768x2048, .f32⟩
  | .hbm, ⟨3, _⟩ => ⟨S8x1x2048, .f32⟩
  | .hbm, ⟨4, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceResIdeal.lean ====
abbrev S32768x2048 : Shape := ⟨2, ![32768, 2048]⟩
abbrev S2048x2048 : Shape := ⟨2, ![2048, 2048]⟩
abbrev S8x1x2048 : Shape := ⟨3, ![8, 1, 2048]⟩
abbrev S8x4096x2048 : Shape := ⟨3, ![8, 4096, 2048]⟩

abbrev nBuf : Space → Nat
  | .hbm => 13
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .bf16⟩
  | .hbm, ⟨2, _⟩ => ⟨S32768x2048, .f32⟩
  | .hbm, ⟨3, _⟩ => ⟨S8x1x2048, .f32⟩
  | .hbm, ⟨4, _⟩ => ⟨S32768x2048, .f32⟩
  | .hbm, ⟨5, _⟩ => ⟨S2048x2048, .f32⟩
  | .hbm, ⟨6, _⟩ => ⟨S32768x2048, .f32⟩
  | .hbm, ⟨7, _⟩ => ⟨S8x4096x2048, .f32⟩
  | .hbm, ⟨8, _⟩ => ⟨S8x4096x2048, .f32⟩
  | .hbm, ⟨9, _⟩ => ⟨S8x4096x2048, .f32⟩
  | .hbm, ⟨10, _⟩ => ⟨S8x4096x2048, .f32⟩
  | .hbm, ⟨11, _⟩ => ⟨S8x4096x2048, .f32⟩
  | .hbm, ⟨12, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== KernelConv.lean ====
abbrev S32768x2048 : Shape := ⟨2, ![32768, 2048]⟩
abbrev S8x1x2048 : Shape := ⟨3, ![8, 1, 2048]⟩
abbrev S2048x6144 : Shape := ⟨2, ![2048, 6144]⟩
abbrev S3x6144 : Shape := ⟨2, ![3, 6144]⟩
abbrev S6144 : Shape := ⟨1, ![6144]⟩
abbrev S1x6144 : Shape := ⟨2, ![1, 6144]⟩
abbrev S32768x6144 : Shape := ⟨2, ![32768, 6144]⟩
abbrev S1024x2048 : Shape := ⟨2, ![1024, 2048]⟩
abbrev S16x2048 : Shape := ⟨2, ![16, 2048]⟩
abbrev S1x1x2048 : Shape := ⟨3, ![1, 1, 2048]⟩
abbrev S2048x1024 : Shape := ⟨2, ![2048, 1024]⟩
abbrev S3x1024 : Shape := ⟨2, ![3, 1024]⟩
abbrev S1x1024 : Shape := ⟨2, ![1, 1024]⟩
abbrev S1024x1024 : Shape := ⟨2, ![1024, 1024]⟩
abbrev S1056x2048 : Shape := ⟨2, ![1056, 2048]⟩
abbrev S1x2048 : Shape := ⟨2, ![1, 2048]⟩
abbrev S1024 : Shape := ⟨1, ![1024]⟩
abbrev S1024x1 : Shape := ⟨2, ![1024, 1]⟩
abbrev S16 : Shape := ⟨1, ![16]⟩
abbrev S16x1 : Shape := ⟨2, ![16, 1]⟩
abbrev S1056x1024 : Shape := ⟨2, ![1056, 1024]⟩

abbrev nBuf : Space → Nat
  | .hbm => 8
  | .vmem => 19
  | .smem => 0
  | _ => 0

abbrev bufTy : (tb : Table) → Fin (tcTables nBuf tb) → BufTy
  | .hbm, ⟨0, _⟩ => ⟨S32768x2048, .f32⟩
  | .hbm, ⟨1, _⟩ => ⟨S8x1x2048, .f32⟩
  | .hbm, ⟨2, _⟩ => ⟨S8x1x2048, .f32⟩
  | .hbm, ⟨3, _⟩ => ⟨S2048x6144, .bf16⟩
  | .hbm, ⟨4, _⟩ => ⟨S3x6144, .f32⟩
  | .hbm, ⟨5, _⟩ => ⟨S6144, .f32⟩
  | .hbm, ⟨6, _⟩ => ⟨S1x6144, .f32⟩
  | .hbm, ⟨7, _⟩ => ⟨S32768x6144, .bf16⟩
  | .local _ .vmem, ⟨0, _⟩ => ⟨S1024x2048, .f32⟩
  | .local _ .vmem, ⟨1, _⟩ => ⟨S1024x2048, .f32⟩
  | .local _ .vmem, ⟨2, _⟩ => ⟨S16x2048, .f32⟩
  | .local _ .vmem, ⟨3, _⟩ => ⟨S16x2048, .f32⟩
  | .local _ .vmem, ⟨4, _⟩ => ⟨S16x2048, .f32⟩
  | .local _ .vmem, ⟨5, _⟩ => ⟨S16x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S2048x1024, .bf16⟩
  | .local _ .vmem, ⟨11, _⟩ => ⟨S2048x1024, .bf16⟩
  | .local _ .vmem, ⟨12, _⟩ => ⟨S3x1024, .f32⟩
  | .local _ .vmem, ⟨13, _⟩ => ⟨S3x1024, .f32⟩
  | .local _ .vmem, ⟨14, _⟩ => ⟨S1x1024, .f32⟩
  | .local _ .vmem, ⟨15, _⟩ => ⟨S1x1024, .f32⟩
  | .local _ .vmem, ⟨16, _⟩ => ⟨S1024x1024, .bf16⟩
  | .local _ .vmem, ⟨17, _⟩ => ⟨S1024x1024, .bf16⟩
  | .local _ .vmem, ⟨18, _⟩ => ⟨S1056x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![32, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceConvIdeal.lean ====
abbrev S32768x2048 : Shape := ⟨2, ![32768, 2048]⟩
abbrev S8x1x2048 : Shape := ⟨3, ![8, 1, 2048]⟩
abbrev S2048x6144 : Shape := ⟨2, ![2048, 6144]⟩
abbrev S3x6144 : Shape := ⟨2, ![3, 6144]⟩
abbrev S6144 : Shape := ⟨1, ![6144]⟩
abbrev S8x4096x2048 : Shape := ⟨3, ![8, 4096, 2048]⟩
abbrev S_ : Shape := ⟨0, ![]⟩
abbrev S8x4096 : Shape := ⟨2, ![8, 4096]⟩
abbrev S8x4096x1 : Shape := ⟨3, ![8, 4096, 1]⟩
abbrev S8x4096x6144 : Shape := ⟨3, ![8, 4096, 6144]⟩
abbrev S8x4098x6144 : Shape := ⟨3, ![8, 4098, 6144]⟩
abbrev S1x6144 : Shape := ⟨2, ![1, 6144]⟩
abbrev S1x1x6144 : Shape := ⟨3, ![1, 1, 6144]⟩
abbrev S32768x6144 : Shape := ⟨2, ![32768, 6144]⟩

abbrev nBuf : Space → Nat
  | .hbm => 57
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S8x1x2048, .f32⟩
  | .hbm, ⟨2, _⟩ => ⟨S8x1x2048, .f32⟩
  | .hbm, ⟨3, _⟩ => ⟨S2048x6144, .bf16⟩
  | .hbm, ⟨4, _⟩ => ⟨S3x6144, .f32⟩
  | .hbm, ⟨5, _⟩ => ⟨S6144, .f32⟩
  | .hbm, ⟨6, _⟩ => ⟨S8x4096x2048, .f32⟩
  | .hbm, ⟨7, _⟩ => ⟨S8x4096x2048, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x2048, .f32⟩
  | .hbm, ⟨19, _⟩ => ⟨S8x4096x2048, .f32⟩
  | .hbm, ⟨20, _⟩ => ⟨S_, .f32⟩
  | .hbm, ⟨21, _⟩ => ⟨S8x1x2048, .f32⟩
  | .hbm, ⟨22, _⟩ => ⟨S8x1x2048, .f32⟩
  | .hbm, ⟨23, _⟩ => ⟨S8x4096x2048, .f32⟩
  | .hbm, ⟨24, _⟩ => ⟨S8x4096x2048, .f32⟩
  | .hbm, ⟨25, _⟩ => ⟨S8x4096x2048, .f32⟩
  | .hbm, ⟨26, _⟩ => ⟨S8x4096x2048, .f32⟩
  | .hbm, ⟨27, _⟩ => ⟨S2048x6144, .f32⟩
  | .hbm, ⟨28, _⟩ => ⟨S8x4096x6144, .f32⟩
  | .hbm, ⟨29, _⟩ => ⟨S_, .i32⟩
  | .hbm, ⟨30, _⟩ => ⟨S_, .f32⟩
  | .hbm, ⟨31, _⟩ => ⟨S8x4098x6144, .f32⟩
  | .hbm, ⟨32, _⟩ => ⟨S8x4096x6144, .f32⟩
  | .hbm, ⟨33, _⟩ => ⟨S1x6144, .f32⟩
  | .hbm, ⟨34, _⟩ => ⟨S6144, .f32⟩
  | .hbm, ⟨35, _⟩ => ⟨S1x1x6144, .f32⟩
  | .hbm, ⟨36, _⟩ => ⟨S8x4096x6144, .f32⟩
  | .hbm, ⟨37, _⟩ => ⟨S8x4096x6144, .f32⟩
  | .hbm, ⟨38, _⟩ => ⟨S8x4096x6144, .f32⟩
  | .hbm, ⟨39, _⟩ => ⟨S1x6144, .f32⟩
  | .hbm, ⟨40, _⟩ => ⟨S6144, .f32⟩
  | .hbm, ⟨41, _⟩ => ⟨S1x1x6144, .f32⟩
  | .hbm, ⟨42, _⟩ => ⟨S8x4096x6144, .f32⟩
  | .hbm, ⟨43, _⟩ => ⟨S8x4096x6144, .f32⟩
  | .hbm, ⟨44, _⟩ => ⟨S8x4096x6144, .f32⟩
  | .hbm, ⟨45, _⟩ => ⟨S8x4096x6144, .f32⟩
  | .hbm, ⟨46, _⟩ => ⟨S1x6144, .f32⟩
  | .hbm, ⟨47, _⟩ => ⟨S6144, .f32⟩
  | .hbm, ⟨48, _⟩ => ⟨S1x1x6144, .f32⟩
  | .hbm, ⟨49, _⟩ => ⟨S8x4096x6144, .f32⟩
  | .hbm, ⟨50, _⟩ => ⟨S8x4096x6144, .f32⟩
  | .hbm, ⟨51, _⟩ => ⟨S8x4096x6144, .f32⟩
  | .hbm, ⟨52, _⟩ => ⟨S1x1x6144, .f32⟩
  | .hbm, ⟨53, _⟩ => ⟨S8x4096x6144, .f32⟩
  | .hbm, ⟨54, _⟩ => ⟨S8x4096x6144, .f32⟩
  | .hbm, ⟨55, _⟩ => ⟨S32768x6144, .f32⟩
  | .hbm, ⟨56, _⟩ => ⟨S32768x6144, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c : Ref sig .tc := ⟨.hbm, 29, rfl⟩
abbrev main_call0_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== KernelQkv.lean ====
abbrev S32768x2048 : Shape := ⟨2, ![32768, 2048]⟩
abbrev S8x1x2048 : Shape := ⟨3, ![8, 1, 2048]⟩
abbrev S2048x2560 : Shape := ⟨2, ![2048, 2560]⟩
abbrev S4096 : Shape := ⟨1, ![4096]⟩
abbrev S_ : Shape := ⟨0, ![]⟩
abbrev S4096x1 : Shape := ⟨2, ![4096, 1]⟩
abbrev S16 : Shape := ⟨1, ![16]⟩
abbrev S1x16 : Shape := ⟨2, ![1, 16]⟩
abbrev S4096x16 : Shape := ⟨2, ![4096, 16]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S32768x2560 : Shape := ⟨2, ![32768, 2560]⟩
abbrev S1024x2048 : Shape := ⟨2, ![1024, 2048]⟩
abbrev S1x1x2048 : Shape := ⟨3, ![1, 1, 2048]⟩
abbrev S2048x640 : Shape := ⟨2, ![2048, 640]⟩
abbrev S1024x128 : Shape := ⟨2, ![1024, 128]⟩
abbrev S1024x640 : Shape := ⟨2, ![1024, 640]⟩
abbrev S1x2048 : Shape := ⟨2, ![1, 2048]⟩
abbrev S1024 : Shape := ⟨1, ![1024]⟩
abbrev S1024x1 : Shape := ⟨2, ![1024, 1]⟩

abbrev nBuf : Space → Nat
  | .hbm => 93
  | .vmem => 17
  | .smem => 0
  | _ => 0

abbrev bufTy : (tb : Table) → Fin (tcTables nBuf tb) → BufTy
  | .hbm, ⟨0, _⟩ => ⟨S32768x2048, .f32⟩
  | .hbm, ⟨1, _⟩ => ⟨S8x1x2048, .f32⟩
  | .hbm, ⟨2, _⟩ => ⟨S8x1x2048, .f32⟩
  | .hbm, ⟨3, _⟩ => ⟨S2048x2560, .bf16⟩
  | .hbm, ⟨4, _⟩ => ⟨S4096, .i32⟩
  | .hbm, ⟨5, _⟩ => ⟨S_, .i32⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S_, .i32⟩
  | .hbm, ⟨11, _⟩ => ⟨S4096, .i32⟩
  | .hbm, ⟨12, _⟩ => ⟨S4096, .i1⟩
  | .hbm, ⟨13, _⟩ => ⟨S4096, .i32⟩
  | .hbm, ⟨14, _⟩ => ⟨S4096, .i32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S4096, .i1⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096, .i32⟩
  | .hbm, ⟨23, _⟩ => ⟨S4096, .f32⟩
  | .hbm, ⟨24, _⟩ => ⟨S4096x1, .f32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S_, .i32⟩
  | .hbm, ⟨40, _⟩ => ⟨S_, .i1⟩
  | .hbm, ⟨41, _⟩ => ⟨S4096, .i1⟩
  | .hbm, ⟨42, _⟩ => ⟨S4096, .i1⟩
  | .hbm, ⟨43, _⟩ => ⟨S4096, .i1⟩
  | .hbm, ⟨44, _⟩ => ⟨S4096, .i32⟩
  | .hbm, ⟨45, _⟩ => ⟨S4096, .i32⟩
  | .hbm, ⟨46, _⟩ => ⟨S4096, .i32⟩
  | .hbm, ⟨47, _⟩ => ⟨S4096, .f32⟩
  | .hbm, ⟨48, _⟩ => ⟨S4096x1, .f32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S_, .f32⟩
  | .hbm, ⟨58, _⟩ => ⟨S16, .f32⟩
  | .hbm, ⟨59, _⟩ => ⟨S16, .f32⟩
  | .hbm, ⟨60, _⟩ => ⟨S1x16, .f32⟩
  | .hbm, ⟨61, _⟩ => ⟨S4096x16, .f32⟩
  | .hbm, ⟨62, _⟩ => ⟨S4096x16, .f32⟩
  | .hbm, ⟨63, _⟩ => ⟨S4096x16, .f32⟩
  | .hbm, ⟨64, _⟩ => ⟨S1x16, .f32⟩
  | .hbm, ⟨65, _⟩ => ⟨S4096x16, .f32⟩
  | .hbm, ⟨66, _⟩ => ⟨S4096x16, .f32⟩
  | .hbm, ⟨67, _⟩ => ⟨S4096x16, .f32⟩
  | .hbm, ⟨68, _⟩ => ⟨S_, .f32⟩
  | .hbm, ⟨69, _⟩ => ⟨S4096x16, .f32⟩
  | .hbm, ⟨70, _⟩ => ⟨S4096x16, .f32⟩
  | .hbm, ⟨71, _⟩ => ⟨S4096x16, .f32⟩
  | .hbm, ⟨72, _⟩ => ⟨S4096x16, .f32⟩
  | .hbm, ⟨73, _⟩ => ⟨S4096x16, .f32⟩
  | .hbm, ⟨74, _⟩ => ⟨S4096x64, .f32⟩
  | .hbm, ⟨75, _⟩ => ⟨S4096x16, .f32⟩
  | .hbm, ⟨76, _⟩ => ⟨S4096x16, .f32⟩
  | .hbm, ⟨77, _⟩ => ⟨S4096x16, .f32⟩
  | .hbm, ⟨78, _⟩ => ⟨S4096x16, .f32⟩
  | .hbm, ⟨79, _⟩ => ⟨S4096x64, .f32⟩
  | .hbm, ⟨80, _⟩ => ⟨S4096x16, .f32⟩
  | .hbm, ⟨81, _⟩ => ⟨S4096x16, .f32⟩
  | .hbm, ⟨82, _⟩ => ⟨S4096x64, .f32⟩
  | .hbm, ⟨83, _⟩ => ⟨S1x4096x1x64, .f32⟩
  | .hbm, ⟨84, _⟩ => ⟨S1x4096x2x64, .f32⟩
  | .hbm, ⟨85, _⟩ => ⟨S4096x128, .f32⟩
  | .hbm, ⟨86, _⟩ => ⟨S1x4096x1x64, .f32⟩
  | .hbm, ⟨87, _⟩ => ⟨S1x4096x2x64, .f32⟩
  | .hbm, ⟨88, _⟩ => ⟨S4096x128, .f32⟩
  | .hbm, ⟨89, _⟩ => ⟨S1x4096x1x64, .f32⟩
  | .hbm, ⟨90, _⟩ => ⟨S1x4096x2x64, .f32⟩
  | .hbm, ⟨91, _⟩ => ⟨S4096x128, .f32⟩
  | .hbm, ⟨92, _⟩ => ⟨S32768x2560, .bf16⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x640, .bf16⟩
  | .local _ .vmem, ⟨7, _⟩ => ⟨S2048x640, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x640, .bf16⟩
  | .local _ .vmem, ⟨15, _⟩ => ⟨S1024x640, .bf16⟩
  | .local _ .vmem, ⟨16, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c_0 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_c_1 : Ref sig .tc := ⟨.hbm, 33, rfl⟩
abbrev main_call1_v5 : Ref sig .tc := ⟨.hbm, 34, rfl⟩
abbrev main_call1_v6 : Ref sig .tc := ⟨.hbm, 35, rfl⟩
abbrev main_call1_c_2 : Ref sig .tc := ⟨.hbm, 36, rfl⟩
abbrev main_call1_v7 : Ref sig .tc := ⟨.hbm, 37, rfl⟩
abbrev main_call1_v8 : Ref sig .tc := ⟨.hbm, 38, rfl⟩
abbrev main_call1_c_3 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_cst : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_cst_1 : Ref sig .tc := ⟨.hbm, 54, rfl⟩
abbrev main_v11 : Ref sig .tc := ⟨.hbm, 55, rfl⟩
abbrev main_v12 : Ref sig .tc := ⟨.hbm, 56, rfl⟩
abbrev main_cst_2 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_cst_3 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c640_i32 : BitVec 32 := 640#32
  let v6 : BitVec 32 := Scalar.muli arg1 c640_i32
  let c0_i32_4 : BitVec 32 := 0#32
  let v7 : BitVec 32 := Scalar.addi v6 c0_i32_4
  let c2304_i32 : BitVec 32 := 2304#32
  let v9 : BitVec 1 := Scalar.cmpi .slt v7 c2304_i32
  let v10 : BitVec 32 := Scalar.extui v9
  let c0_i32_5 : BitVec 32 := 0#32
  let v11 : BitVec 1 := Scalar.cmpi .ne v10 c0_i32_5
  v11

def k0_cond3 (i : grid0.Coords) : BitVec 1 :=
  let arg1 : BitVec 32 := BitVec.ofNat 32 (i 1).val
  let c640_i32 : BitVec 32 := 640#32
  let v6 : BitVec 32 := Scalar.muli arg1 c640_i32
  let c0_i32_4 : BitVec 32 := 0#32
  let v7 : BitVec 32 := Scalar.addi v6 c0_i32_4
  let c2304_i32_6 : BitVec 32 := 2304#32
  let v12 : BitVec 1 := Scalar.cmpi .sge v7 c2304_i32_6
  let v13 : BitVec 32 := Scalar.extui v12
  let c0_i32_7 : BitVec 32 := 0#32
  let v14 : BitVec 1 := Scalar.cmpi .ne v13 c0_i32_7
  v14

def k0_cond4 (i : grid0.Coords) : BitVec 1 :=
  let arg1 : BitVec 32 := BitVec.ofNat 32 (i 1).val
  let c640_i32_8 : BitVec 32 := 640#32
  let v15 : BitVec 32 := Scalar.muli arg1 c640_i32_8
  let c128_i32 : BitVec 32 := 128#32
  let v16 : BitVec 32 := Scalar.addi v15 c128_i32
  let c2304_i32_9 : BitVec 32 := 2304#32
  let v18 : BitVec 1 := Scalar.cmpi .slt v16 c2304_i32_9
  let v19 : BitVec 32 := Scalar.extui v18
  let c0_i32_10 : BitVec 32 := 0#32
  let v20 : BitVec 1 := Scalar.cmpi .ne v19 c0_i32_10
  v20

def k0_cond5 (i : grid0.Coords) : BitVec 1 :=
  let arg1 : BitVec 32 := BitVec.ofNat 32 (i 1).val
  let c640_i32_8 : BitVec 32 := 640#32
  let v15 : BitVec 32 := Scalar.muli arg1 c640_i32_8
  let c128_i32 : BitVec 32 := 128#32
  let v16 : BitVec 32 := Scalar.addi v15 c128_i32
  let c2304_i32_11 : BitVec 32 := 2304#32
  let v21 : BitVec 1 := Scalar.cmpi .sge v16 c2304_i32_11
  let v22 : BitVec 32 := Scalar.extui v21
  let c0_i32_12 : BitVec 32 := 0#32
  let v23 : BitVec 1 := Scalar.cmpi .ne v22 c0_i32_12
  v23

def k0_cond6 (i : grid0.Coords) : BitVec 1 :=
  let arg1 : BitVec 32 := BitVec.ofNat 32 (i 1).val
  let c640_i32_13 : BitVec 32 := 640#32
  let v24 : BitVec 32 := Scalar.muli arg1 c640_i32_13
  let c256_i32 : BitVec 32 := 256#32
  let v25 : BitVec 32 := Scalar.addi v24 c256_i32
  let c2304_i32_14 : BitVec 32 := 2304#32
  let v27 : BitVec 1 := Scalar.cmpi .slt v25 c2304_i32_14
  let v28 : BitVec 32 := Scalar.extui v27
  let c0_i32_15 : BitVec 32 := 0#32
  let v29 : BitVec 1 := Scalar.cmpi .ne v28 c0_i32_15
  v29

def k0_cond7 (i : grid0.Coords) : BitVec 1 :=
  let arg1 : BitVec 32 := BitVec.ofNat 32 (i 1).val
  let c640_i32_13 : BitVec 32 := 640#32
  let v24 : BitVec 32 := Scalar.muli arg1 c640_i32_13
  let c256_i32 : BitVec 32 := 256#32
  let v25 : BitVec 32 := Scalar.addi v24 c256_i32
  let c2304_i32_16 : BitVec 32 := 2304#32
  let v30 : BitVec 1 := Scalar.cmpi .sge v25 c2304_i32_16
  let v31 : BitVec 32 := Scalar.extui v30
  let c0_i32_17 : BitVec 32 := 0#32
  let v32 : BitVec 1 := Scalar.cmpi .ne v31 c0_i32_17
  v32

def k0_cond8 (i : grid0.Coords) : BitVec 1 :=
  let arg1 : BitVec 32 := BitVec.ofNat 32 (i 1).val
  let c640_i32_18 : BitVec 32 := 640#32
  let v33 : BitVec 32 := Scalar.muli arg1 c640_i32_18
  let c384_i32 : BitVec 32 := 384#32
  let v34 : BitVec 32 := Scalar.addi v33 c384_i32
  let c2304_i32_19 : BitVec 32 := 2304#32
  let v36 : BitVec 1 := Scalar.cmpi .slt v34 c2304_i32_19
  let v37 : BitVec 32 := Scalar.extui v36
  let c0_i32_20 : BitVec 32 := 0#32
  let v38 : BitVec 1 := Scalar.cmpi .ne v37 c0_i32_20
  v38

def k0_cond9 (i : grid0.Coords) : BitVec 1 :=
  let arg1 : BitVec 32 := BitVec.ofNat 32 (i 1).val
  let c640_i32_18 : BitVec 32 := 640#32
  let v33 : BitVec 32 := Scalar.muli arg1 c640_i32_18
  let c384_i32 : BitVec 32 := 384#32
  let v34 : BitVec 32 := Scalar.addi v33 c384_i32
  let c2304_i32_21 : BitVec 32 := 2304#32
  let v39 : BitVec 1 := Scalar.cmpi .sge v34 c2304_i32_21
  let v40 : BitVec 32 := Scalar.extui v39
  let c0_i32_22 : BitVec 32 := 0#32
  let v41 : BitVec 1 := Scalar.cmpi .ne v40 c0_i32_22
  v41

def k0_cond10 (i : grid0.Coords) : BitVec 1 :=
  let arg1 : BitVec 32 := BitVec.ofNat 32 (i 1).val
  let c640_i32_23 : BitVec 32 := 640#32
  let v42 : BitVec 32 := Scalar.muli arg1 c640_i32_23
  let c512_i32 : BitVec 32 := 512#32
  let v43 : BitVec 32 := Scalar.addi v42 c512_i32
  let c2304_i32_24 : BitVec 32 := 2304#32
  let v45 : BitVec 1 := Scalar.cmpi .slt v43 c2304_i32_24
  let v46 : BitVec 32 := Scalar.extui v45
  let c0_i32_25 : BitVec 32 := 0#32
  let v47 : BitVec 1 := Scalar.cmpi .ne v46 c0_i32_25
  v47

def k0_cond11 (i : grid0.Coords) : BitVec 1 :=
  let arg1 : BitVec 32 := BitVec.ofNat 32 (i 1).val
  let c640_i32_23 : BitVec 32 := 640#32
  let v42 : BitVec 32 := Scalar.muli arg1 c640_i32_23
  let c512_i32 : BitVec 32 := 512#32
  let v43 : BitVec 32 := Scalar.addi v42 c512_i32
  let c2304_i32_26 : BitVec 32 := 2304#32
  let v48 : BitVec 1 := Scalar.cmpi .sge v43 c2304_i32_26
  let v49 : BitVec 32 := Scalar.extui v48
  let c0_i32_27 : BitVec 32 := 0#32
  let v50 : BitVec 1 := Scalar.cmpi .ne v49 c0_i32_27
  v50

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x640 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelQkvIdeal.lean ====
variable {F : FTy → Type} [FloatOps F] [Named F]
def κ : String → Option EReal := fun
  | "q_scale" => some (((1 / 8) * (Real.log 2)⁻¹ : ℝ) : EReal)
  | _ => none
-- ==== ReferenceQkvIdeal.lean ====
abbrev S32768x2048 : Shape := ⟨2, ![32768, 2048]⟩
abbrev S8x1x2048 : Shape := ⟨3, ![8, 1, 2048]⟩
abbrev S2048x2560 : Shape := ⟨2, ![2048, 2560]⟩
abbrev S8x4096x2048 : Shape := ⟨3, ![8, 4096, 2048]⟩
abbrev S_ : Shape := ⟨0, ![]⟩
abbrev S8x4096 : Shape := ⟨2, ![8, 4096]⟩
abbrev S8x4096x1 : Shape := ⟨3, ![8, 4096, 1]⟩
abbrev S8x4096x2560 : Shape := ⟨3, ![8, 4096, 2560]⟩
abbrev S8x4096x256 : Shape := ⟨3, ![8, 4096, 256]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x1x16 : Shape := ⟨3, ![4096, 1, 16]⟩
abbrev S4096x2x16 : Shape := ⟨3, ![4096, 2, 16]⟩
abbrev S8x4096x32x64 : Shape := ⟨4, ![8, 4096, 32, 64]⟩
abbrev S4096x1x2x16 : Shape := ⟨4, ![4096, 1, 2, 16]⟩
abbrev S8x4096x32x2x2x16 : Shape := ⟨6, ![8, 4096, 32, 2, 2, 16]⟩
abbrev S8x4096x32x2x1x16 : Shape := ⟨6, ![8, 4096, 32, 2, 1, 16]⟩
abbrev S8x4096x32x2x16 : Shape := ⟨5, ![8, 4096, 32, 2, 16]⟩
abbrev S1x4096x1x2x16 : Shape := ⟨5, ![1, 4096, 1, 2, 16]⟩
abbrev S8x4096x4x64 : Shape := ⟨4, ![8, 4096, 4, 64]⟩
abbrev S8x4096x4x2x2x16 : Shape := ⟨6, ![8, 4096, 4, 2, 2, 16]⟩
abbrev S8x4096x4x2x1x16 : Shape := ⟨6, ![8, 4096, 4, 2, 1, 16]⟩
abbrev S8x4096x4x2x16 : Shape := ⟨5, ![8, 4096, 4, 2, 16]⟩
abbrev S32768x2560 : Shape := ⟨2, ![32768, 2560]⟩

abbrev nBuf : Space → Nat
  | .hbm => 126
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S8x1x2048, .f32⟩
  | .hbm, ⟨2, _⟩ => ⟨S8x1x2048, .f32⟩
  | .hbm, ⟨3, _⟩ => ⟨S2048x2560, .bf16⟩
  | .hbm, ⟨4, _⟩ => ⟨S8x4096x2048, .f32⟩
  | .hbm, ⟨5, _⟩ => ⟨S8x4096x2048, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x2048, .f32⟩
  | .hbm, ⟨17, _⟩ => ⟨S8x4096x2048, .f32⟩
  | .hbm, ⟨18, _⟩ => ⟨S_, .f32⟩
  | .hbm, ⟨19, _⟩ => ⟨S8x1x2048, .f32⟩
  | .hbm, ⟨20, _⟩ => ⟨S8x1x2048, .f32⟩
  | .hbm, ⟨21, _⟩ => ⟨S8x4096x2048, .f32⟩
  | .hbm, ⟨22, _⟩ => ⟨S8x4096x2048, .f32⟩
  | .hbm, ⟨23, _⟩ => ⟨S8x4096x2048, .f32⟩
  | .hbm, ⟨24, _⟩ => ⟨S8x4096x2048, .f32⟩
  | .hbm, ⟨25, _⟩ => ⟨S2048x2560, .f32⟩
  | .hbm, ⟨26, _⟩ => ⟨S8x4096x2560, .f32⟩
  | .hbm, ⟨27, _⟩ => ⟨S8x4096x2048, .f32⟩
  | .hbm, ⟨28, _⟩ => ⟨S8x4096x256, .f32⟩
  | .hbm, ⟨29, _⟩ => ⟨S8x4096x256, .f32⟩
  | .hbm, ⟨30, _⟩ => ⟨S64, .f32⟩
  | .hbm, ⟨31, _⟩ => ⟨S64x64, .f32⟩
  | .hbm, ⟨32, _⟩ => ⟨S4096, .f32⟩
  | .hbm, ⟨33, _⟩ => ⟨S64, .f32⟩
  | .hbm, ⟨34, _⟩ => ⟨S1x64, .f32⟩
  | .hbm, ⟨35, _⟩ => ⟨S64x64, .f32⟩
  | .hbm, ⟨36, _⟩ => ⟨S4096, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S16, .f32⟩
  | .hbm, ⟨42, _⟩ => ⟨S_, .f32⟩
  | .hbm, ⟨43, _⟩ => ⟨S16, .f32⟩
  | .hbm, ⟨44, _⟩ => ⟨S16, .f32⟩
  | .hbm, ⟨45, _⟩ => ⟨S_, .f32⟩
  | .hbm, ⟨46, _⟩ => ⟨S16, .f32⟩
  | .hbm, ⟨47, _⟩ => ⟨S16, .f32⟩
  | .hbm, ⟨48, _⟩ => ⟨S4096x1, .f32⟩
  | .hbm, ⟨49, _⟩ => ⟨S1x16, .f32⟩
  | .hbm, ⟨50, _⟩ => ⟨S4096x16, .f32⟩
  | .hbm, ⟨51, _⟩ => ⟨S4096x16, .f32⟩
  | .hbm, ⟨52, _⟩ => ⟨S4096x16, .f32⟩
  | .hbm, ⟨53, _⟩ => ⟨S4096x1, .f32⟩
  | .hbm, ⟨54, _⟩ => ⟨S1x16, .f32⟩
  | .hbm, ⟨55, _⟩ => ⟨S4096x16, .f32⟩
  | .hbm, ⟨56, _⟩ => ⟨S4096x16, .f32⟩
  | .hbm, ⟨57, _⟩ => ⟨S4096x16, .f32⟩
  | .hbm, ⟨58, _⟩ => ⟨S4096x1x16, .f32⟩
  | .hbm, ⟨59, _⟩ => ⟨S4096x1x16, .f32⟩
  | .hbm, ⟨60, _⟩ => ⟨S4096x2x16, .f32⟩
  | .hbm, ⟨61, _⟩ => ⟨S4096x2x16, .f32⟩
  | .hbm, ⟨62, _⟩ => ⟨S4096x2x16, .f32⟩
  | .hbm, ⟨63, _⟩ => ⟨S8x4096x32x64, .f32⟩
  | .hbm, ⟨64, _⟩ => ⟨S4096x1x2x16, .f32⟩
  | .hbm, ⟨65, _⟩ => ⟨S4096x1x2x16, .f32⟩
  | .hbm, ⟨66, _⟩ => ⟨S8x4096x32x2x2x16, .f32⟩
  | .hbm, ⟨67, _⟩ => ⟨S8x4096x32x2x1x16, .f32⟩
  | .hbm, ⟨68, _⟩ => ⟨S8x4096x32x2x16, .f32⟩
  | .hbm, ⟨69, _⟩ => ⟨S8x4096x32x2x1x16, .f32⟩
  | .hbm, ⟨70, _⟩ => ⟨S8x4096x32x2x16, .f32⟩
  | .hbm, ⟨71, _⟩ => ⟨S1x4096x1x2x16, .f32⟩
  | .hbm, ⟨72, _⟩ => ⟨S8x4096x32x2x16, .f32⟩
  | .hbm, ⟨73, _⟩ => ⟨S8x4096x32x2x16, .f32⟩
  | .hbm, ⟨74, _⟩ => ⟨S1x4096x1x2x16, .f32⟩
  | .hbm, ⟨75, _⟩ => ⟨S8x4096x32x2x16, .f32⟩
  | .hbm, ⟨76, _⟩ => ⟨S8x4096x32x2x16, .f32⟩
  | .hbm, ⟨77, _⟩ => ⟨S8x4096x32x2x16, .f32⟩
  | .hbm, ⟨78, _⟩ => ⟨S1x4096x1x2x16, .f32⟩
  | .hbm, ⟨79, _⟩ => ⟨S8x4096x32x2x16, .f32⟩
  | .hbm, ⟨80, _⟩ => ⟨S8x4096x32x2x16, .f32⟩
  | .hbm, ⟨81, _⟩ => ⟨S1x4096x1x2x16, .f32⟩
  | .hbm, ⟨82, _⟩ => ⟨S8x4096x32x2x16, .f32⟩
  | .hbm, ⟨83, _⟩ => ⟨S8x4096x32x2x16, .f32⟩
  | .hbm, ⟨84, _⟩ => ⟨S8x4096x32x2x16, .f32⟩
  | .hbm, ⟨85, _⟩ => ⟨S8x4096x32x2x1x16, .f32⟩
  | .hbm, ⟨86, _⟩ => ⟨S8x4096x32x2x1x16, .f32⟩
  | .hbm, ⟨87, _⟩ => ⟨S8x4096x32x2x2x16, .f32⟩
  | .hbm, ⟨88, _⟩ => ⟨S8x4096x32x64, .f32⟩
  | .hbm, ⟨89, _⟩ => ⟨S8x4096x4x64, .f32⟩
  | .hbm, ⟨90, _⟩ => ⟨S4096x1x2x16, .f32⟩
  | .hbm, ⟨91, _⟩ => ⟨S4096x1x2x16, .f32⟩
  | .hbm, ⟨92, _⟩ => ⟨S8x4096x4x2x2x16, .f32⟩
  | .hbm, ⟨93, _⟩ => ⟨S8x4096x4x2x1x16, .f32⟩
  | .hbm, ⟨94, _⟩ => ⟨S8x4096x4x2x16, .f32⟩
  | .hbm, ⟨95, _⟩ => ⟨S8x4096x4x2x1x16, .f32⟩
  | .hbm, ⟨96, _⟩ => ⟨S8x4096x4x2x16, .f32⟩
  | .hbm, ⟨97, _⟩ => ⟨S1x4096x1x2x16, .f32⟩
  | .hbm, ⟨98, _⟩ => ⟨S8x4096x4x2x16, .f32⟩
  | .hbm, ⟨99, _⟩ => ⟨S8x4096x4x2x16, .f32⟩
  | .hbm, ⟨100, _⟩ => ⟨S1x4096x1x2x16, .f32⟩
  | .hbm, ⟨101, _⟩ => ⟨S8x4096x4x2x16, .f32⟩
  | .hbm, ⟨102, _⟩ => ⟨S8x4096x4x2x16, .f32⟩
  | .hbm, ⟨103, _⟩ => ⟨S8x4096x4x2x16, .f32⟩
  | .hbm, ⟨104, _⟩ => ⟨S1x4096x1x2x16, .f32⟩
  | .hbm, ⟨105, _⟩ => ⟨S8x4096x4x2x16, .f32⟩
  | .hbm, ⟨106, _⟩ => ⟨S8x4096x4x2x16, .f32⟩
  | .hbm, ⟨107, _⟩ => ⟨S1x4096x1x2x16, .f32⟩
  | .hbm, ⟨108, _⟩ => ⟨S8x4096x4x2x16, .f32⟩
  | .hbm, ⟨109, _⟩ => ⟨S8x4096x4x2x16, .f32⟩
  | .hbm, ⟨110, _⟩ => ⟨S8x4096x4x2x16, .f32⟩
  | .hbm, ⟨111, _⟩ => ⟨S8x4096x4x2x1x16, .f32⟩
  | .hbm, ⟨112, _⟩ => ⟨S8x4096x4x2x1x16, .f32⟩
  | .hbm, ⟨113, _⟩ => ⟨S8x4096x4x2x2x16, .f32⟩
  | .hbm, ⟨114, _⟩ => ⟨S8x4096x4x64, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S8x4096x32x64, .f32⟩
  | .hbm, ⟨120, _⟩ => ⟨S8x4096x32x64, .f32⟩
  | .hbm, ⟨121, _⟩ => ⟨S8x4096x2048, .f32⟩
  | .hbm, ⟨122, _⟩ => ⟨S8x4096x256, .f32⟩
  | .hbm, ⟨123, _⟩ => ⟨S8x4096x2560, .f32⟩
  | .hbm, ⟨124, _⟩ => ⟨S32768x2560, .f32⟩
  | .hbm, ⟨125, _⟩ => ⟨S32768x2560, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_cst_6 : Ref sig .tc := ⟨.hbm, 115, rfl⟩
abbrev main_v104 : Ref sig .tc := ⟨.hbm, 116, rfl⟩
abbrev main_cst_7 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩

abbrev nD : Nat := 1
abbrev τ : Topo := Topo.v7x

variable {F : FTy → Type} [FloatOps F]
-- ==== Proof.CtxBlock.lean ====
module
public import proofs.«01_k».proof.Proof.Gen.KernelCtxIdeal.Frame
public import Idealize.ShloMosaic.Lib.Pipeline.ValueKit

/-! What one grid point of the context attention kernel leaves in its output block: sixteen tiles of 128 columns,
    two heads each, cut from four groups of eight heads. A group's result is one function of its keys, its values,
    its eight queries and its eight sinks. -/

@[expose] public section

set_option maxRecDepth 16384

noncomputable section

namespace Cert.CtxBlock

open Idealize.ShloMosaic Idealize.ShloMosaic.TcCoe Idealize.SL.Sem
open Idealize.ShloMosaic.Pipeline (Dat)
open Cert.KernelCtxIdeal Cert.KernelCtxIdeal.Gen

/-- The sinks of a group's eight heads, each in base two, as the kernel lays them out: head `h` at row `h`. -/
def sinks (s : Fin 8 → EReal) : FVec Ideal S8x1x1 .f32 :=
  let one (h : BitVec 32) (x : EReal) (z : FVec Ideal S8x1x1 .f32) : FVec Ideal S8x1x1 .f32 :=
    select (cmpi .eq (iota .tc S8x1x1 32 [0] iota_S8x1x1_d0_w32) (broadcast S8x1x1 h))
      (broadcast S8x1x1 (Scalar.mulf x (Named.named (F := Ideal) κ "log2e" 0x3FB8AA3B#32))) z
  one 7#32 (s 7) (one 6#32 (s 6) (one 5#32 (s 5) (one 4#32 (s 4) (one 3#32 (s 3) (one 2#32 (s 2) (one 1#32 (s 1)
    (one 0#32 (s 0) (broadcast S8x1x1 (Scalar.ofBits (F := Ideal) .f32 0x00000000#32)))))))))

/-- A head's queries with the kernel's scale on them. -/
def scaled (q : FVec Ideal S256x64 .bf16) : FVec Ideal S256x64 .bf16 :=
  truncf .bf16 (mulf (extf .f32 q bitsLt_bf16_f32)
    (broadcast S256x64 (Named.named (F := Ideal) κ "q_scale" 0x3E38AA3B#32))) bitsLt_bf16_f32

/-- The scores of a group: eight heads' queries stacked, against the group's keys. -/
def scores (k : FVec Ideal S256x64 .bf16) (q : Fin 8 → FVec Ideal S256x64 .bf16) : FVec Ideal S8x256x256 .f32 :=
  shapeCast S8x256x256 (matmul dot_S2048x64_S256x64_S2048x256_1_1_0_0_n_n none
    (concatenate S2048x64 0 [⟨S256x64, scaled (q 0)⟩, ⟨S256x64, scaled (q 1)⟩, ⟨S256x64, scaled (q 2)⟩, ⟨S256x64, scaled (q 3)⟩,
      ⟨S256x64, scaled (q 4)⟩, ⟨S256x64, scaled (q 5)⟩, ⟨S256x64, scaled (q 6)⟩, ⟨S256x64, scaled (q 7)⟩]
      concatenates_S256x64_S256x64_S256x64_S256x64_S256x64_S256x64_S256x64_S256x64_S2048x64_d0)
    k (constant (F := Ideal) S2048x256 .f32 0x00000000#32)) shapeCasts_S2048x256_S8x256x256

/-- The greatest score of each row, the sink among them. -/
def tops (sc : FVec Ideal S8x256x256 .f32) (sk : FVec Ideal S8x1x1 .f32) : FVec Ideal S8x256x1 .f32 :=
  maximumf (shapeCast S8x256x1 (multiReduction .maximumf [2] S8x256 sc 0xFF800000#32 reduces_S8x256x256_S8x256 (.inl rfl) rfl)
    shapeCasts_S8x256_S8x256x1) (broadcastTo S8x256x1 sk broadcasts_S8x1x1_S8x256x1)

/-- The powers of two of the scores against the values and, beside them, a column of ones. -/
def sums (v : FVec Ideal S256x64 .bf16) (sc : FVec Ideal S8x256x256 .f32) (mx : FVec Ideal S8x256x1 .f32) :
    FVec Ideal S8x256x128 .f32 :=
  shapeCast S8x256x128 (matmul dot_S2048x256_S256x128_S2048x128_1_0_0_1_n_n none
    (shapeCast S2048x256 (truncf .bf16 (exp2 (subf sc (broadcastTo S8x256x256 mx broadcasts_S8x256x1_S8x256x256)))
      bitsLt_bf16_f32) shapeCasts_S8x256x256_S2048x256)
    (concatenate S256x128 1 [⟨S256x64, v⟩, ⟨S256x64, k0_pay1 (F := Ideal)⟩] concatenates_S256x64_S256x64_S256x128_d1)
    (constant (F := Ideal) S2048x128 .f32 0x00000000#32)) shapeCasts_S2048x128_S8x256x128

/-- The weighted sums divided by the sums of the weights, the sink's among them. -/
def quotient (acc : FVec Ideal S8x256x128 .f32) (sk : FVec Ideal S8x1x1 .f32) (mx : FVec Ideal S8x256x1 .f32) :
    FVec Ideal S8x256x64 .f32 :=
  divf (extractStridedSlice S8x256x64 ![0, 0, 0] acc slices_S8x256x128_o0_0_0_S8x256x64)
    (broadcastTo S8x256x64
      (addf (extractStridedSlice S8x256x1 ![0, 0, 64] acc slices_S8x256x128_o0_0_64_S8x256x1)
        (exp2 (subf (broadcastTo S8x256x1 sk broadcasts_S8x1x1_S8x256x1) mx))) broadcasts_S8x256x1_S8x256x64)

/-- A group's attention: eight heads, 256 queries, 64 columns. -/
def group (k v : FVec Ideal S256x64 .bf16) (q : Fin 8 → FVec Ideal S256x64 .bf16) (s : Fin 8 → EReal) :
    FVec Ideal S8x256x64 .f32 :=
  quotient (sums v (scores k q) (tops (scores k q) (sinks s))) (sinks s) (tops (scores k q) (sinks s))

/-- A tile: two of a group's heads side by side. -/
def tile (o : FVec Ideal S8x256x64 .f32) (a b : Nat) (ha : S8x256x64.Slices ![a, 0, 0] S1x256x64)
    (hb : S8x256x64.Slices ![b, 0, 0] S1x256x64) : FVec Ideal S256x128 .bf16 :=
  truncf .bf16 (concatenate S256x128 1
    [⟨S256x64, shapeCast S256x64 (extractStridedSlice S1x256x64 ![a, 0, 0] o ha) shapeCasts_S1x256x64_S256x64⟩,
     ⟨S256x64, shapeCast S256x64 (extractStridedSlice S1x256x64 ![b, 0, 0] o hb) shapeCasts_S1x256x64_S256x64⟩]
    concatenates_S256x64_S256x64_S256x128_d1) bitsLt_bf16_f32

set_option pp.maxSteps 300
variable (m : (ℓ : Loc nD τ sig) → Buf (Elt Ideal) ℓ) (c : Dev nD) (t : Fin cfg0.N)

/-- The 64 columns of the keys (or the values) that group `g` reads. -/
def columns (x : Vec Ideal S256x256 .bf16) (g : Fin 4) : FVec Ideal S256x64 .bf16 :=
  extractStridedSlice S256x64 ![0, 64 * g.val] x ⟨rfl, fun a => by fin_cases a <;> fin_cases g <;> decide⟩

/-- Head `h`'s query columns in a block of queries. -/
def query (x : Vec Ideal S256x2048 .bf16) (h : Fin 32) : FVec Ideal S256x64 .bf16 :=
  View.ld x (Rect.unit ![0, 64 * h.val] S256x64.size (by intro a; have := h.isLt; fin_cases a <;> simp <;> omega))

/-- Head `h`'s sink. -/
def sink (x : Vec Ideal S32 .f32) (h : Fin 32) : EReal :=
  View.ld x (Rect.unit ![h.val] S1.size (by intro a; have := h.isLt; fin_cases a; simp)) (Shape.Idx.first (show 0 < S1.numel by decide))

/-- Head `h` of group `g`. -/
def headOf (g : Fin 4) (h : Fin 8) : Fin 32 := ⟨8 * g.val + h.val, by omega⟩

/-- Group `g` at a grid point. -/
def groupAt (g : Fin 4) : FVec Ideal S8x256x64 .f32 :=
  group (columns (iblk m c 2 t) g) (columns (iblk m c 3 t) g) (fun h => query (X0_1 m c t) (headOf g h))
    (fun h => sink (iblk m c 0 t) (headOf g h))

/-- What the sixteen stores of one grid point leave. -/
def tiles (o : Fin 4 → FVec Ideal S8x256x64 .f32) : Vec Ideal S256x2048 .bf16 :=
  View.canon (Val := Elt Ideal) (s := S256x2048) (e := .bf16) [
    ⟨Rect.unit (s := S256x2048) ![0, 1920] S256x128.size inb_S256x2048_S256x128_0_1920, tile (o 3) 6 7 slices_S8x256x64_o6_0_0_S1x256x64 slices_S8x256x64_o7_0_0_S1x256x64⟩,
    ⟨Rect.unit (s := S256x2048) ![0, 1792] S256x128.size inb_S256x2048_S256x128_0_1792, tile (o 3) 4 5 slices_S8x256x64_o4_0_0_S1x256x64 slices_S8x256x64_o5_0_0_S1x256x64⟩,
    ⟨Rect.unit (s := S256x2048) ![0, 1664] S256x128.size inb_S256x2048_S256x128_0_1664, tile (o 3) 2 3 slices_S8x256x64_o2_0_0_S1x256x64 slices_S8x256x64_o3_0_0_S1x256x64⟩,
    ⟨Rect.unit (s := S256x2048) ![0, 1536] S256x128.size inb_S256x2048_S256x128_0_1536, tile (o 3) 0 1 slices_S8x256x64_o0_0_0_S1x256x64 slices_S8x256x64_o1_0_0_S1x256x64⟩,
    ⟨Rect.unit (s := S256x2048) ![0, 1408] S256x128.size inb_S256x2048_S256x128_0_1408, tile (o 2) 6 7 slices_S8x256x64_o6_0_0_S1x256x64 slices_S8x256x64_o7_0_0_S1x256x64⟩,
    ⟨Rect.unit (s := S256x2048) ![0, 1280] S256x128.size inb_S256x2048_S256x128_0_1280, tile (o 2) 4 5 slices_S8x256x64_o4_0_0_S1x256x64 slices_S8x256x64_o5_0_0_S1x256x64⟩,
    ⟨Rect.unit (s := S256x2048) ![0, 1152] S256x128.size inb_S256x2048_S256x128_0_1152, tile (o 2) 2 3 slices_S8x256x64_o2_0_0_S1x256x64 slices_S8x256x64_o3_0_0_S1x256x64⟩,
    ⟨Rect.unit (s := S256x2048) ![0, 1024] S256x128.size inb_S256x2048_S256x128_0_1024, tile (o 2) 0 1 slices_S8x256x64_o0_0_0_S1x256x64 slices_S8x256x64_o1_0_0_S1x256x64⟩,
    ⟨Rect.unit (s := S256x2048) ![0, 896] S256x128.size inb_S256x2048_S256x128_0_896, tile (o 1) 6 7 slices_S8x256x64_o6_0_0_S1x256x64 slices_S8x256x64_o7_0_0_S1x256x64⟩,
    ⟨Rect.unit (s := S256x2048) ![0, 768] S256x128.size inb_S256x2048_S256x128_0_768, tile (o 1) 4 5 slices_S8x256x64_o4_0_0_S1x256x64 slices_S8x256x64_o5_0_0_S1x256x64⟩,
    ⟨Rect.unit (s := S256x2048) ![0, 640] S256x128.size inb_S256x2048_S256x128_0_640, tile (o 1) 2 3 slices_S8x256x64_o2_0_0_S1x256x64 slices_S8x256x64_o3_0_0_S1x256x64⟩,
    ⟨Rect.unit (s := S256x2048) ![0, 512] S256x128.size inb_S256x2048_S256x128_0_512, tile (o 1) 0 1 slices_S8x256x64_o0_0_0_S1x256x64 slices_S8x256x64_o1_0_0_S1x256x64⟩,
    ⟨Rect.unit (s := S256x2048) ![0, 384] S256x128.size inb_S256x2048_S256x128_0_384, tile (o 0) 6 7 slices_S8x256x64_o6_0_0_S1x256x64 slices_S8x256x64_o7_0_0_S1x256x64⟩,
    ⟨Rect.unit (s := S256x2048) ![0, 256] S256x128.size inb_S256x2048_S256x128_0_256, tile (o 0) 4 5 slices_S8x256x64_o4_0_0_S1x256x64 slices_S8x256x64_o5_0_0_S1x256x64⟩,
    ⟨Rect.unit (s := S256x2048) ![0, 128] S256x128.size inb_S256x2048_S256x128_0_128, tile (o 0) 2 3 slices_S8x256x64_o2_0_0_S1x256x64 slices_S8x256x64_o3_0_0_S1x256x64⟩,
    ⟨Rect.unit (s := S256x2048) ![0, 0] S256x128.size inb_S256x2048_S256x128_0_0, tile (o 0) 0 1 slices_S8x256x64_o0_0_0_S1x256x64 slices_S8x256x64_o1_0_0_S1x256x64⟩]

/-- One grid point's output block is the sixteen tiles of its four groups. -/
theorem outs_eq (y : S256x2048.Idx) : outsAt0 m c t y = tiles (groupAt m c t) y := by
  unfold outsAt0
  frame_out
  rfl

end Cert.CtxBlock
end
-- ==== Proof.AttnMath.lean ====
module
public import Idealize.ShloMosaic.Lib.Pipeline.ValueKit

/-! The mathematics of an attention row with a sink, over the extended reals: one row of scores, each a real
    number or (where the mask forbids the key) `-∞`, a sink score, and values that may be anything. Nothing here
    mentions a program. -/

@[expose] public section

noncomputable section

namespace Cert.AttnMath

open Idealize.ShloMosaic

variable {ι : Type} [Fintype ι] (P : ι → Prop) [DecidablePred P] (x : ι → ℝ) (σ : ℝ)

/-- The weight of key `j` before normalising: two to its score where the mask allows it, nothing elsewhere. -/
def weight (j : ι) : ℝ := if P j then Real.rpow 2 (x j) else 0

/-- The normaliser: the weights of all keys and of the sink. -/
def total : ℝ := (∑ j, weight P x j) + Real.rpow 2 σ

/-- What attention returns: the mean of the values under the normalised weights, the sink carrying no value. -/
def attend (v : ι → EReal) : EReal := ∑ j, ((weight P x j / total P x σ : ℝ) : EReal) * v j

/-- A score as a program holds it: a real number, or `-∞` for a forbidden key. -/
def masked (j : ι) : EReal := if P j then ((x j : ℝ) : EReal) else ⊥

omit [Fintype ι] in
/-- A weight is not negative. -/
theorem weight_nonneg (j : ι) : 0 ≤ weight P x j := by
  unfold weight
  split
  · exact Real.rpow_nonneg (by norm_num) _
  · exact le_rfl

/-- The sink makes the normaliser positive. -/
theorem total_pos : 0 < total P x σ :=
  add_pos_of_nonneg_of_pos (Finset.sum_nonneg fun j _ => weight_nonneg P x j)
    (Real.rpow_pos_of_pos (by norm_num) _)

/-- A real factor that is not negative goes into a sum of extended reals. -/
theorem coe_mul_sum {κ : Type} (s : Finset κ) (a : ℝ) (ha : 0 ≤ a) (f : κ → EReal) :
    (a : EReal) * ∑ j ∈ s, f j = ∑ j ∈ s, (a : EReal) * f j := by
  classical
  induction s using Finset.induction_on with
  | empty => simp
  | insert k s hk ih =>
    rw [Finset.sum_insert hk, Finset.sum_insert hk,
      EReal.left_distrib_of_nonneg_of_ne_top (EReal.coe_nonneg.mpr ha) (EReal.coe_ne_top a), ih]

/-- The greatest of the scores and a real sink is a real number. -/
theorem max_real (s : ι → EReal) (hs : ∀ j, s j ≠ ⊤) :
    ∃ r : ℝ, max (Finset.univ.fold max ⊥ s) (σ : EReal) = r := by
  have htop : max (Finset.univ.fold max ⊥ s) (σ : EReal) ≠ ⊤ := by
    refine ne_of_lt (max_lt ?_ (EReal.coe_lt_top σ))
    exact (Finset.fold_max_lt ⊤).mpr ⟨bot_lt_top, fun j _ => lt_top_iff_ne_top.mpr (hs j)⟩
  have hbot : max (Finset.univ.fold max ⊥ s) (σ : EReal) ≠ ⊥ :=
    ne_of_gt (lt_of_lt_of_le (EReal.bot_lt_coe σ) (le_max_right _ _))
  exact ⟨_, (EReal.coe_toReal htop hbot).symm⟩

omit [Fintype ι] in
/-- A masked score is never `+∞`. -/
theorem masked_ne_top (j : ι) : masked P x j ≠ ⊤ := by
  unfold masked
  split
  · exact EReal.coe_ne_top _
  · exact bot_ne_top

omit [Fintype ι] in
/-- Two to a masked score less a real `r` is the weight times two to `-r`. -/
theorem exp2_masked (r : ℝ) (j : ι) :
    Ideal.exp2 (masked P x j - (r : EReal)) = ((Real.rpow 2 (-r) * weight P x j : ℝ) : EReal) := by
  unfold masked weight
  split
  · rw [← EReal.coe_sub, Ideal.exp2_coe, sub_eq_neg_add]
    congr 1
    exact Real.rpow_add (by norm_num) _ _
  · rw [EReal.bot_sub]
    simp

omit [Fintype ι] in
/-- `e` to (the score, rescaled by `log 2`, less a real `r`) is the weight times `e` to `-r`. -/
theorem exp_masked (r : ℝ) (j : ι) :
    Ideal.exp (masked P (fun j => Real.log 2 * x j) j - (r : EReal))
      = ((Real.exp (-r) * weight P x j : ℝ) : EReal) := by
  unfold masked weight
  split
  · rw [← EReal.coe_sub, Ideal.exp_coe, sub_eq_neg_add, Real.exp_add]
    congr 2
    exact (Real.rpow_def_of_pos (by norm_num) _).symm
  · rw [EReal.bot_sub]
    simp

/-- The quotient a normaliser scaled by `c` and a weighted sum scaled by `c` leave is the attention row. -/
theorem div_scaled (c : ℝ) (hc : 0 < c) (v : ι → EReal) :
    Ideal.div (∑ j, ((c * weight P x j : ℝ) : EReal) * v j) ((c * total P x σ : ℝ) : EReal) = attend P x σ v := by
  have hd : c * total P x σ ≠ 0 := (mul_pos hc (total_pos P x σ)).ne'
  have hinv : 0 ≤ (c * total P x σ)⁻¹ := inv_nonneg.mpr (mul_pos hc (total_pos P x σ)).le
  unfold Ideal.div attend
  rw [if_neg (by exact_mod_cast hd), ← EReal.coe_inv, mul_comm, coe_mul_sum _ _ hinv]
  refine Finset.sum_congr rfl fun j _ => ?_
  rw [← mul_assoc, ← EReal.coe_mul]
  congr 2
  field_simp

/-- The sum of the scaled weights and the scaled sink is the scaled normaliser. -/
theorem sum_scaled (c : ℝ) :
    (∑ j, ((c * weight P x j : ℝ) : EReal)) + ((c * Real.rpow 2 σ : ℝ) : EReal) = ((c * total P x σ : ℝ) : EReal) := by
  unfold total
  rw [mul_add, EReal.coe_add, Finset.mul_sum]
  congr 1
  exact (map_sum (⟨⟨Real.toEReal, EReal.coe_zero⟩, EReal.coe_add⟩ : ℝ →+ EReal) _ _).symm

/-- The row as the kernel computes it: powers of two of the scores less a real number (their maximum), summed
    against the values, and divided by their own sum (a sum against ones) plus the sink's power. -/
theorem row_pow2 (v : ι → EReal) (M : EReal)
    (hM : ∃ r : ℝ, M = r) :
    Ideal.div (∑ j, Ideal.exp2 (masked P x j - M) * v j)
      ((∑ j, Ideal.exp2 (masked P x j - M)) + Ideal.exp2 ((σ : EReal) - M)) = attend P x σ v := by
  obtain ⟨r, rfl⟩ := hM
  simp only [exp2_masked]
  have hs : Ideal.exp2 ((σ : EReal) - (r : EReal)) = ((Real.rpow 2 (-r) * Real.rpow 2 σ : ℝ) : EReal) := by
    rw [← EReal.coe_sub, Ideal.exp2_coe, sub_eq_neg_add]
    congr 1
    exact Real.rpow_add (by norm_num) _ _
  rw [hs, sum_scaled, div_scaled P x σ (Real.rpow 2 (-r)) (Real.rpow_pos_of_pos (by norm_num) _)]

/-- The row as a softmax over the keys and the sink, shifted by any real number: each exponential divided by the sum of all before it
    multiplies its value. -/
theorem row_softmax (v : ι → EReal) (M : EReal)
    (hM : ∃ r : ℝ, M = r) :
    ∑ j, Ideal.div (Ideal.exp (masked P (fun j => Real.log 2 * x j) j - M))
        ((∑ j, Ideal.exp (masked P (fun j => Real.log 2 * x j) j - M))
          + Ideal.exp (((Real.log 2 * σ : ℝ) : EReal) - M)) * v j = attend P x σ v := by
  obtain ⟨r, rfl⟩ := hM
  simp only [exp_masked]
  have hs : Ideal.exp (((Real.log 2 * σ : ℝ) : EReal) - (r : EReal))
      = ((Real.exp (-r) * Real.rpow 2 σ : ℝ) : EReal) := by
    rw [← EReal.coe_sub, Ideal.exp_coe, sub_eq_neg_add, Real.exp_add]
    congr 2
    exact (Real.rpow_def_of_pos (by norm_num) _).symm
  have hd : Real.exp (-r) * total P x σ ≠ 0 := (mul_pos (Real.exp_pos _) (total_pos P x σ)).ne'
  rw [hs, sum_scaled]
  unfold attend
  refine Finset.sum_congr rfl fun j _ => ?_
  congr 1
  unfold Ideal.div
  rw [if_neg (by exact_mod_cast hd), ← EReal.coe_inv, ← EReal.coe_mul]
  congr 1
  have := (Real.exp_pos (-r)).ne'
  have := (total_pos P x σ).ne'
  field_simp

/-- A row of the kernel's attention, from its scores, its sink in base two and its values. -/
def row {n : Nat} (S : Fin n → EReal) (sk : EReal) (v : Fin n → EReal) : EReal :=
  let M := max (Finset.univ.fold max ⊥ S) sk
  Ideal.div (∑ j, Ideal.exp2 (S j - M) * v j) ((∑ j, Ideal.exp2 (S j - M)) + Ideal.exp2 (sk - M))

/-- The kernel's row is the attention row, when its scores are the masked scores and its sink is real. -/
theorem row_eq {n : Nat} (P : Fin n → Prop) [DecidablePred P] (x : Fin n → ℝ) (σ : ℝ) (v S : Fin n → EReal) (sk : EReal)
    (hS : ∀ j, S j = masked P x j) (hsk : sk = (σ : EReal)) : row S sk v = attend P x σ v := by
  obtain rfl : S = masked P x := funext hS
  subst hsk
  unfold row
  exact row_pow2 P x σ v _ (max_real σ _ (masked_ne_top P x))

/-- A softmax over the keys and the sink as the last key, the sink's weight then left out, is the attention row, when the
    scores are the masked scores in natural units. -/
theorem softmax_eq {n : Nat} (P : Fin n → Prop) [DecidablePred P] (x : Fin n → ℝ) (σ : ℝ) (v : Fin n → EReal)
    (a : Fin (n + 1) → EReal) (M : EReal) (hM : ∃ r : ℝ, M = r)
    (ha : ∀ j : Fin n, a j.castSucc = masked P (fun j => Real.log 2 * x j) j) (hs : a (Fin.last n) = ((Real.log 2 * σ : ℝ) : EReal)) :
    ∑ j : Fin n, v j * Ideal.div (Ideal.exp (a j.castSucc - M)) (∑ k, Ideal.exp (a k - M)) = attend P x σ v := by
  rw [Fin.sum_univ_castSucc]
  simp only [ha, hs]
  rw [← row_softmax P x σ v M hM]
  exact Finset.sum_congr rfl fun j _ => mul_comm _ _

/-- A sum of real numbers, as extended reals. -/
theorem coe_sum {κ : Type} (s : Finset κ) (f : κ → ℝ) : ((∑ k ∈ s, f k : ℝ) : EReal) = ∑ k ∈ s, (f k : EReal) :=
  map_sum (⟨⟨Real.toEReal, EReal.coe_zero⟩, EReal.coe_add⟩ : ℝ →+ EReal) _ _

/-- Carrying a natural-units number to base two and back. -/
theorem log_two_ne : Real.log 2 ≠ 0 := (Real.log_pos (by norm_num)).ne'

/-- An extended real whose absolute value a program finds below infinity is a real number. -/
theorem real_of_below (x : EReal) (h : BitVec.ofBool (decide (max x (-x) < Ideal.ofBits .f32 0x7F800000#32)) = 1#1) :
    ∃ r : ℝ, x = r := by
  have ht : Ideal.ofBits .f32 0x7F800000#32 = ⊤ := by simp [Ideal.ofBits, Ideal.ieee]
  rw [ht] at h
  have hlt : max x (-x) < ⊤ := by
    by_contra hc
    simp [hc] at h
  have h1 : x ≠ ⊤ := ne_of_lt (lt_of_le_of_lt (le_max_left _ _) hlt)
  have h2 : x ≠ ⊥ := by
    rintro rfl
    simp at hlt
  exact ⟨x.toReal, (EReal.coe_toReal h1 h2).symm⟩

/-- The pattern the row maxima start from is `-∞`. -/
theorem ofBits_neg_inf : Ideal.ofBits .f32 0xFF800000#32 = ⊥ := by
  simp [Ideal.ofBits, Ideal.ieee]

/-- One eighth, as the program writes it. -/
theorem ofBits_eighth : Ideal.ofBits FTy.f32 0x3E000000#32 = ((1 / 8 : ℝ) : EReal) := by
  simp [Ideal.ofBits, Ideal.ieee]
  rw [← EReal.coe_mul]
  norm_num

/-- A maximum over some axes is a real number when nothing is +∞ and one entry of the row is not −∞. -/
theorem reduce_max_real {s t u : Shape} {axes : List (Fin s.rank)} (f : EReal → EReal → EReal) (hf : f = max) (a : s.Idx → EReal) (init : u.Idx → EReal) (h : s.ReducesTo axes t)
    (hu : 0 < u.numel) (j : t.Idx) (hi : init (Shape.Idx.first hu) = ⊥) (ht : ∀ k, a k ≠ ⊤) (k : s.Idx) (hk : h.drop k = j)
    (hb : a k ≠ ⊥) : ∃ M : ℝ, Host.reduce f a init h hu j = M := by
  subst hf
  rw [Host.reduce_eq_fold, hi]
  generalize hM : Finset.fold max ⊥ a _ = M
  have h1 : M < ⊤ := by
    rw [← hM]
    exact (Finset.fold_max_lt ⊤).mpr ⟨bot_lt_top, fun x _ => lt_top_iff_ne_top.mpr (ht x)⟩
  have h2 : ⊥ < M := by
    rw [← hM]
    exact (Finset.lt_fold_max ⊥).mpr (Or.inr ⟨k, by simp [hk], bot_lt_iff_ne_bot.mpr hb⟩)
  exact ⟨M.toReal, (EReal.coe_toReal h1.ne h2.ne').symm⟩

/-- The greater of two arrays, at an index. -/
theorem maximumf_apply {s : Shape} {φ : FTy} (x y : FVec Ideal s φ) (i : s.Idx) :
    maximumf x y i = (max (x i : EReal) (y i : EReal) : EReal) := rfl

/-- Keys the mask forbids may be left out: attention over some of the keys is attention over all of them when every allowed
    key is among those. -/
theorem attend_of_injective {κ : Type} [Fintype κ] (f : κ → ι) (hf : Function.Injective f) (hP : ∀ k, P k → k ∈ Set.range f)
    (v : ι → EReal) : attend (fun j => P (f j)) (fun j => x (f j)) σ (fun j => v (f j)) = attend P x σ v := by
  have hw : ∀ j, weight (fun j => P (f j)) (fun j => x (f j)) j = weight P x (f j) := fun _ => rfl
  have h0 : ∀ k, k ∉ Set.range f → weight P x k = 0 := fun k hk => if_neg fun h => hk (hP k h)
  have ht : total (fun j => P (f j)) (fun j => x (f j)) σ = total P x σ := by
    unfold total
    rw [Fintype.sum_of_injective f hf _ (weight P x) h0 hw]
  unfold attend
  refine Fintype.sum_of_injective f hf _ _ (fun k hk => ?_) (fun j => ?_)
  · rw [h0 k hk]
    simp
  · rw [ht, hw]

end Cert.AttnMath

end
-- ==== Proof.CtxRead.lean ====
module
public import proofs.«01_k».proof.Proof.CtxBlock
public import proofs.«01_k».proof.Proof.AttnMath

@[expose] public section

set_option maxRecDepth 16384

noncomputable section

namespace Cert.CtxBlock

open Idealize.ShloMosaic Idealize.ShloMosaic.TcCoe Idealize.SL.Sem
open Idealize.ShloMosaic.Pipeline (Dat)
open Cert.KernelCtxIdeal Cert.KernelCtxIdeal.Gen Cert.AttnMath

/-- The scale the kernel puts on a query: an eighth, in base two. -/
theorem q_scale : Named.named (F := Ideal) κ "q_scale" (φ := .f32) 0x3E38AA3B#32 = (((1 / 8) * (Real.log 2)⁻¹ : ℝ) : EReal) :=
  IdealRules.named_const.ideal_named_scalar _ _ _ _ rfl

/-- The factor that carries a sink to base two. -/
theorem log2e : Named.named (F := Ideal) κ "log2e" (φ := .f32) 0x3FB8AA3B#32 = (((Real.log 2)⁻¹ : ℝ) : EReal) :=
  IdealRules.named_const.ideal_named_scalar _ _ _ _ rfl

/-- The score of query `r` of head `h` against key `j`. -/
def score (k : FVec Ideal S256x64 .bf16) (q : FVec Ideal S256x64 .bf16) (r j : Fin 256) : EReal :=
  ∑ x : Fin 64, (q (ix2 r x) * (((1 / 8) * (Real.log 2)⁻¹ : ℝ) : EReal)) * k (ix2 j x)

/-- A group's scores at a head, a query and a key. -/
theorem scores_apply (k : FVec Ideal S256x64 .bf16) (q : Fin 8 → FVec Ideal S256x64 .bf16) (h : Fin 8) (r j : Fin 256) :
    scores k q (ix3 h r j) = score k (q h) r j := by
  have pick : ∀ (x : Fin 64) (i : Fin 8) (a : Fin 256), i.val = h.val → a.val = r.val →
      q i (ix2 a x) * Named.named (F := Ideal) κ "q_scale" (φ := .f32) 0x3E38AA3B#32
        = q h (ix2 r x) * (((1 / 8) * (Real.log 2)⁻¹ : ℝ) : EReal) := by
    intro x i a hi ha
    rw [Fin.ext hi, Fin.ext ha, q_scale]
  have hh := h.isLt
  have hr := r.isLt
  pointwise [scores, scaled]
  unfold score
  refine Finset.sum_congr rfl fun x _ => ?_
  congr 1
  repeat' split
  all_goals exact pick x _ _ (by simp; omega) (by simp; omega)

/-- A group's sinks at a head. -/
theorem sinks_apply (s : Fin 8 → EReal) (h : Fin 8) (a b : Fin 1) :
    sinks s (ix3 h a b) = s h * (((Real.log 2)⁻¹ : ℝ) : EReal) := by
  rw [← log2e]
  fin_cases h <;> pointwise [sinks] <;> rfl

/-- The greatest score of a row at a head and a query. -/
theorem tops_apply (sc : FVec Ideal S8x256x256 .f32) (sk : FVec Ideal S8x1x1 .f32) (h : Fin 8) (r : Fin 256) (a : Fin 1) :
    tops sc sk (ix3 h r a) = max (Finset.univ.fold max ⊥ fun j : Fin 256 => sc (ix3 h r j)) (sk (ix3 h 0 0)) := by
  pointwise [tops]
  rw [ofBits_neg_inf]

/-- The sums against the values at a head, a query and a column of the values. -/
theorem sums_values (v : FVec Ideal S256x64 .bf16) (sc : FVec Ideal S8x256x256 .f32) (mx : FVec Ideal S8x256x1 .f32)
    (h : Fin 8) (r : Fin 256) (d : Fin 128) (hd : d.val < 64) :
    sums v sc mx (ix3 h r d)
      = ∑ j : Fin 256, Ideal.exp2 (sc (ix3 h r j) - mx (ix3 h r 0)) * v (ix2 j ⟨d.val, hd⟩) := by
  pointwise [sums, k0_pay1]
  simp only [dif_pos hd]
  rfl

/-- The sums against the column of ones, at a head and a query. -/
theorem sums_ones (v : FVec Ideal S256x64 .bf16) (sc : FVec Ideal S8x256x256 .f32) (mx : FVec Ideal S8x256x1 .f32)
    (h : Fin 8) (r : Fin 256) :
    sums v sc mx (ix3 h r 64) = ∑ j : Fin 256, Ideal.exp2 (sc (ix3 h r j) - mx (ix3 h r 0)) := by
  pointwise [sums, k0_pay1]
  refine Finset.sum_congr rfl fun j _ => ?_
  rfl

/-- The quotient at a head, a query and a column. -/
theorem quotient_apply (acc : FVec Ideal S8x256x128 .f32) (sk : FVec Ideal S8x1x1 .f32) (mx : FVec Ideal S8x256x1 .f32)
    (h : Fin 8) (r : Fin 256) (d : Fin 64) :
    quotient acc sk mx (ix3 h r d)
      = Ideal.div (acc (ix3 h r ⟨d.val, by omega⟩)) (acc (ix3 h r 64) + Ideal.exp2 (sk (ix3 h 0 0) - mx (ix3 h r 0))) := by
  pointwise [quotient]
  rfl

/-- A group's attention at a head, a query and a column. -/
theorem group_apply (k v : FVec Ideal S256x64 .bf16) (q : Fin 8 → FVec Ideal S256x64 .bf16) (s : Fin 8 → EReal)
    (h : Fin 8) (r : Fin 256) (d : Fin 64) :
    group k v q s (ix3 h r d)
      = row (fun j => score k (q h) r j) (s h * (((Real.log 2)⁻¹ : ℝ) : EReal)) (fun j => v (ix2 j d)) := by
  unfold group row
  rw [quotient_apply, sums_ones, sums_values _ _ _ _ _ _ d.isLt, sinks_apply]
  simp only [tops_apply, scores_apply, sinks_apply]

/-- A tile at a query and a lane. -/
theorem tile_apply (o : FVec Ideal S8x256x64 .f32) (a b : Nat) (ha : S8x256x64.Slices ![a, 0, 0] S1x256x64)
    (hb : S8x256x64.Slices ![b, 0, 0] S1x256x64) (h : Fin 8) (r : Fin 256) (d : Fin 64) (e : S256x128.Idx)
    (h0 : (e 0 : ℕ) = r) (h1 : h.val = a ∧ (e 1 : ℕ) = d ∨ h.val = b ∧ (e 1 : ℕ) = 64 + d) :
    tile o a b ha hb e = o (ix3 h r d) := by
  pointwise [tile]
  have := d.isLt
  split
  · congr 2 <;> apply Fin.ext <;> simp <;> omega
  · congr 2 <;> apply Fin.ext <;> simp <;> omega

/-- The output block at a query and a column: the column's group, its head and its column there. -/
theorem tiles_apply (o : Fin 4 → FVec Ideal S8x256x64 .f32) (y : S256x2048.Idx) (g : Fin 4) (h : Fin 8) (r : Fin 256)
    (d : Fin 64) (h0 : (y 0 : ℕ) = r) (h1 : (y 1 : ℕ) = 512 * g.val + 64 * h.val + d) :
    tiles o y = o g (ix3 h r d) := by
  have := g.isLt
  have := h.isLt
  have := d.isLt
  have pick : ∀ (a : Fin 4) (f : EReal), a.val = g.val → f = o a (ix3 h r d) → f = o g (ix3 h r d) := by
    intro a f ha hp
    rw [← Fin.ext ha]; exact hp
  unfold tiles
  canon_tiles x hx
  all_goals exact pick _ _ (by simp; omega) (tile_apply _ _ _ _ _ h r d x (by omega) (by omega))

end Cert.CtxBlock
end
-- ==== Proof.CtxArray.lean ====
module
public import proofs.«01_k».proof.Proof.CtxRead
public import proofs.«01_k».proof.Proof.Gen.KernelCtxIdeal.Value

/-! The context kernel's result array, at an index, as a function of the projections and the sinks. -/

@[expose] public section

set_option maxRecDepth 16384

noncomputable section

namespace Cert.CtxArray

open Idealize.ShloMosaic Idealize.ShloMosaic.TcCoe Idealize.SL.Sem
open Idealize.ShloMosaic.Pipeline (Dat)
open Cert.KernelCtxIdeal Cert.KernelCtxIdeal.Gen Cert.AttnMath Cert.CtxBlock

/-- Which blocks a grid point reads and writes: sequence `t` everywhere, the keys and the values being the ninth and
    the tenth of the column blocks. -/
theorem idx : ∀ t : Fin cfg0.N, win0_0.index t = ![0] ∧ win0_1.index t = ![t.val, 0] ∧ win0_2.index t = ![t.val, 8]
    ∧ win0_3.index t = ![t.val, 9] ∧ win0_4.index t = ![t.val, 0] :=
  (by decide +kernel : ∀ t : Fin grid0.N, _)

variable (m : (ℓ : Loc nD τ sig) → Buf (Elt Ideal) ℓ) (c : Dev nD) (t : Fin cfg0.N)

/-- The projections a launch finds in memory. -/
abbrev X : FVec Ideal S2048x2560 .bf16 := m ((c.tc : Thread nD τ).loc main_arg0)

/-- The sinks a launch finds in memory. -/
abbrev S : FVec Ideal S32 .f32 := m ((c.tc : Thread nD τ).loc main_arg1)

/-- The sequence a grid point works on. -/
def seq : Fin 8 := ⟨t.val, lt_of_lt_of_eq t.isLt N_0⟩

/-- A key's entry. -/
theorem key_at (g : Fin 4) (j : Fin 256) (d : Fin 64) :
    columns (iblk m c 2 t) g (ix2 j d)
      = X m c (ix2 ⟨(seq t).val * 256 + j.val, by omega⟩ ⟨2048 + (g.val * 64 + d.val), by omega⟩) := by
  pointwise [columns]
  have := (seq t).isLt
  unfold seq at *
  blk_point [iblk, V, idx t]

/-- A value's entry. -/
theorem value_at (g : Fin 4) (j : Fin 256) (d : Fin 64) :
    columns (iblk m c 3 t) g (ix2 j d)
      = X m c (ix2 ⟨(seq t).val * 256 + j.val, by omega⟩ ⟨2304 + (g.val * 64 + d.val), by omega⟩) := by
  pointwise [columns]
  have := (seq t).isLt
  unfold seq at *
  blk_point [iblk, V, idx t]

/-- A query's entry. -/
theorem query_at (g : Fin 4) (h : Fin 8) (r : Fin 256) (d : Fin 64) :
    query (X0_1 m c t) (headOf g h) (ix2 r d)
      = X m c (ix2 ⟨(seq t).val * 256 + r.val, by omega⟩ ⟨g.val * 512 + h.val * 64 + d.val, by omega⟩) := by
  pointwise [query, headOf]
  unfold X0_1 Pipeline.Window.fill
  rw [dif_pos (moved0_1 t _)]
  have := (seq t).isLt
  unfold seq at *
  blk_point [iblk, V, idx t]

/-- A sink. -/
theorem sink_at (g : Fin 4) (h : Fin 8) :
    sink (iblk m c 0 t) (headOf g h) = S m c (ix1 ⟨g.val * 8 + h.val, by omega⟩) := by
  pointwise [sink, headOf]
  blk_point [iblk, V, idx t]

/-- Attention as the kernel arranges it: sequence `b`, group `g`, head `h` of it, query `r`, column `d`. -/
def entry (X : FVec Ideal S2048x2560 .bf16) (S : FVec Ideal S32 .f32) (b : Fin 8) (g : Fin 4) (h : Fin 8) (r : Fin 256) (d : Fin 64) :
    EReal :=
  row (fun j : Fin 256 => ∑ e : Fin 64, (X (ix2 ⟨b.val * 256 + r.val, by omega⟩ ⟨g.val * 512 + h.val * 64 + e.val, by omega⟩)
      * (((1 / 8) * (Real.log 2)⁻¹ : ℝ) : EReal))
      * X (ix2 ⟨b.val * 256 + j.val, by omega⟩ ⟨2048 + (g.val * 64 + e.val), by omega⟩))
    (S (ix1 ⟨g.val * 8 + h.val, by omega⟩) * (((Real.log 2)⁻¹ : ℝ) : EReal))
    (fun j => X (ix2 ⟨b.val * 256 + j.val, by omega⟩ ⟨2304 + (g.val * 64 + d.val), by omega⟩))

/-- The group's attention at a grid point, in terms of the arrays. -/
theorem groupAt_apply (g : Fin 4) (h : Fin 8) (r : Fin 256) (d : Fin 64) :
    groupAt m c t g (ix3 h r d) = entry (X m c) (S m c) (seq t) g h r d := by
  unfold groupAt
  rw [group_apply]
  unfold entry score
  simp only [key_at, value_at, query_at, sink_at]

/-- The whole result. -/
def result (X : FVec Ideal S2048x2560 .bf16) (S : FVec Ideal S32 .f32) : FVec Ideal S2048x2048 .bf16 := fun i =>
  entry X S ⟨(i 0).val / 256, by have := (i 0).isLt; simp at this; omega⟩ ⟨(i 1).val / 512, by have := (i 1).isLt; simp at this; omega⟩
    ⟨(i 1).val / 64 % 8, by omega⟩ ⟨(i 0).val % 256, by omega⟩ ⟨(i 1).val % 64, by omega⟩

/-- The whole result at given coordinates. -/
theorem result_at (X : FVec Ideal S2048x2560 .bf16) (S : FVec Ideal S32 .f32) (b : Fin 8) (g : Fin 4) (h : Fin 8) (r : Fin 256)
    (d : Fin 64) (i : S2048x2048.Idx) (h0 : (i 0 : ℕ) = b.val * 256 + r.val) (h1 : (i 1 : ℕ) = 512 * g.val + 64 * h.val + d.val) :
    result X S i = entry X S b g h r d := by
  unfold result
  congr 1 <;> apply Fin.ext <;> simp only [] <;> omega

/-- The array the run leaves. -/
theorem final : (dats m 0 c).arrAt 4 cfg0.N = result (X m c) (S m c) := by
  refine (dats m 0 c).arrAt_eq_of_covers 4 _ (by decide +kernel) fun t _ y => ?_
  have h0 : (y 0 : ℕ) < 256 := (y 0).isLt
  have h1 : (y 1 : ℕ) < 2048 := (y 1).isLt
  have e0 : ((((cfg0.win 4).blk t).view.emb y) 0 : ℕ) = (seq t).val * 256 + (y 0 : ℕ) := by unfold seq; blk_simp [idx t]
  have e1 : ((((cfg0.win 4).blk t).view.emb y) 1 : ℕ) = (y 1 : ℕ) := by blk_simp [idx t]
  rw [result_at _ _ (seq t) ⟨(y 1 : ℕ) / 512, by omega⟩ ⟨(y 1 : ℕ) / 64 % 8, by omega⟩ ⟨(y 0 : ℕ), h0⟩ ⟨(y 1 : ℕ) % 64, by omega⟩ _ e0
    (by rw [e1]; simp only []; omega), ← groupAt_apply]
  blk_simp
  rw [after0_4, outs_eq]
  exact tiles_apply _ _ _ _ _ _ rfl (by simp only []; omega)

end Cert.CtxArray

end
-- ==== Proof.CtxRef.lean ====
module
public import proofs.«01_k».proof.Proof.Gen.ReferenceCtxIdeal.Run
public import proofs.«01_k».proof.Proof.AttnMath

/-! What the context reference computes, stage by stage, at an index. -/

@[expose] public section

set_option maxRecDepth 16384
set_option pp.maxSteps 3000

noncomputable section

namespace Cert.CtxRef

open Idealize.ShloMosaic Idealize.ShloMosaic.TcCoe Idealize.SL.Sem
open Cert.ReferenceCtxIdeal Cert.ReferenceCtxIdeal.Gen Cert.AttnMath

/-- The projections, a sequence at a time. -/
def rows (x : FVec Ideal S2048x2560 .bf16) : FVec Ideal S8x256x2560 .f32 :=
  shapeCast _ (extf .f32 x bitsLt_bf16_f32) shapeCasts_S2048x2560_S8x256x2560

/-- The scores: every query against every key of its sequence and group. -/
def scores (x : FVec Ideal S2048x2560 .bf16) : FVec Ideal S8x4x8x256x256 .f32 :=
  mulf (transpose S8x4x8x256x256 [0, 1, 4, 3, 2] (Host.dotGeneral (F := Ideal) dot_S8x256x4x64_S8x256x4x8x64_S8x4x256x256x8_3_4_1_13_02_02 none
    (shapeCast S8x256x4x64 (extractStridedSlice S8x256x256 ![0, 0, 2048] (rows x) slices_S8x256x2560_S8x256x256_0_0_2048) shapeCasts_S8x256x256_S8x256x4x64)
    (shapeCast S8x256x4x8x64 (extractStridedSlice S8x256x2048 ![0, 0, 0] (rows x) slices_S8x256x2560_S8x256x2048_0_0_0) shapeCasts_S8x256x2048_S8x256x4x8x64))
    transposes_S8x4x256x256x8_S8x4x8x256x256_0_1_4_3_2)
    (broadcastInDim S8x4x8x256x256 ![] bcast_S_S8x4x8x256x256 (constant (F := Ideal) S_ .f32 0x3E000000#32))

/-- The scores with the sink's as a last key. -/
def withSink (sc : FVec Ideal S8x4x8x256x256 .f32) (s : FVec Ideal S32 .f32) : FVec Ideal S8x4x8x256x257 .f32 :=
  concatenate S8x4x8x256x257 4 [⟨S8x4x8x256x256, sc⟩, ⟨S8x4x8x256x1, broadcastInDim S8x4x8x256x1 ![0, 1, 2, 3, 4] bcast_S1x4x8x1x1_S8x4x8x256x1_0_1_2_3_4
    (broadcastInDim S1x4x8x1x1 ![1, 2] bcast_S4x8_S1x4x8x1x1_1_2 (shapeCast S4x8 s shapeCasts_S32_S4x8))⟩]
    concatenates_S8x4x8x256x256_S8x4x8x256x1_S8x4x8x256x257_d4

/-- The greatest of a row. -/
def top (a : FVec Ideal S8x4x8x256x257 .f32) : FVec Ideal S8x4x8x256 .f32 :=
  maximumf (broadcastInDim S8x4x8x256 ![] bcast_S_S8x4x8x256 (constant (F := Ideal) S_ .f32 0xFF800000#32))
    (Host.reduce FloatOps.maximumf a (constant (F := Ideal) S_ .f32 0xFF800000#32) reducesTo_S8x4x8x256x257_S8x4x8x256_d4 h_S_)

/-- A row's number at every key. -/
def spread (a : FVec Ideal S8x4x8x256 .f32) : FVec Ideal S8x4x8x256x257 .f32 :=
  broadcastInDim S8x4x8x256x257 ![0, 1, 2, 3, 4] bcast_S8x4x8x256x1_S8x4x8x256x257_0_1_2_3_4
    (broadcastInDim S8x4x8x256x1 ![0, 1, 2, 3] bcast_S8x4x8x256_S8x4x8x256x1_0_1_2_3 a)

/-- The exponentials of a row. -/
def exps (a : FVec Ideal S8x4x8x256x257 .f32) : FVec Ideal S8x4x8x256x257 .f32 :=
  Host.exp (subf a (spread (top a)))

/-- The softmax weights. -/
def weights (e : FVec Ideal S8x4x8x256x257 .f32) : FVec Ideal S8x4x8x256x257 .f32 :=
  Host.divf e (spread (Host.reduceAdd e (constant (F := Ideal) S_ .f32 0x00000000#32) reducesTo_S8x4x8x256x257_S8x4x8x256_d4 h_S_))

/-- The weighted values, heads side by side. -/
def mix (x : FVec Ideal S2048x2560 .bf16) (p : FVec Ideal S8x4x8x256x257 .f32) : FVec Ideal S2048x2048 .bf16 :=
  truncf .bf16 (shapeCast S2048x2048 (transpose S8x256x4x8x64 [0, 4, 1, 3, 2] (Host.dotGeneral (F := Ideal) dot_S8x256x4x64_S8x4x8x256x256_S8x4x64x8x256_1_4_3_23_02_01 none
    (shapeCast S8x256x4x64 (extractStridedSlice S8x256x256 ![0, 0, 2304] (rows x) slices_S8x256x2560_S8x256x256_0_0_2304) shapeCasts_S8x256x256_S8x256x4x64)
    (extractStridedSlice S8x4x8x256x256 ![0, 0, 0, 0, 0] p slices_S8x4x8x256x257_S8x4x8x256x256_0_0_0_0_0))
    transposes_S8x4x64x8x256_S8x256x4x8x64_0_4_1_3_2) shapeCasts_S8x256x4x8x64_S2048x2048) bitsLt_bf16_f32

/-- The reference's result is these stages in turn. -/
theorem result_eq (m : (ℓ : Loc nD τ sig) → Buf (Elt Ideal) ℓ) (c : Dev nD) :
    Value.res_main_v31 m c = mix (m ((c.tc : Thread nD τ).loc main_arg0))
      (weights (exps (withSink (scores (m ((c.tc : Thread nD τ).loc main_arg0))) (m ((c.tc : Thread nD τ).loc main_arg1))))) := by
  unfold Value.res_main_v31
  rfl

/-- The scores at a sequence, a group, a head of it, a query and a key. -/
theorem scores_apply (x : FVec Ideal S2048x2560 .bf16) (b : Fin 8) (g : Fin 4) (h : Fin 8) (r j : Fin 256) :
    scores x (ix5 b g h r j) = (∑ d : Fin 64, x (ix2 ⟨b.val * 256 + j.val, by omega⟩ ⟨2048 + (g.val * 64 + d.val), by omega⟩)
      * x (ix2 ⟨b.val * 256 + r.val, by omega⟩ ⟨g.val * 512 + h.val * 64 + d.val, by omega⟩)) * ((1 / 8 : ℝ) : EReal) := by
  pointwise [scores, rows]
  rw [ofBits_eighth]

/-- The scores with the sink, at a key of the sequence or at the sink's place. -/
theorem withSink_apply (sc : FVec Ideal S8x4x8x256x256 .f32) (s : FVec Ideal S32 .f32) (b : Fin 8) (g : Fin 4) (h : Fin 8)
    (r : Fin 256) (j : Fin 257) :
    withSink sc s (ix5 b g h r j)
      = if hj : j.val < 256 then sc (ix5 b g h r ⟨j.val, hj⟩) else s (ix1 ⟨g.val * 8 + h.val, by omega⟩) := by
  pointwise [withSink]

/-- Before the row, the running maximum is `-∞`. -/
theorem init_bot : (constant (F := Ideal) S_ .f32 0xFF800000#32) (Shape.Idx.first h_S_) = (⊥ : EReal) := ofBits_neg_inf

/-- So it is at every row. -/
theorem base_bot (i : S8x4x8x256.Idx) :
    broadcastInDim S8x4x8x256 ![] bcast_S_S8x4x8x256 (constant (F := Ideal) S_ .f32 0xFF800000#32) i = (⊥ : EReal) := ofBits_neg_inf

/-- The sink's place lies on its row. -/
theorem drop_sink (b : Fin 8) (g : Fin 4) (h : Fin 8) (r : Fin 256) :
    reducesTo_S8x4x8x256x257_S8x4x8x256_d4.drop (ix5 b g h r 256) = ix4 b g h r :=
  (Shape.ReducesTo.fiber_r5_a4 _ _ _).mpr ⟨256, rfl⟩

/-- A row's greatest is a real number when no entry is +∞ and its sink's is not −∞. -/
theorem top_real (a : FVec Ideal S8x4x8x256x257 .f32) (b : Fin 8) (g : Fin 4) (h : Fin 8) (r : Fin 256)
    (ht : ∀ k, a k ≠ (⊤ : EReal)) (hb : a (ix5 b g h r 256) ≠ (⊥ : EReal)) : ∃ M : ℝ, top a (ix4 b g h r) = (M : EReal) := by
  obtain ⟨M, hM⟩ := reduce_max_real (FloatOps.maximumf (F := Ideal) (φ := .f32)) rfl a _
    reducesTo_S8x4x8x256x257_S8x4x8x256_d4 h_S_ (ix4 b g h r) init_bot ht (ix5 b g h r 256) (drop_sink b g h r) hb
  refine ⟨M, ?_⟩
  unfold top
  rw [maximumf_apply, base_bot, hM]
  exact max_eq_right bot_le

/-- The exponentials at a key. -/
theorem exps_apply (a : FVec Ideal S8x4x8x256x257 .f32) (b : Fin 8) (g : Fin 4) (h : Fin 8) (r : Fin 256) (j : Fin 257) :
    exps a (ix5 b g h r j) = Ideal.exp (a (ix5 b g h r j) - top a (ix4 b g h r)) := by
  pointwise [exps, spread]

/-- The weights at a key. -/
theorem weights_apply (e : FVec Ideal S8x4x8x256x257 .f32) (b : Fin 8) (g : Fin 4) (h : Fin 8) (r : Fin 256) (j : Fin 257) :
    weights e (ix5 b g h r j) = Ideal.div (e (ix5 b g h r j)) (∑ k : Fin 257, e (ix5 b g h r k)) := by
  pointwise [weights, spread]

/-- The result at a row and a column: the weighted values of the row's sequence. -/
theorem mix_apply (x : FVec Ideal S2048x2560 .bf16) (p : FVec Ideal S8x4x8x256x257 .f32) (i : S2048x2048.Idx) :
    mix x p i = ∑ j : Fin 256, x (ix2 ⟨(i 0).val / 256 * 256 + j.val, by have := (i 0).isLt; simp at this; omega⟩
        ⟨2304 + ((i 1).val / 512 * 64 + (i 1).val % 64), by have := (i 1).isLt; simp at this; omega⟩)
      * p (ix5 ⟨(i 0).val / 256, by have := (i 0).isLt; simp at this; omega⟩ ⟨(i 1).val / 512, by have := (i 1).isLt; simp at this; omega⟩
        ⟨(i 1).val / 64 % 8, by omega⟩ ⟨(i 0).val % 256, by omega⟩ ⟨j.val, by omega⟩) := by
  pointwise [mix, rows]

end Cert.CtxRef

end
-- ==== Proof.CtxEq.lean ====
module
public import proofs.«01_k».proof.Proof.CtxArray
public import proofs.«01_k».proof.Proof.CtxRef

/-! The context kernel's result is the reference's, when queries, keys and sinks are real numbers. -/

@[expose] public section

set_option maxRecDepth 16384

noncomputable section

namespace Cert.CtxEq

open Idealize.ShloMosaic Idealize.ShloMosaic.TcCoe Idealize.SL.Sem
open Cert.AttnMath Cert.ReferenceCtxIdeal Cert.ReferenceCtxIdeal.Gen

variable (X : FVec Ideal S2048x2560 .bf16) (S : FVec Ideal S32 .f32)

/-- The score in base two, as a real number: query `r` of head `h` in group `g` against key `j`, in sequence `b`. -/
def score (x : Fin 2048 → Fin 2560 → ℝ) (b : Fin 8) (g : Fin 4) (h : Fin 8) (r j : Fin 256) : ℝ :=
  ∑ e : Fin 64, x ⟨b.val * 256 + r.val, by omega⟩ ⟨g.val * 512 + h.val * 64 + e.val, by omega⟩ * ((1 / 8) * (Real.log 2)⁻¹)
    * x ⟨b.val * 256 + j.val, by omega⟩ ⟨2048 + (g.val * 64 + e.val), by omega⟩

variable (x : Fin 2048 → Fin 2560 → ℝ) (s : Fin 32 → ℝ)
  (hx : ∀ (i : Fin 2048) (j : Fin 2560), j.val < 2304 → X (ix2 i j) = (x i j : EReal)) (hs : ∀ i : Fin 32, S (ix1 i) = (s i : EReal))

/-- The values a head's group reads at column `d`. -/
def values (b : Fin 8) (g : Fin 4) (d : Fin 64) (j : Fin 256) : EReal :=
  X (ix2 ⟨b.val * 256 + j.val, by omega⟩ ⟨2304 + (g.val * 64 + d.val), by omega⟩)

include hx hs in
/-- The kernel's entry is the attention row of the real scores. -/
theorem kernel_entry (b : Fin 8) (g : Fin 4) (h : Fin 8) (r : Fin 256) (d : Fin 64) :
    CtxArray.entry X S b g h r d = attend (fun _ => True) (score x b g h r) (s ⟨g.val * 8 + h.val, by omega⟩ * (Real.log 2)⁻¹)
      (values X b g d) := by
  unfold CtxArray.entry
  refine row_eq _ _ _ _ _ _ (fun j => ?_) ?_
  · simp only [masked, if_true, score, coe_sum, EReal.coe_mul]
    refine Finset.sum_congr rfl fun e _ => ?_
    rw [hx _ _ (by simp only []; omega), hx _ _ (by simp only []; omega)]
  · rw [hs, EReal.coe_mul]

include hx in
/-- The reference's score is a real number, the same as the kernel's up to the units. -/
theorem reference_score (b : Fin 8) (g : Fin 4) (h : Fin 8) (r j : Fin 256) :
    CtxRef.scores X (ix5 b g h r j) = ((Real.log 2 * score x b g h r j : ℝ) : EReal) := by
  rw [CtxRef.scores_apply]
  have hsum : ∀ e : Fin 64, X (ix2 ⟨b.val * 256 + j.val, by omega⟩ ⟨2048 + (g.val * 64 + e.val), by omega⟩)
      * X (ix2 ⟨b.val * 256 + r.val, by omega⟩ ⟨g.val * 512 + h.val * 64 + e.val, by omega⟩)
      = ((x ⟨b.val * 256 + j.val, by omega⟩ ⟨2048 + (g.val * 64 + e.val), by omega⟩
        * x ⟨b.val * 256 + r.val, by omega⟩ ⟨g.val * 512 + h.val * 64 + e.val, by omega⟩ : ℝ) : EReal) := fun e => by
    rw [hx _ _ (by simp only []; omega), hx _ _ (by simp only []; omega), EReal.coe_mul]
  simp only [hsum]
  rw [← coe_sum, ← EReal.coe_mul]
  congr 1
  unfold score
  rw [Finset.sum_mul, Finset.mul_sum]
  refine Finset.sum_congr rfl fun e _ => ?_
  have := log_two_ne
  field_simp

/-- An index of the weights' array is its five coordinates. -/
theorem coords (k : S8x4x8x256x257.Idx) :
    ∃ (b : Fin 8) (g : Fin 4) (h : Fin 8) (r : Fin 256) (j : Fin 257), k = ix5 b g h r j :=
  ⟨k 0, k 1, k 2, k 3, k 4, by funext a; fin_cases a <;> rfl⟩

/-- The reference's scores with the sink. -/
abbrev all : FVec Ideal S8x4x8x256x257 .f32 := CtxRef.withSink (CtxRef.scores X) S

include hx hs in
/-- Every score of the reference, the sink's too, is a real number. -/
theorem all_real (k : S8x4x8x256x257.Idx) : ∃ r : ℝ, all X S k = (r : EReal) := by
  obtain ⟨b, g, h, r, j, rfl⟩ := coords k
  rw [all, CtxRef.withSink_apply]
  split
  · exact ⟨_, reference_score X x hx _ _ _ _ _⟩
  · exact ⟨_, hs _⟩

include hx hs in
/-- A row of the reference's attention is the attention row of the real scores. -/
theorem reference_row (b : Fin 8) (g : Fin 4) (h : Fin 8) (r : Fin 256) (d : Fin 64) :
    ∑ j : Fin 256, values X b g d j
        * Ideal.div (Ideal.exp (all X S (ix5 b g h r j.castSucc) - CtxRef.top (all X S) (ix4 b g h r)))
          (∑ k : Fin 257, Ideal.exp (all X S (ix5 b g h r k) - CtxRef.top (all X S) (ix4 b g h r)))
      = attend (fun _ => True) (score x b g h r) (s ⟨g.val * 8 + h.val, by omega⟩ * (Real.log 2)⁻¹) (values X b g d) := by
  refine softmax_eq (fun _ => True) (score x b g h r) (s ⟨g.val * 8 + h.val, by omega⟩ * (Real.log 2)⁻¹) (values X b g d)
    (fun k => all X S (ix5 b g h r k)) _ (CtxRef.top_real _ _ _ _ _ (fun k => ?_) ?_) (fun j => ?_) ?_
  · obtain ⟨q, hq⟩ := all_real X S x s hx hs k
    rw [hq]
    exact EReal.coe_ne_top q
  · obtain ⟨q, hq⟩ := all_real X S x s hx hs (ix5 b g h r 256)
    rw [hq]
    exact EReal.coe_ne_bot q
  · simp only [masked, if_true]
    rw [all, CtxRef.withSink_apply, dif_pos (by simp)]
    exact reference_score X x hx b g h r j
  · rw [all, CtxRef.withSink_apply, dif_neg (by simp), hs]
    congr 1
    have := log_two_ne
    field_simp

include hx hs in
/-- The reference's result is the kernel's array. -/
theorem reference_result :
    CtxRef.mix X (CtxRef.weights (CtxRef.exps (CtxRef.withSink (CtxRef.scores X) S))) = CtxArray.result X S := by
  funext i
  have h0 : (i 0 : ℕ) < 2048 := (i 0).isLt
  have h1 : (i 1 : ℕ) < 2048 := (i 1).isLt
  obtain ⟨b, hb⟩ : ∃ b : Fin 8, b.val = (i 0 : ℕ) / 256 := ⟨⟨_, by omega⟩, rfl⟩
  obtain ⟨g, hg⟩ : ∃ g : Fin 4, g.val = (i 1 : ℕ) / 512 := ⟨⟨_, by omega⟩, rfl⟩
  obtain ⟨h, hh⟩ : ∃ h : Fin 8, h.val = (i 1 : ℕ) / 64 % 8 := ⟨⟨_, by omega⟩, rfl⟩
  obtain ⟨r, hr⟩ : ∃ r : Fin 256, r.val = (i 0 : ℕ) % 256 := ⟨⟨_, by omega⟩, rfl⟩
  obtain ⟨d, hd⟩ : ∃ d : Fin 64, d.val = (i 1 : ℕ) % 64 := ⟨⟨_, by omega⟩, rfl⟩
  rw [CtxArray.result_at X S b g h r d i (by omega) (by omega), kernel_entry X S x s hx hs, CtxRef.mix_apply,
    ← reference_row X S x s hx hs b g h r d]
  simp only [← hb, ← hg, ← hh, ← hr, ← hd, Fin.eta]
  refine Finset.sum_congr rfl fun j _ => ?_
  rw [CtxRef.weights_apply]
  simp only [CtxRef.exps_apply]
  rfl

end Cert.CtxEq

end
-- ==== Proof.CtxPre.lean ====
module
public import proofs.«01_k».proof.Defs
public import proofs.«01_k».proof.Proof.AttnMath

/-! What the context claim's precondition says: queries, keys and sinks are real numbers. -/

@[expose] public section

noncomputable section

namespace Cert.CtxPre

open Idealize.ShloMosaic Idealize.ShloMosaic.TcCoe Idealize.SL.Sem
open Cert.Pre_finite_ctx_q_k_sink Cert.Pre_finite_ctx_q_k_sink.Facts Cert.AttnMath

/-- The shape relations the predicate takes. -/
theorem facts : Facts := ⟨by decide, by decide, by decide, by decide⟩

attribute [local instance] facts

/-- A projection in the queries' or the keys' columns is a real number. -/
theorem real_qk (X : FVec Ideal S2048x2560 .bf16) (S : FVec Ideal S32 .f32) (hp : (fn X S).1 = fun _ => 1#1)
    (i : Fin 2048) (j : Fin 2560) (hj : j.val < 2304) : ∃ r : ℝ, X (ix2 i j) = (r : EReal) := by
  have h := congrFun hp (ix2 i ⟨j.val, hj⟩)
  unfold fn at h
  dsimp only at h
  revert h
  pointwise
  exact real_of_below _

/-- A sink is a real number. -/
theorem real_sink (X : FVec Ideal S2048x2560 .bf16) (S : FVec Ideal S32 .f32) (hp : (fn X S).2 = fun _ => 1#1)
    (i : Fin 32) : ∃ r : ℝ, S (ix1 i) = (r : EReal) := by
  have h := congrFun hp (ix1 i)
  unfold fn at h
  dsimp only at h
  revert h
  pointwise
  exact real_of_below _

end Cert.CtxPre

end
-- ==== Proof.CtxClaim.lean ====
module
public import proofs.«01_k».proof.Proof.CtxEq
public import proofs.«01_k».proof.Proof.CtxPre
public import Idealize.ShloMosaic.Lib.Quiescent

/-! The claims about the context attention. -/

@[expose] public section

noncomputable section

namespace Cert.CtxClaim

open Idealize.ShloMosaic Idealize.ShloMosaic.TcCoe Idealize.SL.Sem

attribute [local instance] Cert.CtxPre.facts

/-- The context reference runs, keeps its arguments and leaves the machine quiet. -/
theorem frame_reference : Cert.quiescent_ReferenceCtxIdeal := fun m ρ _ =>
  (θ_run Cert.ReferenceCtxIdeal.defs _ _).mono
    (fun r h => ⟨fun c => (h c).2, Idealize.ShloMosaic.sem_eq_zero_of_no_sems (by decide) r.2⟩)
    (Cert.ReferenceCtxIdeal.Value.run (F := Ideal) m ρ)

/-- Where queries, keys and sinks are real numbers, the context kernel and its reference leave the same array. -/
theorem algebraic : Cert.algebraic_KernelCtxIdeal_ReferenceCtxIdeal_pre_finite_ctx_q_k_sink := by
  intro m ρ m' ρ' hpre hagree
  refine ⟨fun c => CtxArray.result (CtxArray.X m c) (CtxArray.S m c),
    (θ_run Cert.KernelCtxIdeal.defs _ _).mono (fun _ h c => ⟨(h c).1.trans (CtxArray.final m c), (h c).2⟩)
      (Cert.KernelCtxIdeal.Value.run_blocks (F := Ideal) m ρ),
    (θ_run Cert.ReferenceCtxIdeal.defs _ _).mono (fun _ h c => ⟨(h c).1.trans ?_, (h c).2⟩)
      (Cert.ReferenceCtxIdeal.Value.run (F := Ideal) m' ρ')⟩
  have hx : ∀ (i : Fin 2048) (j : Fin 2560), ∃ r : ℝ, j.val < 2304 → CtxArray.X m c (ix2 i j) = (r : EReal) := fun i j =>
    if hj : j.val < 2304 then (CtxPre.real_qk _ _ (hpre c).1 i j hj).imp fun r h _ => h else ⟨0, fun h => absurd h hj⟩
  choose x hx using hx
  choose s hs using CtxPre.real_sink _ _ (hpre c).2
  rw [CtxRef.result_eq, (hagree c).1, (hagree c).2]
  exact CtxEq.reference_result _ _ x s hx hs

end Cert.CtxClaim

end
-- ==== Proof.WinBlock.lean ====
module
public import proofs.«01_k».proof.Proof.Gen.KernelIdeal.Frame
public import Idealize.ShloMosaic.Lib.Pipeline.ValueKit

/-! What one grid point of the windowed attention kernel leaves in its output block: sixteen tiles of 128 columns,
    two heads each, cut from four groups of eight heads. A group's result is one function of its mask, its keys, its
    values, its eight queries and its eight sinks. -/

@[expose] public section

set_option maxRecDepth 16384

noncomputable section

namespace Cert.WinBlock

open Idealize.ShloMosaic Idealize.ShloMosaic.TcCoe Idealize.SL.Sem
open Idealize.ShloMosaic.Pipeline (Dat)
open Cert.KernelIdeal Cert.KernelIdeal.Gen

/-- The sinks of a group's eight heads, each in base two, as the kernel lays them out: head `h` at row `h`. -/
def sinks (s : Fin 8 → EReal) : FVec Ideal S8x1x1 .f32 :=
  let one (h : BitVec 32) (x : EReal) (z : FVec Ideal S8x1x1 .f32) : FVec Ideal S8x1x1 .f32 :=
    select (cmpi .eq (iota .tc S8x1x1 32 [0] iota_S8x1x1_d0_w32) (broadcast S8x1x1 h))
      (broadcast S8x1x1 (Scalar.mulf x (Named.named (F := Ideal) κ "log2e" 0x3FB8AA3B#32))) z
  one 7#32 (s 7) (one 6#32 (s 6) (one 5#32 (s 5) (one 4#32 (s 4) (one 3#32 (s 3) (one 2#32 (s 2) (one 1#32 (s 1)
    (one 0#32 (s 0) (broadcast S8x1x1 (Scalar.ofBits (F := Ideal) .f32 0x00000000#32)))))))))

/-- The scores of a group: eight heads' queries stacked, against the group's keys, and the mask's bias on each. -/
def scores (bias : FVec Ideal S128x640 .f32) (k : FVec Ideal S640x64 .bf16) (q : Fin 8 → FVec Ideal S128x64 .bf16) :
    FVec Ideal S8x128x640 .f32 :=
  addf (shapeCast S8x128x640 (matmul dot_S1024x64_S640x64_S1024x640_1_1_0_0_n_n none
    (concatenate S1024x64 0 [⟨S128x64, q 0⟩, ⟨S128x64, q 1⟩, ⟨S128x64, q 2⟩, ⟨S128x64, q 3⟩,
      ⟨S128x64, q 4⟩, ⟨S128x64, q 5⟩, ⟨S128x64, q 6⟩, ⟨S128x64, q 7⟩]
      concatenates_S128x64_S128x64_S128x64_S128x64_S128x64_S128x64_S128x64_S128x64_S1024x64_d0)
    k (constant (F := Ideal) S1024x640 .f32 0x00000000#32)) shapeCasts_S1024x640_S8x128x640)
    (broadcastTo S8x128x640 (shapeCast S1x128x640 bias shapeCasts_S128x640_S1x128x640) broadcasts_S1x128x640_S8x128x640)

/-- The greatest score of each row, the sink among them. -/
def tops (sc : FVec Ideal S8x128x640 .f32) (sk : FVec Ideal S8x1x1 .f32) : FVec Ideal S8x128x1 .f32 :=
  maximumf (shapeCast S8x128x1 (multiReduction .maximumf [2] S8x128 sc 0xFF800000#32 reduces_S8x128x640_S8x128 (.inl rfl) rfl)
    shapeCasts_S8x128_S8x128x1) (broadcastTo S8x128x1 sk broadcasts_S8x1x1_S8x128x1)

/-- The powers of two of the scores against the values and, beside them, a column of ones. -/
def sums (v : FVec Ideal S640x64 .bf16) (sc : FVec Ideal S8x128x640 .f32) (mx : FVec Ideal S8x128x1 .f32) :
    FVec Ideal S8x128x128 .f32 :=
  shapeCast S8x128x128 (matmul dot_S1024x640_S640x128_S1024x128_1_0_0_1_n_n none
    (shapeCast S1024x640 (truncf .bf16 (exp2 (subf sc (broadcastTo S8x128x640 mx broadcasts_S8x128x1_S8x128x640)))
      bitsLt_bf16_f32) shapeCasts_S8x128x640_S1024x640)
    (concatenate S640x128 1 [⟨S640x64, v⟩, ⟨S640x64, k0_pay5 (F := Ideal)⟩] concatenates_S640x64_S640x64_S640x128_d1)
    (constant (F := Ideal) S1024x128 .f32 0x00000000#32)) shapeCasts_S1024x128_S8x128x128

/-- The weighted sums divided by the sums of the weights, the sink's among them. -/
def quotient (acc : FVec Ideal S8x128x128 .f32) (sk : FVec Ideal S8x1x1 .f32) (mx : FVec Ideal S8x128x1 .f32) :
    FVec Ideal S8x128x64 .f32 :=
  divf (extractStridedSlice S8x128x64 ![0, 0, 0] acc slices_S8x128x128_o0_0_0_S8x128x64)
    (broadcastTo S8x128x64
      (addf (extractStridedSlice S8x128x1 ![0, 0, 64] acc slices_S8x128x128_o0_0_64_S8x128x1)
        (exp2 (subf (broadcastTo S8x128x1 sk broadcasts_S8x1x1_S8x128x1) mx))) broadcasts_S8x128x1_S8x128x64)

/-- A group's attention: eight heads, 128 queries, 64 columns. -/
def group (bias : FVec Ideal S128x640 .f32) (k v : FVec Ideal S640x64 .bf16) (q : Fin 8 → FVec Ideal S128x64 .bf16)
    (s : Fin 8 → EReal) : FVec Ideal S8x128x64 .f32 :=
  quotient (sums v (scores bias k q) (tops (scores bias k q) (sinks s))) (sinks s) (tops (scores bias k q) (sinks s))

/-- A tile: two of a group's heads side by side. -/
def tile (o : FVec Ideal S8x128x64 .f32) (a b : Nat) (ha : S8x128x64.Slices ![a, 0, 0] S1x128x64)
    (hb : S8x128x64.Slices ![b, 0, 0] S1x128x64) : FVec Ideal S128x128 .bf16 :=
  truncf .bf16 (concatenate S128x128 1
    [⟨S128x64, shapeCast S128x64 (extractStridedSlice S1x128x64 ![a, 0, 0] o ha) shapeCasts_S1x128x64_S128x64⟩,
     ⟨S128x64, shapeCast S128x64 (extractStridedSlice S1x128x64 ![b, 0, 0] o hb) shapeCasts_S1x128x64_S128x64⟩]
    concatenates_S128x64_S128x64_S128x128_d1) bitsLt_bf16_f32

set_option pp.maxSteps 300
variable (m : (ℓ : Loc nD τ sig) → Buf (Elt Ideal) ℓ) (c : Dev nD) (t : Fin cfg0.N)

/-- The 64 columns of the keys (or the values) that group `g` reads. -/
def columns (x : FVec Ideal S640x256 .bf16) (g : Fin 4) : FVec Ideal S640x64 .bf16 :=
  extractStridedSlice S640x64 ![0, 64 * g.val] x ⟨rfl, fun a => by fin_cases a <;> fin_cases g <;> decide⟩

/-- The 640 rows of keys (or values) a grid point works on: 384 of the sequence around its queries, then the context's. -/
def span (i : grid0.Coords) (x : Vec Ideal S4096x256 .bf16) (y : Vec Ideal S256x256 .bf16) : FVec Ideal S640x256 .bf16 :=
  concatenate S640x256 0 [⟨S384x256, View.ld x (Rect.unit (s := S4096x256) (k0_off1 i) S384x256.size (k0_off1_inb i))⟩,
    ⟨S256x256, y⟩] concatenates_S384x256_S256x256_S640x256_d0

/-- Head `h`'s query columns in a block of queries. -/
def query (x : Vec Ideal S128x2048 .bf16) (h : Fin 32) : FVec Ideal S128x64 .bf16 :=
  View.ld x (Rect.unit ![0, 64 * h.val] S128x64.size (by intro a; have := h.isLt; fin_cases a <;> simp <;> omega))

/-- Head `h`'s sink. -/
def sink (x : Vec Ideal S32 .f32) (h : Fin 32) : EReal :=
  View.ld x (Rect.unit ![h.val] S1.size (by intro a; have := h.isLt; fin_cases a; simp)) (Shape.Idx.first (show 0 < S1.numel by decide))

/-- Head `h` of group `g`. -/
def headOf (g : Fin 4) (h : Fin 8) : Fin 32 := ⟨8 * g.val + h.val, by omega⟩

/-- Group `g` at a grid point. -/
def groupAt (g : Fin 4) : FVec Ideal S8x128x64 .f32 :=
  group (k0_pay2 (F := Ideal) (grid0.coords t))
    (columns (span (grid0.coords t) (iblk m c 2 t) (iblk m c 4 t)) g)
    (columns (span (grid0.coords t) (iblk m c 3 t) (iblk m c 5 t)) g)
    (fun h => query (X0_1 m c t) (headOf g h)) (fun h => sink (iblk m c 0 t) (headOf g h))

/-- What the sixteen stores of one grid point leave. -/
def tiles (o : Fin 4 → FVec Ideal S8x128x64 .f32) : Vec Ideal S128x2048 .bf16 :=
  View.canon (Val := Elt Ideal) (s := S128x2048) (e := .bf16) [
    ⟨Rect.unit (s := S128x2048) ![0, 1920] S128x128.size inb_S128x2048_S128x128_0_1920, tile (o 3) 6 7 slices_S8x128x64_o6_0_0_S1x128x64 slices_S8x128x64_o7_0_0_S1x128x64⟩,
    ⟨Rect.unit (s := S128x2048) ![0, 1792] S128x128.size inb_S128x2048_S128x128_0_1792, tile (o 3) 4 5 slices_S8x128x64_o4_0_0_S1x128x64 slices_S8x128x64_o5_0_0_S1x128x64⟩,
    ⟨Rect.unit (s := S128x2048) ![0, 1664] S128x128.size inb_S128x2048_S128x128_0_1664, tile (o 3) 2 3 slices_S8x128x64_o2_0_0_S1x128x64 slices_S8x128x64_o3_0_0_S1x128x64⟩,
    ⟨Rect.unit (s := S128x2048) ![0, 1536] S128x128.size inb_S128x2048_S128x128_0_1536, tile (o 3) 0 1 slices_S8x128x64_o0_0_0_S1x128x64 slices_S8x128x64_o1_0_0_S1x128x64⟩,
    ⟨Rect.unit (s := S128x2048) ![0, 1408] S128x128.size inb_S128x2048_S128x128_0_1408, tile (o 2) 6 7 slices_S8x128x64_o6_0_0_S1x128x64 slices_S8x128x64_o7_0_0_S1x128x64⟩,
    ⟨Rect.unit (s := S128x2048) ![0, 1280] S128x128.size inb_S128x2048_S128x128_0_1280, tile (o 2) 4 5 slices_S8x128x64_o4_0_0_S1x128x64 slices_S8x128x64_o5_0_0_S1x128x64⟩,
    ⟨Rect.unit (s := S128x2048) ![0, 1152] S128x128.size inb_S128x2048_S128x128_0_1152, tile (o 2) 2 3 slices_S8x128x64_o2_0_0_S1x128x64 slices_S8x128x64_o3_0_0_S1x128x64⟩,
    ⟨Rect.unit (s := S128x2048) ![0, 1024] S128x128.size inb_S128x2048_S128x128_0_1024, tile (o 2) 0 1 slices_S8x128x64_o0_0_0_S1x128x64 slices_S8x128x64_o1_0_0_S1x128x64⟩,
    ⟨Rect.unit (s := S128x2048) ![0, 896] S128x128.size inb_S128x2048_S128x128_0_896, tile (o 1) 6 7 slices_S8x128x64_o6_0_0_S1x128x64 slices_S8x128x64_o7_0_0_S1x128x64⟩,
    ⟨Rect.unit (s := S128x2048) ![0, 768] S128x128.size inb_S128x2048_S128x128_0_768, tile (o 1) 4 5 slices_S8x128x64_o4_0_0_S1x128x64 slices_S8x128x64_o5_0_0_S1x128x64⟩,
    ⟨Rect.unit (s := S128x2048) ![0, 640] S128x128.size inb_S128x2048_S128x128_0_640, tile (o 1) 2 3 slices_S8x128x64_o2_0_0_S1x128x64 slices_S8x128x64_o3_0_0_S1x128x64⟩,
    ⟨Rect.unit (s := S128x2048) ![0, 512] S128x128.size inb_S128x2048_S128x128_0_512, tile (o 1) 0 1 slices_S8x128x64_o0_0_0_S1x128x64 slices_S8x128x64_o1_0_0_S1x128x64⟩,
    ⟨Rect.unit (s := S128x2048) ![0, 384] S128x128.size inb_S128x2048_S128x128_0_384, tile (o 0) 6 7 slices_S8x128x64_o6_0_0_S1x128x64 slices_S8x128x64_o7_0_0_S1x128x64⟩,
    ⟨Rect.unit (s := S128x2048) ![0, 256] S128x128.size inb_S128x2048_S128x128_0_256, tile (o 0) 4 5 slices_S8x128x64_o4_0_0_S1x128x64 slices_S8x128x64_o5_0_0_S1x128x64⟩,
    ⟨Rect.unit (s := S128x2048) ![0, 128] S128x128.size inb_S128x2048_S128x128_0_128, tile (o 0) 2 3 slices_S8x128x64_o2_0_0_S1x128x64 slices_S8x128x64_o3_0_0_S1x128x64⟩,
    ⟨Rect.unit (s := S128x2048) ![0, 0] S128x128.size inb_S128x2048_S128x128_0_0, tile (o 0) 0 1 slices_S8x128x64_o0_0_0_S1x128x64 slices_S8x128x64_o1_0_0_S1x128x64⟩]

/-- One grid point's output block is the sixteen tiles of its four groups. -/
theorem outs_eq (y : S128x2048.Idx) : outsAt0 m c t y = tiles (groupAt m c t) y := by
  unfold outsAt0
  frame_out
  rfl

end Cert.WinBlock
end
-- ==== Proof.WinRead.lean ====
module
public import proofs.«01_k».proof.Proof.WinBlock
public import proofs.«01_k».proof.Proof.AttnMath

@[expose] public section

set_option maxRecDepth 16384

noncomputable section

namespace Cert.WinBlock

open Idealize.ShloMosaic Idealize.ShloMosaic.TcCoe Idealize.SL.Sem
open Idealize.ShloMosaic.Pipeline (Dat)
open Cert.KernelIdeal Cert.KernelIdeal.Gen Cert.AttnMath

/-- The factor that carries a sink to base two. -/
theorem log2e : Named.named (F := Ideal) κ "log2e" (φ := .f32) 0x3FB8AA3B#32 = (((Real.log 2)⁻¹ : ℝ) : EReal) :=
  IdealRules.named_const.ideal_named_scalar _ _ _ _ rfl

/-- The product of query `r` of a head and key `j`. -/
def score (k : FVec Ideal S640x64 .bf16) (q : FVec Ideal S128x64 .bf16) (r : Fin 128) (j : Fin 640) : EReal :=
  ∑ x : Fin 64, q (ix2 r x) * k (ix2 j x)

/-- A group's scores at a head, a query and a key. -/
theorem scores_apply (bias : FVec Ideal S128x640 .f32) (k : FVec Ideal S640x64 .bf16) (q : Fin 8 → FVec Ideal S128x64 .bf16)
    (h : Fin 8) (r : Fin 128) (j : Fin 640) :
    scores bias k q (ix3 h r j) = score k (q h) r j + bias (ix2 r j) := by
  have pick : ∀ (x : Fin 64) (i : Fin 8) (a : Fin 128), i.val = h.val → a.val = r.val →
      q i (ix2 a x) = q h (ix2 r x) := by
    intro x i a hi ha
    rw [Fin.ext hi, Fin.ext ha]
  have hh := h.isLt
  have hr := r.isLt
  pointwise [scores]
  unfold score
  congr 1
  refine Finset.sum_congr rfl fun x _ => ?_
  congr 1
  repeat' split
  all_goals exact pick x _ _ (by simp; omega) (by simp; omega)

/-- A group's sinks at a head. -/
theorem sinks_apply (s : Fin 8 → EReal) (h : Fin 8) (a b : Fin 1) :
    sinks s (ix3 h a b) = s h * (((Real.log 2)⁻¹ : ℝ) : EReal) := by
  rw [← log2e]
  fin_cases h <;> pointwise [sinks] <;> rfl

/-- The greatest score of a row at a head and a query. -/
theorem tops_apply (sc : FVec Ideal S8x128x640 .f32) (sk : FVec Ideal S8x1x1 .f32) (h : Fin 8) (r : Fin 128) (a : Fin 1) :
    tops sc sk (ix3 h r a) = max (Finset.univ.fold max ⊥ fun j : Fin 640 => sc (ix3 h r j)) (sk (ix3 h 0 0)) := by
  pointwise [tops]
  rw [ofBits_neg_inf]

/-- The sums against the values at a head, a query and a column of the values. -/
theorem sums_values (v : FVec Ideal S640x64 .bf16) (sc : FVec Ideal S8x128x640 .f32) (mx : FVec Ideal S8x128x1 .f32)
    (h : Fin 8) (r : Fin 128) (d : Fin 128) (hd : d.val < 64) :
    sums v sc mx (ix3 h r d)
      = ∑ j : Fin 640, Ideal.exp2 (sc (ix3 h r j) - mx (ix3 h r 0)) * v (ix2 j ⟨d.val, hd⟩) := by
  pointwise [sums, k0_pay5]
  simp only [dif_pos hd]
  rfl

/-- The sums against the column of ones, at a head and a query. -/
theorem sums_ones (v : FVec Ideal S640x64 .bf16) (sc : FVec Ideal S8x128x640 .f32) (mx : FVec Ideal S8x128x1 .f32)
    (h : Fin 8) (r : Fin 128) :
    sums v sc mx (ix3 h r 64) = ∑ j : Fin 640, Ideal.exp2 (sc (ix3 h r j) - mx (ix3 h r 0)) := by
  pointwise [sums, k0_pay5]
  refine Finset.sum_congr rfl fun j _ => ?_
  rfl

/-- The quotient at a head, a query and a column. -/
theorem quotient_apply (acc : FVec Ideal S8x128x128 .f32) (sk : FVec Ideal S8x1x1 .f32) (mx : FVec Ideal S8x128x1 .f32)
    (h : Fin 8) (r : Fin 128) (d : Fin 64) :
    quotient acc sk mx (ix3 h r d)
      = Ideal.div (acc (ix3 h r ⟨d.val, by omega⟩)) (acc (ix3 h r 64) + Ideal.exp2 (sk (ix3 h 0 0) - mx (ix3 h r 0))) := by
  pointwise [quotient]
  rfl

/-- A group's attention at a head, a query and a column. -/
theorem group_apply (bias : FVec Ideal S128x640 .f32) (k v : FVec Ideal S640x64 .bf16) (q : Fin 8 → FVec Ideal S128x64 .bf16)
    (s : Fin 8 → EReal) (h : Fin 8) (r : Fin 128) (d : Fin 64) :
    group bias k v q s (ix3 h r d)
      = row (fun j => score k (q h) r j + bias (ix2 r j)) (s h * (((Real.log 2)⁻¹ : ℝ) : EReal)) (fun j => v (ix2 j d)) := by
  unfold group row
  rw [quotient_apply, sums_ones, sums_values _ _ _ _ _ _ d.isLt, sinks_apply]
  simp only [tops_apply, scores_apply, sinks_apply]

/-- A tile at a query and a lane. -/
theorem tile_apply (o : FVec Ideal S8x128x64 .f32) (a b : Nat) (ha : S8x128x64.Slices ![a, 0, 0] S1x128x64)
    (hb : S8x128x64.Slices ![b, 0, 0] S1x128x64) (h : Fin 8) (r : Fin 128) (d : Fin 64) (e : S128x128.Idx)
    (h0 : (e 0 : ℕ) = r) (h1 : h.val = a ∧ (e 1 : ℕ) = d ∨ h.val = b ∧ (e 1 : ℕ) = 64 + d) :
    tile o a b ha hb e = o (ix3 h r d) := by
  pointwise [tile]
  have := d.isLt
  split
  · congr 2 <;> apply Fin.ext <;> simp <;> omega
  · congr 2 <;> apply Fin.ext <;> simp <;> omega

/-- The output block at a query and a column: the column's group, its head and its column there. -/
theorem tiles_apply (o : Fin 4 → FVec Ideal S8x128x64 .f32) (y : S128x2048.Idx) (g : Fin 4) (h : Fin 8) (r : Fin 128)
    (d : Fin 64) (h0 : (y 0 : ℕ) = r) (h1 : (y 1 : ℕ) = 512 * g.val + 64 * h.val + d) :
    tiles o y = o g (ix3 h r d) := by
  have := g.isLt
  have := h.isLt
  have := d.isLt
  have pick : ∀ (a : Fin 4) (f : EReal), a.val = g.val → f = o a (ix3 h r d) → f = o g (ix3 h r d) := by
    intro a f ha hp
    rw [← Fin.ext ha]; exact hp
  unfold tiles
  canon_tiles x hx
  all_goals exact pick _ _ (by simp; omega) (tile_apply _ _ _ _ _ h r d x (by omega) (by omega))

end Cert.WinBlock
end
-- ==== Proof.WinMask.lean ====
module
public import proofs.«01_k».proof.Proof.WinBlock
public import proofs.«01_k».proof.Proof.AttnMath

/-! The mask of the windowed attention: the kernel adds a bias, the reference selects, and both say that a query reads
    the keys at most 128 places from it and its context's keys. -/

@[expose] public section

noncomputable section

namespace Cert.WinMask

open Idealize.ShloMosaic Idealize.ShloMosaic.TcCoe Idealize.SL.Sem
open Cert.KernelIdeal Cert.KernelIdeal.Gen Cert.AttnMath

/-- Two places are at most 128 apart. -/
def Near (p q : Nat) : Prop := p ≤ q + 128 ∧ q ≤ p + 128

instance (p q : Nat) : Decidable (Near p q) := inferInstanceAs (Decidable (_ ∧ _))

/-- The programs' test that two places are at most 128 apart. -/
theorem near_test (p q : Nat) (hp : p < 8192) (hq : q < 8192) :
    IntOp.cmpi .sle (IntOp.absi (IntOp.subi (BitVec.ofNat 32 p) (BitVec.ofNat 32 q))) 128#32 = BitVec.ofBool (decide (Near p q)) := by
  unfold IntOp.cmpi IntOp.absi IntOp.subi
  congr 1
  have hb : (BitVec.ofNat 32 p - BitVec.ofNat 32 q).toInt = (p : Int) - q := by
    rw [BitVec.toInt_sub, BitVec.toInt_ofNat', BitVec.toInt_ofNat']
    simp only [Int.bmod_def]
    omega
  generalize BitVec.ofNat 32 p - BitVec.ofNat 32 q = z at hb
  rw [BitVec.msb_eq_toInt]
  simp only [BitVec.sle, decide_eq_true_eq]
  rw [decide_eq_decide]
  have hc : (128#32 : BitVec 32).toInt = 128 := rfl
  unfold Near
  split
  · rw [BitVec.toInt_neg, hb, hc]
    simp only [Int.bmod_def]
    omega
  · rw [hb, hc]
    omega

/-- The first of the 384 places of a sequence that a block of queries reads. -/
def first (i : Fin 32) : Nat := min 3712 (128 * i.val - 128)

/-- The kernel's arithmetic of that place. -/
theorem first_eq : ∀ i : Fin 32, Scalar.minsi 3712#32 (Scalar.maxsi 0#32 (Scalar.subi (Scalar.muli (BitVec.ofNat 32 i.val) 128#32) 128#32))
    = BitVec.ofNat 32 (first i) := by decide +kernel

/-- Where the kernel reads the keys. -/
theorem off_eq : ∀ i : grid0.Coords, k0_off1 i = ![first (i 1), 0] := by decide +kernel

/-- The bias at a query of block `i` and a key. -/
theorem bias_apply (i : grid0.Coords) (r : Fin 128) (j : Fin 640) :
    k0_pay2 (F := Ideal) i (ix2 r j)
      = if 384 ≤ j.val ∨ Near ((i 1 : Fin 32).val * 128 + r.val) (first (i 1) + j.val) then (0 : EReal) else ⊥ := by
  have hi : (i 1 : Fin 32).val < 32 := (i 1 : Fin 32).isLt
  have hf : first (i 1) ≤ 3712 := min_le_left _ _
  have hp : IntOp.addi (Scalar.muli (BitVec.ofNat 32 (i 1 : Fin 32).val) 128#32) (BitVec.ofNat 32 r.val)
      = BitVec.ofNat 32 ((i 1 : Fin 32).val * 128 + r.val) := by
    apply BitVec.eq_of_toNat_eq
    simp [IntOp.addi, Scalar.muli, IntOp.muli]
  have hq : IntOp.addi (BitVec.ofNat 32 (first (i 1))) (BitVec.ofNat 32 j.val) = BitVec.ofNat 32 (first (i 1) + j.val) := by
    apply BitVec.eq_of_toNat_eq
    simp [IntOp.addi]
  have hj : IntOp.cmpi .sge (BitVec.ofNat 32 j.val) 384#32 = BitVec.ofBool (decide (384 ≤ j.val)) := by
    have := j.isLt
    unfold IntOp.cmpi
    congr 1
    simp only [BitVec.sle]
    rw [decide_eq_decide, BitVec.toInt_ofNat', BitVec.toInt_ofNat']
    simp only [Int.bmod_def]
    omega
  have hm : Named.named (F := Ideal) κ "mask" (φ := .f32) 0xF149F2CA#32 = (⊥ : EReal) :=
    IdealRules.named_const.ideal_named_scalar _ _ _ _ rfl
  pointwise [k0_pay2]
  erw [first_eq (i 1), hp, hq, near_test _ _ (by omega) (by omega), hj, hm]
  unfold Scalar.select IntOp.ori
  by_cases h1 : 384 ≤ j.val <;> by_cases h2 : Near ((i 1 : Fin 32).val * 128 + r.val) (first (i 1) + j.val) <;> simp [h1, h2]

end Cert.WinMask

end
-- ==== Proof.WinArray.lean ====
module
public import proofs.«01_k».proof.Proof.WinRead
public import proofs.«01_k».proof.Proof.WinMask
public import proofs.«01_k».proof.Proof.Gen.KernelIdeal.Value

/-! The windowed attention kernel's result array, at an index, as a function of the projections and the sinks. -/

@[expose] public section

set_option maxRecDepth 16384

noncomputable section

namespace Cert.WinArray

open Idealize.ShloMosaic Idealize.ShloMosaic.TcCoe Idealize.SL.Sem
open Idealize.ShloMosaic.Pipeline (Dat)
open Cert.KernelIdeal Cert.KernelIdeal.Gen Cert.AttnMath Cert.WinBlock Cert.WinMask

/-- Which blocks a grid point reads and writes: point `t` works on block `t % 32` of sequence `t / 32`; the keys and the
    values are the ninth and the tenth of the column blocks. -/
theorem idx : ∀ t : Fin cfg0.N, win0_0.index t = ![0] ∧ win0_1.index t = ![t.val, 0] ∧ win0_2.index t = ![t.val / 32, 8]
    ∧ win0_3.index t = ![t.val / 32, 9] ∧ win0_4.index t = ![t.val / 32, 8] ∧ win0_5.index t = ![t.val / 32, 9]
    ∧ win0_6.index t = ![t.val, 0] :=
  (by decide +kernel : ∀ t : Fin grid0.N, _)

/-- The grid point's block of queries. -/
theorem coord : ∀ t : Fin cfg0.N, ((grid0.coords t 1 : Fin 32) : ℕ) = t.val % 32 :=
  (by decide +kernel : ∀ t : Fin grid0.N, _)

variable (m : (ℓ : Loc nD τ sig) → Buf (Elt Ideal) ℓ) (c : Dev nD) (t : Fin cfg0.N)

/-- The sequences' projections a launch finds in memory. -/
abbrev X : FVec Ideal S32768x2560 .bf16 := m ((c.tc : Thread nD τ).loc main_arg0)

/-- The contexts' projections a launch finds in memory. -/
abbrev Y : FVec Ideal S2048x2560 .bf16 := m ((c.tc : Thread nD τ).loc main_arg1)

/-- The sinks a launch finds in memory. -/
abbrev S : FVec Ideal S32 .f32 := m ((c.tc : Thread nD τ).loc main_arg2)

/-- The sequence a grid point works on. -/
def seq : Fin 8 := ⟨t.val / 32, by have := lt_of_lt_of_eq t.isLt N_0; omega⟩

/-- The block of 128 queries a grid point works on. -/
def block : Fin 32 := ⟨t.val % 32, by omega⟩

/-- No block reads past the end of its sequence. -/
theorem first_le (n : Fin 32) : first n ≤ 3712 := min_le_left _ _

/-- Row `j` of the 640 that block `n` of sequence `b` reads. -/
def rowAt (X : FVec Ideal S32768x2560 .bf16) (Y : FVec Ideal S2048x2560 .bf16) (b : Fin 8) (n : Fin 32) (j : Fin 640) (e : Fin 2560) :
    EReal :=
  if hj : j.val < 384 then X (ix2 ⟨b.val * 4096 + (first n + j.val), by have := first_le n; omega⟩ e)
  else Y (ix2 ⟨b.val * 256 + (j.val - 384), by omega⟩ e)

/-- The 640 rows, at a row and a column. -/
theorem span_apply (i : grid0.Coords) (x : Vec Ideal S4096x256 .bf16) (y : Vec Ideal S256x256 .bf16) (j : Fin 640) (e : Fin 256)
    (n : Fin 32) (hn : (i 1 : Fin 32) = n) :
    span i x y (ix2 j e) = if hj : j.val < 384 then x (ix2 ⟨first n + j.val, by have := first_le n; omega⟩ e)
      else y (ix2 ⟨j.val - 384, by omega⟩ e) := by
  subst hn
  pointwise [span]
  split
  · congr 1
    have h0 : k0_off1 i 0 = first (i 1) := congrFun (off_eq i) 0
    have h1 : k0_off1 i 1 = 0 := congrFun (off_eq i) 1
    funext a
    fin_cases a
    · apply Fin.ext
      simp [h0]
    · apply Fin.ext
      simp [h1]
  · rfl

/-- The grid point's coordinate among a sequence's blocks. -/
theorem coord_block : (grid0.coords t 1 : Fin 32) = block t := Fin.ext (coord t)

/-- A key's entry. -/
theorem key_at (g : Fin 4) (j : Fin 640) (d : Fin 64) :
    columns (span (grid0.coords t) (iblk m c 2 t) (iblk m c 4 t)) g (ix2 j d)
      = rowAt (X m c) (Y m c) (seq t) (block t) j ⟨2048 + (g.val * 64 + d.val), by omega⟩ := by
  have hcol : columns (span (grid0.coords t) (iblk m c 2 t) (iblk m c 4 t)) g (ix2 j d)
      = span (grid0.coords t) (iblk m c 2 t) (iblk m c 4 t) (ix2 j ⟨g.val * 64 + d.val, by omega⟩) := by
    pointwise [columns]
    congr 1
    funext a
    fin_cases a <;> apply Fin.ext <;> simp <;> omega
  rw [hcol, span_apply _ _ _ _ _ (block t) (coord_block t)]
  unfold rowAt
  have := (seq t).isLt
  have := first_le (block t)
  unfold seq at *
  split
  · blk_point [iblk, V, idx t]
  · blk_point [iblk, V, idx t]

/-- A value's entry. -/
theorem value_at (g : Fin 4) (j : Fin 640) (d : Fin 64) :
    columns (span (grid0.coords t) (iblk m c 3 t) (iblk m c 5 t)) g (ix2 j d)
      = rowAt (X m c) (Y m c) (seq t) (block t) j ⟨2304 + (g.val * 64 + d.val), by omega⟩ := by
  have hcol : columns (span (grid0.coords t) (iblk m c 3 t) (iblk m c 5 t)) g (ix2 j d)
      = span (grid0.coords t) (iblk m c 3 t) (iblk m c 5 t) (ix2 j ⟨g.val * 64 + d.val, by omega⟩) := by
    pointwise [columns]
    congr 1
    funext a
    fin_cases a <;> apply Fin.ext <;> simp <;> omega
  rw [hcol, span_apply _ _ _ _ _ (block t) (coord_block t)]
  unfold rowAt
  have := (seq t).isLt
  have := first_le (block t)
  unfold seq at *
  split
  · blk_point [iblk, V, idx t]
  · blk_point [iblk, V, idx t]

/-- A query's entry. -/
theorem query_at (g : Fin 4) (h : Fin 8) (r : Fin 128) (d : Fin 64) :
    query (X0_1 m c t) (headOf g h) (ix2 r d)
      = X m c (ix2 ⟨(seq t).val * 4096 + ((block t).val * 128 + r.val), by omega⟩ ⟨g.val * 512 + h.val * 64 + d.val, by omega⟩) := by
  pointwise [query, headOf]
  unfold X0_1 Pipeline.Window.fill
  rw [dif_pos (moved0_1 t _)]
  have := (seq t).isLt
  unfold seq block at *
  blk_point [iblk, V, idx t]

/-- A sink. -/
theorem sink_at (g : Fin 4) (h : Fin 8) :
    sink (iblk m c 0 t) (headOf g h) = S m c (ix1 ⟨g.val * 8 + h.val, by omega⟩) := by
  pointwise [sink, headOf]
  blk_point [iblk, V, idx t]

/-- What the mask adds to the score of query `r` of block `n` against row `j` of those the block reads. -/
def bias (n : Fin 32) (r : Fin 128) (j : Fin 640) : EReal :=
  if 384 ≤ j.val ∨ Near (n.val * 128 + r.val) (first n + j.val) then 0 else ⊥

/-- Attention as the kernel arranges it: sequence `b`, block `n` of its queries, group `g`, head `h` of it, query `r`,
    column `d`. -/
def entry (X : FVec Ideal S32768x2560 .bf16) (Y : FVec Ideal S2048x2560 .bf16) (S : FVec Ideal S32 .f32) (b : Fin 8) (n : Fin 32)
    (g : Fin 4) (h : Fin 8) (r : Fin 128) (d : Fin 64) : EReal :=
  row (fun j : Fin 640 => (∑ e : Fin 64, X (ix2 ⟨b.val * 4096 + (n.val * 128 + r.val), by omega⟩ ⟨g.val * 512 + h.val * 64 + e.val, by omega⟩)
      * rowAt X Y b n j ⟨2048 + (g.val * 64 + e.val), by omega⟩) + bias n r j)
    (S (ix1 ⟨g.val * 8 + h.val, by omega⟩) * (((Real.log 2)⁻¹ : ℝ) : EReal))
    (fun j => rowAt X Y b n j ⟨2304 + (g.val * 64 + d.val), by omega⟩)

/-- The group's attention at a grid point, in terms of the arrays. -/
theorem groupAt_apply (g : Fin 4) (h : Fin 8) (r : Fin 128) (d : Fin 64) :
    groupAt m c t g (ix3 h r d) = entry (X m c) (Y m c) (S m c) (seq t) (block t) g h r d := by
  unfold groupAt
  rw [group_apply]
  unfold entry score bias
  simp only [key_at, value_at, query_at, sink_at, bias_apply, coord_block]

/-- The whole result. -/
def result (X : FVec Ideal S32768x2560 .bf16) (Y : FVec Ideal S2048x2560 .bf16) (S : FVec Ideal S32 .f32) :
    FVec Ideal S32768x2048 .bf16 := fun i =>
  entry X Y S ⟨(i 0).val / 4096, by have := (i 0).isLt; simp at this; omega⟩ ⟨(i 0).val / 128 % 32, by omega⟩
    ⟨(i 1).val / 512, by have := (i 1).isLt; simp at this; omega⟩
    ⟨(i 1).val / 64 % 8, by omega⟩ ⟨(i 0).val % 128, by omega⟩ ⟨(i 1).val % 64, by omega⟩

/-- The whole result at given coordinates. -/
theorem result_at (X : FVec Ideal S32768x2560 .bf16) (Y : FVec Ideal S2048x2560 .bf16) (S : FVec Ideal S32 .f32) (b : Fin 8)
    (n : Fin 32) (g : Fin 4) (h : Fin 8) (r : Fin 128) (d : Fin 64) (i : S32768x2048.Idx)
    (h0 : (i 0 : ℕ) = b.val * 4096 + (n.val * 128 + r.val)) (h1 : (i 1 : ℕ) = 512 * g.val + 64 * h.val + d.val) :
    result X Y S i = entry X Y S b n g h r d := by
  unfold result
  congr 1 <;> apply Fin.ext <;> simp only [] <;> omega

/-- The array the run leaves. -/
theorem final : (dats m 0 c).arrAt 6 cfg0.N = result (X m c) (Y m c) (S m c) := by
  refine (dats m 0 c).arrAt_eq_of_covers 6 _ (by decide +kernel) fun t _ y => ?_
  have h0 : (y 0 : ℕ) < 128 := (y 0).isLt
  have h1 : (y 1 : ℕ) < 2048 := (y 1).isLt
  have e0 : ((((cfg0.win 6).blk t).view.emb y) 0 : ℕ) = (seq t).val * 4096 + ((block t).val * 128 + (y 0 : ℕ)) := by
    change _ = t.val / 32 * 4096 + (t.val % 32 * 128 + (y 0 : ℕ))
    blk_simp [idx t]
    omega
  have e1 : ((((cfg0.win 6).blk t).view.emb y) 1 : ℕ) = (y 1 : ℕ) := by blk_simp [idx t]
  rw [result_at _ _ _ (seq t) (block t) ⟨(y 1 : ℕ) / 512, by omega⟩ ⟨(y 1 : ℕ) / 64 % 8, by omega⟩ ⟨(y 0 : ℕ), h0⟩ ⟨(y 1 : ℕ) % 64, by omega⟩ _ e0
    (by rw [e1]; simp only []; omega), ← groupAt_apply]
  blk_simp
  rw [after0_6, outs_eq]
  exact tiles_apply _ _ _ _ _ _ rfl (by simp only []; omega)

end Cert.WinArray

end
-- ==== Proof.WinRef.lean ====
module
public import proofs.«01_k».proof.Proof.Gen.ReferenceIdeal.Run
public import proofs.«01_k».proof.Proof.AttnMath

/-! What the windowed attention reference computes, stage by stage, at an index. -/

@[expose] public section

set_option maxRecDepth 16384
set_option pp.maxSteps 3000

noncomputable section

namespace Cert.WinRef

open Idealize.ShloMosaic Idealize.ShloMosaic.TcCoe Idealize.SL.Sem
open Cert.ReferenceIdeal Cert.ReferenceIdeal.Gen Cert.AttnMath

/-- The sequences' projections, a sequence at a time. -/
def rows (x : FVec Ideal S32768x2560 .bf16) : FVec Ideal S8x4096x2560 .f32 :=
  shapeCast _ (extf .f32 x bitsLt_bf16_f32) shapeCasts_S32768x2560_S8x4096x2560

/-- The contexts' projections, a sequence at a time. -/
def ctxRows (y : FVec Ideal S2048x2560 .bf16) : FVec Ideal S8x256x2560 .f32 :=
  shapeCast _ (extf .f32 y bitsLt_bf16_f32) shapeCasts_S2048x2560_S8x256x2560

/-- The keys: the sequence's, then its context's. -/
def keys (x : FVec Ideal S32768x2560 .bf16) (y : FVec Ideal S2048x2560 .bf16) : FVec Ideal S8x4352x4x64 .f32 :=
  concatenate S8x4352x4x64 1 [⟨S8x4096x4x64, shapeCast S8x4096x4x64 (extractStridedSlice S8x4096x256 ![0, 0, 2048] (rows x) slices_S8x4096x2560_S8x4096x256_0_0_2048) shapeCasts_S8x4096x256_S8x4096x4x64⟩,
    ⟨S8x256x4x64, shapeCast S8x256x4x64 (extractStridedSlice S8x256x256 ![0, 0, 2048] (ctxRows y) slices_S8x256x2560_S8x256x256_0_0_2048) shapeCasts_S8x256x256_S8x256x4x64⟩]
    concatenates_S8x4096x4x64_S8x256x4x64_S8x4352x4x64_d1

/-- The values: the sequence's, then its context's. -/
def vals (x : FVec Ideal S32768x2560 .bf16) (y : FVec Ideal S2048x2560 .bf16) : FVec Ideal S8x4352x4x64 .f32 :=
  concatenate S8x4352x4x64 1 [⟨S8x4096x4x64, shapeCast S8x4096x4x64 (extractStridedSlice S8x4096x256 ![0, 0, 2304] (rows x) slices_S8x4096x2560_S8x4096x256_0_0_2304) shapeCasts_S8x4096x256_S8x4096x4x64⟩,
    ⟨S8x256x4x64, shapeCast S8x256x4x64 (extractStridedSlice S8x256x256 ![0, 0, 2304] (ctxRows y) slices_S8x256x2560_S8x256x256_0_0_2304) shapeCasts_S8x256x256_S8x256x4x64⟩]
    concatenates_S8x4096x4x64_S8x256x4x64_S8x4352x4x64_d1

/-- The queries, brought from the kernel's scale to their own. -/
def queries (x : FVec Ideal S32768x2560 .bf16) : FVec Ideal S8x4096x4x8x64 .f32 :=
  mulf (shapeCast S8x4096x4x8x64 (extractStridedSlice S8x4096x2048 ![0, 0, 0] (rows x) slices_S8x4096x2560_S8x4096x2048_0_0_0) shapeCasts_S8x4096x2048_S8x4096x4x8x64)
    (broadcastInDim S8x4096x4x8x64 ![] bcast_S_S8x4096x4x8x64 (mulf (constant (F := Ideal) S_ .f32 0x41000000#32) (Host.log (constant (F := Ideal) S_ .f32 0x40000000#32))))

/-- The scores before the mask: every query against every key of its sequence and group. -/
def products (k : FVec Ideal S8x4352x4x64 .f32) (q : FVec Ideal S8x4096x4x8x64 .f32) : FVec Ideal S8x4x8x4096x4352 .f32 :=
  mulf (transpose S8x4x8x4096x4352 [0, 1, 4, 3, 2] (Host.dotGeneral (F := Ideal) dot_S8x4352x4x64_S8x4096x4x8x64_S8x4x4352x4096x8_3_4_1_13_02_02 none k q)
    transposes_S8x4x4352x4096x8_S8x4x8x4096x4352_0_1_4_3_2)
    (broadcastInDim S8x4x8x4096x4352 ![] bcast_S_S8x4x8x4096x4352 (constant (F := Ideal) S_ .f32 0x3E000000#32))

/-- Which key a query may read: those at most 128 places from it, and the context's. -/
def allowed : IVec S4096x4352 1 :=
  concatenate S4096x4352 1 [⟨S4096x4096, cmpi .sle (absi (subi
      (broadcastInDim S4096x4096 ![0, 1] bcast_S4096x1_S4096x4096_0_1 (broadcastInDim S4096x1 ![0] bcast_S4096_S4096x1_0 (iotaInDim S4096 32 0)))
      (broadcastInDim S4096x4096 ![0, 1] bcast_S1x4096_S4096x4096_0_1 (broadcastInDim S1x4096 ![1] bcast_S4096_S1x4096_1 (iotaInDim S4096 32 0)))))
      (broadcastInDim S4096x4096 ![] bcast_S_S4096x4096 (constantI S_ 32 128#32))⟩,
    ⟨S4096x256, broadcastInDim S4096x256 ![] bcast_S_S4096x256 (constantI S_ 1 1#1)⟩] concatenates_S4096x4096_S4096x256_S4096x4352_d1

/-- The scores, `-∞` where the mask forbids the key. -/
def scores (a : IVec S4096x4352 1) (p : FVec Ideal S8x4x8x4096x4352 .f32) : FVec Ideal S8x4x8x4096x4352 .f32 :=
  select (broadcastInDim S8x4x8x4096x4352 ![3, 4] bcast_S4096x4352_S8x4x8x4096x4352_3_4 a) p
    (broadcastInDim S8x4x8x4096x4352 ![] bcast_S_S8x4x8x4096x4352 (id (constant (F := Ideal) S_ .f32 0xFF800000#32)))

/-- The scores with the sink's as a last key. -/
def withSink (sc : FVec Ideal S8x4x8x4096x4352 .f32) (s : FVec Ideal S32 .f32) : FVec Ideal S8x4x8x4096x4353 .f32 :=
  concatenate S8x4x8x4096x4353 4 [⟨S8x4x8x4096x4352, sc⟩, ⟨S8x4x8x4096x1, broadcastInDim S8x4x8x4096x1 ![0, 1, 2, 3, 4] bcast_S1x4x8x1x1_S8x4x8x4096x1_0_1_2_3_4
    (broadcastInDim S1x4x8x1x1 ![1, 2] bcast_S4x8_S1x4x8x1x1_1_2 (shapeCast S4x8 s shapeCasts_S32_S4x8))⟩]
    concatenates_S8x4x8x4096x4352_S8x4x8x4096x1_S8x4x8x4096x4353_d4

/-- The greatest of a row. -/
def top (a : FVec Ideal S8x4x8x4096x4353 .f32) : FVec Ideal S8x4x8x4096 .f32 :=
  maximumf (broadcastInDim S8x4x8x4096 ![] bcast_S_S8x4x8x4096 (constant (F := Ideal) S_ .f32 0xFF800000#32))
    (Host.reduce FloatOps.maximumf a (constant (F := Ideal) S_ .f32 0xFF800000#32) reducesTo_S8x4x8x4096x4353_S8x4x8x4096_d4 h_S_)

/-- A row's number at every key. -/
def spread (a : FVec Ideal S8x4x8x4096 .f32) : FVec Ideal S8x4x8x4096x4353 .f32 :=
  broadcastInDim S8x4x8x4096x4353 ![0, 1, 2, 3, 4] bcast_S8x4x8x4096x1_S8x4x8x4096x4353_0_1_2_3_4
    (broadcastInDim S8x4x8x4096x1 ![0, 1, 2, 3] bcast_S8x4x8x4096_S8x4x8x4096x1_0_1_2_3 a)

/-- The exponentials of a row. -/
def exps (a : FVec Ideal S8x4x8x4096x4353 .f32) : FVec Ideal S8x4x8x4096x4353 .f32 :=
  Host.exp (subf a (spread (top a)))

/-- The softmax weights. -/
def weights (e : FVec Ideal S8x4x8x4096x4353 .f32) : FVec Ideal S8x4x8x4096x4353 .f32 :=
  Host.divf e (spread (Host.reduceAdd e (constant (F := Ideal) S_ .f32 0x00000000#32) reducesTo_S8x4x8x4096x4353_S8x4x8x4096_d4 h_S_))

/-- The weighted values, heads side by side. -/
def mix (v : FVec Ideal S8x4352x4x64 .f32) (p : FVec Ideal S8x4x8x4096x4353 .f32) : FVec Ideal S32768x2048 .bf16 :=
  truncf .bf16 (shapeCast S32768x2048 (transpose S8x4096x4x8x64 [0, 4, 1, 3, 2] (Host.dotGeneral (F := Ideal) dot_S8x4352x4x64_S8x4x8x4096x4352_S8x4x64x8x4096_1_4_3_23_02_01 none
    v (extractStridedSlice S8x4x8x4096x4352 ![0, 0, 0, 0, 0] p slices_S8x4x8x4096x4353_S8x4x8x4096x4352_0_0_0_0_0))
    transposes_S8x4x64x8x4096_S8x4096x4x8x64_0_4_1_3_2) shapeCasts_S8x4096x4x8x64_S32768x2048) bitsLt_bf16_f32

/-- The reference's result is these stages in turn. -/
theorem result_eq (m : (ℓ : Loc nD τ sig) → Buf (Elt Ideal) ℓ) (c : Dev nD) :
    Value.res_main_v57 m c = mix (vals (m ((c.tc : Thread nD τ).loc main_arg0)) (m ((c.tc : Thread nD τ).loc main_arg1)))
      (weights (exps (withSink (scores allowed (products (keys (m ((c.tc : Thread nD τ).loc main_arg0)) (m ((c.tc : Thread nD τ).loc main_arg1)))
        (queries (m ((c.tc : Thread nD τ).loc main_arg0))))) (m ((c.tc : Thread nD τ).loc main_arg2))))) := by
  unfold Value.res_main_v57
  rfl

/-- Row `k` of a sequence's own rows followed by its context's. -/
def rowAt (x : FVec Ideal S32768x2560 .bf16) (y : FVec Ideal S2048x2560 .bf16) (b : Fin 8) (k : Fin 4352) (e : Fin 2560) : EReal :=
  if hk : k.val < 4096 then x (ix2 ⟨b.val * 4096 + k.val, by omega⟩ e) else y (ix2 ⟨b.val * 256 + (k.val - 4096), by omega⟩ e)

/-- The keys at a sequence, a place, a group and a column. -/
theorem keys_apply (x : FVec Ideal S32768x2560 .bf16) (y : FVec Ideal S2048x2560 .bf16) (b : Fin 8) (k : Fin 4352) (g : Fin 4) (d : Fin 64) :
    keys x y (ix4 b k g d) = rowAt x y b k ⟨2048 + (g.val * 64 + d.val), by omega⟩ := by
  pointwise [keys, rows, ctxRows]
  unfold rowAt
  rfl

/-- The values at a sequence, a place, a group and a column. -/
theorem vals_apply (x : FVec Ideal S32768x2560 .bf16) (y : FVec Ideal S2048x2560 .bf16) (b : Fin 8) (k : Fin 4352) (g : Fin 4) (d : Fin 64) :
    vals x y (ix4 b k g d) = rowAt x y b k ⟨2304 + (g.val * 64 + d.val), by omega⟩ := by
  pointwise [vals, rows, ctxRows]
  unfold rowAt
  rfl

/-- The number the reference multiplies a query by. -/
theorem eight_log_two : (Ideal.ofBits FTy.f32 0x41000000#32) * Ideal.log (Ideal.ofBits FTy.f32 0x40000000#32) = ((8 * Real.log 2 : ℝ) : EReal) := by
  have h8 : Ideal.ofBits FTy.f32 0x41000000#32 = ((8 : ℝ) : EReal) := by
    simp [Ideal.ofBits, Ideal.ieee]
    rw [← EReal.coe_mul]
    norm_num
  have h2 : Ideal.ofBits FTy.f32 0x40000000#32 = ((2 : ℝ) : EReal) := by
    simp [Ideal.ofBits, Ideal.ieee]
    rw [← EReal.coe_mul]
    norm_num
  rw [h8, h2, EReal.coe_mul, Ideal.log_coe, if_neg (by norm_num)]

/-- The queries at a sequence, a place, a group, a head of it and a column. -/
theorem queries_apply (x : FVec Ideal S32768x2560 .bf16) (b : Fin 8) (r : Fin 4096) (g : Fin 4) (h : Fin 8) (d : Fin 64) :
    queries x (ix5 b r g h d)
      = x (ix2 ⟨b.val * 4096 + r.val, by omega⟩ ⟨g.val * 512 + h.val * 64 + d.val, by omega⟩) * ((8 * Real.log 2 : ℝ) : EReal) := by
  pointwise [queries, rows]
  rw [eight_log_two]

/-- The scores before the mask, at a sequence, a group, a head of it, a query and a key. -/
theorem products_apply (k : FVec Ideal S8x4352x4x64 .f32) (q : FVec Ideal S8x4096x4x8x64 .f32) (b : Fin 8) (g : Fin 4) (h : Fin 8) (r : Fin 4096) (j : Fin 4352) :
    products k q (ix5 b g h r j) = (∑ d : Fin 64, k (ix4 b j g d) * q (ix5 b r g h d)) * ((1 / 8 : ℝ) : EReal) := by
  pointwise [products]
  rw [ofBits_eighth]

/-- The mask at a query and a key. -/
theorem allowed_apply (r : Fin 4096) (j : Fin 4352) :
    allowed (ix2 r j) = if j.val < 4096 then IntOp.cmpi .sle (IntOp.absi (IntOp.subi (BitVec.ofNat 32 r.val) (BitVec.ofNat 32 j.val))) 128#32 else 1#1 := by
  pointwise [allowed]
  exact dite_eq_ite

/-- The scores, at a sequence, a group, a head of it, a query and a key. -/
theorem scores_apply (a : IVec S4096x4352 1) (p : FVec Ideal S8x4x8x4096x4352 .f32) (b : Fin 8) (g : Fin 4) (h : Fin 8) (r : Fin 4096) (j : Fin 4352) :
    scores a p (ix5 b g h r j) = if a (ix2 r j) = 1#1 then p (ix5 b g h r j) else (⊥ : EReal) := by
  pointwise [scores]
  unfold Scalar.select
  split
  · rename_i hc
    exact (if_pos hc).symm
  · rename_i hc
    exact ofBits_neg_inf.trans (if_neg hc).symm

/-- The scores with the sink, at a key or at the sink's place. -/
theorem withSink_apply (sc : FVec Ideal S8x4x8x4096x4352 .f32) (s : FVec Ideal S32 .f32) (b : Fin 8) (g : Fin 4) (h : Fin 8)
    (r : Fin 4096) (j : Fin 4353) :
    withSink sc s (ix5 b g h r j)
      = if hj : j.val < 4352 then sc (ix5 b g h r ⟨j.val, hj⟩) else s (ix1 ⟨g.val * 8 + h.val, by omega⟩) := by
  pointwise [withSink]

/-- Before the row, the running maximum is `-∞`. -/
theorem init_bot : (constant (F := Ideal) S_ .f32 0xFF800000#32) (Shape.Idx.first h_S_) = (⊥ : EReal) := ofBits_neg_inf

/-- So it is at every row. -/
theorem base_bot (i : S8x4x8x4096.Idx) :
    broadcastInDim S8x4x8x4096 ![] bcast_S_S8x4x8x4096 (constant (F := Ideal) S_ .f32 0xFF800000#32) i = (⊥ : EReal) := ofBits_neg_inf

/-- The sink's place lies on its row. -/
theorem drop_sink (b : Fin 8) (g : Fin 4) (h : Fin 8) (r : Fin 4096) :
    reducesTo_S8x4x8x4096x4353_S8x4x8x4096_d4.drop (ix5 b g h r 4352) = ix4 b g h r :=
  (Shape.ReducesTo.fiber_r5_a4 _ _ _).mpr ⟨4352, rfl⟩

/-- A row's greatest is a real number when no entry is +∞ and its sink's is not −∞. -/
theorem top_real (a : FVec Ideal S8x4x8x4096x4353 .f32) (b : Fin 8) (g : Fin 4) (h : Fin 8) (r : Fin 4096)
    (ht : ∀ k, a k ≠ (⊤ : EReal)) (hb : a (ix5 b g h r 4352) ≠ (⊥ : EReal)) : ∃ M : ℝ, top a (ix4 b g h r) = (M : EReal) := by
  obtain ⟨M, hM⟩ := reduce_max_real (FloatOps.maximumf (F := Ideal) (φ := .f32)) rfl a _
    reducesTo_S8x4x8x4096x4353_S8x4x8x4096_d4 h_S_ (ix4 b g h r) init_bot ht (ix5 b g h r 4352) (drop_sink b g h r) hb
  refine ⟨M, ?_⟩
  unfold top
  rw [maximumf_apply, base_bot, hM]
  exact max_eq_right bot_le

/-- The exponentials at a key. -/
theorem exps_apply (a : FVec Ideal S8x4x8x4096x4353 .f32) (b : Fin 8) (g : Fin 4) (h : Fin 8) (r : Fin 4096) (j : Fin 4353) :
    exps a (ix5 b g h r j) = Ideal.exp (a (ix5 b g h r j) - top a (ix4 b g h r)) := by
  pointwise [exps, spread]

/-- The weights at a key. -/
theorem weights_apply (e : FVec Ideal S8x4x8x4096x4353 .f32) (b : Fin 8) (g : Fin 4) (h : Fin 8) (r : Fin 4096) (j : Fin 4353) :
    weights e (ix5 b g h r j) = Ideal.div (e (ix5 b g h r j)) (∑ k : Fin 4353, e (ix5 b g h r k)) := by
  pointwise [weights, spread]

/-- The result at a row and a column: the weighted values of the row's sequence. -/
theorem mix_apply (v : FVec Ideal S8x4352x4x64 .f32) (p : FVec Ideal S8x4x8x4096x4353 .f32) (i : S32768x2048.Idx) :
    mix v p i = ∑ j : Fin 4352, v (ix4 ⟨(i 0).val / 4096, by have := (i 0).isLt; simp at this; omega⟩ j
        ⟨(i 1).val / 512, by have := (i 1).isLt; simp at this; omega⟩ ⟨(i 1).val % 64, by omega⟩)
      * p (ix5 ⟨(i 0).val / 4096, by have := (i 0).isLt; simp at this; omega⟩ ⟨(i 1).val / 512, by have := (i 1).isLt; simp at this; omega⟩
        ⟨(i 1).val / 64 % 8, by omega⟩ ⟨(i 0).val % 4096, by omega⟩ ⟨j.val, by omega⟩) := by
  pointwise [mix]

end Cert.WinRef

end
-- ==== Proof.WinEq.lean ====
module
public import proofs.«01_k».proof.Proof.WinArray
public import proofs.«01_k».proof.Proof.WinRef

/-! The windowed attention kernel's result is the reference's, when queries, keys and sinks are real numbers. The kernel reads 640
    of the 4352 keys; the mask forbids the others. -/

@[expose] public section

set_option maxRecDepth 16384

noncomputable section

namespace Cert.WinEq

open Idealize.ShloMosaic Idealize.ShloMosaic.TcCoe Idealize.SL.Sem
open Cert.AttnMath Cert.WinMask Cert.ReferenceIdeal Cert.ReferenceIdeal.Gen

/-- Whether the query at place `r` may read key `k`: the context's keys, and those at most 128 places from it. -/
def Reads (r : Fin 4096) (k : Fin 4352) : Prop := 4096 ≤ k.val ∨ Near r.val k.val

instance (r : Fin 4096) : DecidablePred (Reads r) := fun _ => inferInstanceAs (Decidable (_ ∨ _))

/-- Which key the kernel's row `j` is, for block `n` of the queries. -/
def place (n : Fin 32) (j : Fin 640) : Fin 4352 :=
  if hj : j.val < 384 then ⟨first n + j.val, by have := WinArray.first_le n; omega⟩ else ⟨4096 + (j.val - 384), by omega⟩

/-- The place of query `r` of block `n` in its sequence. -/
def query (n : Fin 32) (r : Fin 128) : Fin 4096 := ⟨n.val * 128 + r.val, by omega⟩

/-- A key's number, for the rows of the sequence and for those of the context. -/
theorem place_val (n : Fin 32) (j : Fin 640) : (place n j).val = if j.val < 384 then first n + j.val else 4096 + (j.val - 384) := by
  unfold place
  split <;> rfl

/-- Different rows are different keys. -/
theorem place_injective (n : Fin 32) : Function.Injective (place n) := by
  intro i j hij
  have h := congrArg Fin.val hij
  rw [place_val, place_val] at h
  have := WinArray.first_le n
  apply Fin.ext
  split at h <;> split at h <;> omega

/-- Every key a query of block `n` may read is among the kernel's rows. -/
theorem place_covers (n : Fin 32) (r : Fin 128) (k : Fin 4352) (hk : Reads (query n r) k) : k ∈ Set.range (place n) := by
  have hn := n.isLt
  have hr := r.isLt
  have hk' := k.isLt
  unfold Reads Near query at hk
  simp only [] at hk
  by_cases hc : 4096 ≤ k.val
  · refine ⟨⟨384 + (k.val - 4096), by omega⟩, Fin.ext ?_⟩
    rw [place_val, if_neg (by simp only []; omega)]
    simp only []
    omega
  · have hf : first n = min 3712 (128 * n.val - 128) := rfl
    refine ⟨⟨k.val - first n, by omega⟩, Fin.ext ?_⟩
    rw [place_val, if_pos (by simp only []; omega)]
    simp only []
    omega

/-- The kernel's bias is the mask. -/
theorem bias_eq (n : Fin 32) (r : Fin 128) (j : Fin 640) :
    WinArray.bias n r j = if Reads (query n r) (place n j) then (0 : EReal) else ⊥ := by
  have hiff : (384 ≤ j.val ∨ Near (n.val * 128 + r.val) (first n + j.val)) ↔ Reads (query n r) (place n j) := by
    have := WinArray.first_le n
    unfold Reads query
    rw [place_val]
    split
    · constructor
      · rintro (h | h)
        · omega
        · exact Or.inr h
      · rintro (h | h)
        · omega
        · exact Or.inr h
    · exact ⟨fun _ => Or.inl (by omega), fun _ => Or.inl (by omega)⟩
  unfold WinArray.bias
  by_cases h : Reads (query n r) (place n j)
  · rw [if_pos h, if_pos (hiff.mpr h)]
  · rw [if_neg h, if_neg (fun hc => h (hiff.mp hc))]

/-- The reference's mask is the mask. -/
theorem allowed_iff (r : Fin 4096) (k : Fin 4352) : WinRef.allowed (ix2 r k) = 1#1 ↔ Reads r k := by
  rw [WinRef.allowed_apply]
  unfold Reads
  split
  · rename_i hk
    rw [near_test _ _ (by omega) (by omega)]
    by_cases hn : Near r.val k.val <;> simp [hn, hk]
  · rename_i hk
    simp [not_lt.mp hk]

variable (X : FVec Ideal S32768x2560 .bf16) (Y : FVec Ideal S2048x2560 .bf16) (S : FVec Ideal S32 .f32)

/-- The kernel's rows are the reference's, at their places. -/
theorem row_place (b : Fin 8) (n : Fin 32) (j : Fin 640) (e : Fin 2560) :
    WinArray.rowAt X Y b n j e = WinRef.rowAt X Y b (place n j) e := by
  have := WinArray.first_le n
  unfold WinArray.rowAt WinRef.rowAt place
  by_cases hj : j.val < 384
  · have hv : first n + j.val < 4096 := by omega
    simp only [dif_pos hj, dif_pos hv]
  · have hv : ¬ 4096 + (j.val - 384) < 4096 := by omega
    simp only [dif_neg hj, dif_neg hv, Nat.add_sub_cancel_left]

variable (x : Fin 32768 → Fin 2560 → ℝ) (y : Fin 2048 → Fin 256 → ℝ) (s : Fin 32 → ℝ)
  (hx : ∀ (i : Fin 32768) (j : Fin 2560), j.val < 2304 → X (ix2 i j) = (x i j : EReal))
  (hy : ∀ (i : Fin 2048) (j : Fin 256) (e : Fin 2560), e.val = 2048 + j.val → Y (ix2 i e) = (y i j : EReal))
  (hs : ∀ i : Fin 32, S (ix1 i) = (s i : EReal))

/-- Key `k` of sequence `b`, column `e` of the four groups' 256, as a real number. -/
def key (b : Fin 8) (k : Fin 4352) (e : Fin 256) : ℝ :=
  if hk : k.val < 4096 then x ⟨b.val * 4096 + k.val, by omega⟩ ⟨2048 + e.val, by omega⟩ else y ⟨b.val * 256 + (k.val - 4096), by omega⟩ e

include hx hy in
/-- The keys are real numbers. -/
theorem key_real (b : Fin 8) (k : Fin 4352) (g : Fin 4) (e : Fin 64) :
    WinRef.rowAt X Y b k ⟨2048 + (g.val * 64 + e.val), by omega⟩ = (key x y b k ⟨g.val * 64 + e.val, by omega⟩ : EReal) := by
  unfold WinRef.rowAt key
  split
  · exact hx _ _ (by simp only []; omega)
  · exact hy _ ⟨g.val * 64 + e.val, by omega⟩ _ rfl

/-- The score in base two, as a real number: query `r` of head `h` in group `g` against key `k`, in sequence `b`. -/
def score (b : Fin 8) (g : Fin 4) (h : Fin 8) (r : Fin 4096) (k : Fin 4352) : ℝ :=
  ∑ e : Fin 64, x ⟨b.val * 4096 + r.val, by omega⟩ ⟨g.val * 512 + h.val * 64 + e.val, by omega⟩ * key x y b k ⟨g.val * 64 + e.val, by omega⟩

/-- The values a head's group reads at column `d`. -/
def values (b : Fin 8) (g : Fin 4) (d : Fin 64) (k : Fin 4352) : EReal := WinRef.rowAt X Y b k ⟨2304 + (g.val * 64 + d.val), by omega⟩

include hx hy hs in
/-- The kernel's entry is the attention row of the real scores. -/
theorem kernel_entry (b : Fin 8) (n : Fin 32) (g : Fin 4) (h : Fin 8) (r : Fin 128) (d : Fin 64) :
    WinArray.entry X Y S b n g h r d = attend (Reads (query n r)) (score x y b g h (query n r)) (s ⟨g.val * 8 + h.val, by omega⟩ * (Real.log 2)⁻¹)
      (values X Y b g d) := by
  rw [← attend_of_injective (Reads (query n r)) _ _ (place n) (place_injective n) (place_covers n r)]
  unfold WinArray.entry
  simp only [row_place]
  refine row_eq _ _ _ _ _ _ (fun j => ?_) ?_
  · have hsum : ∀ e : Fin 64, X (ix2 ⟨b.val * 4096 + (n.val * 128 + r.val), by omega⟩ ⟨g.val * 512 + h.val * 64 + e.val, by omega⟩)
        * WinRef.rowAt X Y b (place n j) ⟨2048 + (g.val * 64 + e.val), by omega⟩
        = ((x ⟨b.val * 4096 + (query n r).val, by omega⟩ ⟨g.val * 512 + h.val * 64 + e.val, by omega⟩
          * key x y b (place n j) ⟨g.val * 64 + e.val, by omega⟩ : ℝ) : EReal) := fun e => by
      rw [hx _ _ (by simp only []; omega), key_real X Y x y hx hy, EReal.coe_mul]
      rfl
    simp only [hsum]
    rw [← coe_sum, bias_eq]
    unfold masked
    split
    · rw [add_zero]
      rfl
    · exact EReal.add_bot _
  · rw [hs, EReal.coe_mul]

include hx hy in
/-- The reference's score before the mask is a real number, the same as the kernel's up to the units. -/
theorem reference_score (b : Fin 8) (g : Fin 4) (h : Fin 8) (r : Fin 4096) (k : Fin 4352) :
    WinRef.products (WinRef.keys X Y) (WinRef.queries X) (ix5 b g h r k) = ((Real.log 2 * score x y b g h r k : ℝ) : EReal) := by
  rw [WinRef.products_apply]
  have hsum : ∀ e : Fin 64, WinRef.keys X Y (ix4 b k g e) * WinRef.queries X (ix5 b r g h e)
      = ((key x y b k ⟨g.val * 64 + e.val, by omega⟩
        * (x ⟨b.val * 4096 + r.val, by omega⟩ ⟨g.val * 512 + h.val * 64 + e.val, by omega⟩ * (8 * Real.log 2)) : ℝ) : EReal) := fun e => by
    rw [WinRef.keys_apply, WinRef.queries_apply, key_real X Y x y hx hy, hx _ _ (by simp only []; omega)]
    simp only [EReal.coe_mul]
  simp only [hsum]
  rw [← coe_sum, ← EReal.coe_mul]
  congr 1
  unfold score
  rw [Finset.sum_mul, Finset.mul_sum]
  refine Finset.sum_congr rfl fun e _ => ?_
  ring

/-- An index of the weights' array is its five coordinates. -/
theorem coords (k : S8x4x8x4096x4353.Idx) :
    ∃ (b : Fin 8) (g : Fin 4) (h : Fin 8) (r : Fin 4096) (j : Fin 4353), k = ix5 b g h r j :=
  ⟨k 0, k 1, k 2, k 3, k 4, by funext a; fin_cases a <;> rfl⟩

/-- The reference's scores with the sink. -/
abbrev all : FVec Ideal S8x4x8x4096x4353 .f32 :=
  WinRef.withSink (WinRef.scores WinRef.allowed (WinRef.products (WinRef.keys X Y) (WinRef.queries X))) S

include hx hy in
/-- The reference's scores are the masked scores. -/
theorem all_key (b : Fin 8) (g : Fin 4) (h : Fin 8) (r : Fin 4096) (k : Fin 4353) (hk : k.val < 4352) :
    all X Y S (ix5 b g h r k) = masked (Reads r) (fun j => Real.log 2 * score x y b g h r j) ⟨k.val, hk⟩ := by
  rw [all, WinRef.withSink_apply, dif_pos hk, WinRef.scores_apply, reference_score X Y x y hx hy]
  unfold masked
  exact if_congr (allowed_iff r _) rfl rfl

include hs in
/-- The last of a row of the reference's scores is the sink. -/
theorem all_sink (b : Fin 8) (g : Fin 4) (h : Fin 8) (r : Fin 4096) (k : Fin 4353) (hk : ¬ k.val < 4352) :
    all X Y S (ix5 b g h r k) = (s ⟨g.val * 8 + h.val, by omega⟩ : EReal) := by
  rw [all, WinRef.withSink_apply, dif_neg hk, hs]

include hx hy hs in
/-- No score of the reference is `+∞`. -/
theorem all_ne_top (k : S8x4x8x4096x4353.Idx) : all X Y S k ≠ ⊤ := by
  obtain ⟨b, g, h, r, j, rfl⟩ := coords k
  by_cases hj : j.val < 4352
  · rw [all_key X Y S x y hx hy b g h r j hj]
    exact masked_ne_top _ _ _
  · rw [all_sink X Y S s hs b g h r j hj]
    exact EReal.coe_ne_top _

include hx hy hs in
/-- A row of the reference's attention is the attention row of the real scores. -/
theorem reference_row (b : Fin 8) (g : Fin 4) (h : Fin 8) (r : Fin 4096) (d : Fin 64) :
    ∑ j : Fin 4352, values X Y b g d j
        * Ideal.div (Ideal.exp (all X Y S (ix5 b g h r j.castSucc) - WinRef.top (all X Y S) (ix4 b g h r)))
          (∑ k : Fin 4353, Ideal.exp (all X Y S (ix5 b g h r k) - WinRef.top (all X Y S) (ix4 b g h r)))
      = attend (Reads r) (score x y b g h r) (s ⟨g.val * 8 + h.val, by omega⟩ * (Real.log 2)⁻¹) (values X Y b g d) := by
  refine softmax_eq (Reads r) (score x y b g h r) (s ⟨g.val * 8 + h.val, by omega⟩ * (Real.log 2)⁻¹) (values X Y b g d)
    (fun k => all X Y S (ix5 b g h r k)) _ (WinRef.top_real _ _ _ _ _ (all_ne_top X Y S x y s hx hy hs) ?_) (fun j => ?_) ?_
  · rw [all_sink X Y S s hs _ _ _ _ _ (by simp)]
    exact EReal.coe_ne_bot _
  · exact all_key X Y S x y hx hy b g h r j.castSucc j.isLt
  · rw [all_sink X Y S s hs _ _ _ _ _ (by simp)]
    congr 1
    have := log_two_ne
    field_simp

include hx hy hs in
/-- The reference's result is the kernel's array. -/
theorem reference_result :
    WinRef.mix (WinRef.vals X Y) (WinRef.weights (WinRef.exps (all X Y S))) = WinArray.result X Y S := by
  funext i
  have h0 : (i 0 : ℕ) < 32768 := (i 0).isLt
  have h1 : (i 1 : ℕ) < 2048 := (i 1).isLt
  obtain ⟨b, hb⟩ : ∃ b : Fin 8, b.val = (i 0 : ℕ) / 4096 := ⟨⟨_, by omega⟩, rfl⟩
  obtain ⟨g, hg⟩ : ∃ g : Fin 4, g.val = (i 1 : ℕ) / 512 := ⟨⟨_, by omega⟩, rfl⟩
  obtain ⟨h, hh⟩ : ∃ h : Fin 8, h.val = (i 1 : ℕ) / 64 % 8 := ⟨⟨_, by omega⟩, rfl⟩
  obtain ⟨n, hn⟩ : ∃ n : Fin 32, n.val = (i 0 : ℕ) / 128 % 32 := ⟨⟨_, by omega⟩, rfl⟩
  obtain ⟨r, hr⟩ : ∃ r : Fin 128, r.val = (i 0 : ℕ) % 128 := ⟨⟨_, by omega⟩, rfl⟩
  obtain ⟨d, hd⟩ : ∃ d : Fin 64, d.val = (i 1 : ℕ) % 64 := ⟨⟨_, by omega⟩, rfl⟩
  have hq : (query n r).val = (i 0 : ℕ) % 4096 := by
    unfold query
    simp only []
    omega
  rw [WinArray.result_at X Y S b n g h r d i (by omega) (by omega), kernel_entry X Y S x y s hx hy hs, WinRef.mix_apply,
    ← reference_row X Y S x y s hx hy hs b g h (query n r) d]
  simp only [← hb, ← hg, ← hh, ← hq, ← hd, Fin.eta]
  refine Finset.sum_congr rfl fun j _ => ?_
  rw [WinRef.weights_apply, WinRef.vals_apply]
  simp only [WinRef.exps_apply]
  rfl

end Cert.WinEq

end
-- ==== Proof.WinPre.lean ====
module
public import proofs.«01_k».proof.Defs
public import proofs.«01_k».proof.Proof.AttnMath

/-! What the windowed attention claim's precondition says: queries, keys and sinks are real numbers. -/

@[expose] public section

noncomputable section

namespace Cert.WinPre

open Idealize.ShloMosaic Idealize.ShloMosaic.TcCoe Idealize.SL.Sem
open Cert.Pre_finite_q_k_sink Cert.Pre_finite_q_k_sink.Facts Cert.AttnMath

/-- The shape relations the predicate takes. -/
theorem facts : Facts := ⟨by decide, by decide, by decide, by decide, by decide, by decide⟩

attribute [local instance] facts

variable (X : FVec Ideal S32768x2560 .bf16) (Y : FVec Ideal S2048x2560 .bf16) (S : FVec Ideal S32 .f32)

/-- A projection of the sequence in the queries' or the keys' columns is a real number. -/
theorem real_qk (hp : (fn X Y S).1 = fun _ => 1#1) (i : Fin 32768) (j : Fin 2560) (hj : j.val < 2304) :
    ∃ r : ℝ, X (ix2 i j) = (r : EReal) := by
  have h := congrFun hp (ix2 i ⟨j.val, hj⟩)
  unfold fn at h
  dsimp only at h
  revert h
  pointwise
  exact real_of_below _

/-- A projection of the context in the keys' columns is a real number. -/
theorem real_k (hp : (fn X Y S).2.1 = fun _ => 1#1) (i : Fin 2048) (j : Fin 256) :
    ∃ r : ℝ, Y (ix2 i ⟨2048 + j.val, by omega⟩) = (r : EReal) := by
  have h := congrFun hp (ix2 i j)
  unfold fn at h
  dsimp only at h
  revert h
  pointwise
  exact real_of_below _

/-- A sink is a real number. -/
theorem real_sink (hp : (fn X Y S).2.2 = fun _ => 1#1) (i : Fin 32) : ∃ r : ℝ, S (ix1 i) = (r : EReal) := by
  have h := congrFun hp (ix1 i)
  unfold fn at h
  dsimp only at h
  revert h
  pointwise
  exact real_of_below _

end Cert.WinPre

end
-- ==== Proof.WinClaim.lean ====
module
public import proofs.«01_k».proof.Proof.WinEq
public import proofs.«01_k».proof.Proof.WinPre
public import Idealize.ShloMosaic.Lib.Quiescent

/-! The claims about the windowed attention. -/

@[expose] public section

noncomputable section

namespace Cert.WinClaim

open Idealize.ShloMosaic Idealize.ShloMosaic.TcCoe Idealize.SL.Sem

attribute [local instance] Cert.WinPre.facts

/-- The windowed attention reference runs, keeps its arguments and leaves the machine quiet. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Where queries, keys and sinks are real numbers, the windowed attention kernel and its reference leave the same array. -/
theorem algebraic : Cert.algebraic_KernelIdeal_ReferenceIdeal_pre_finite_q_k_sink := by
  intro m ρ m' ρ' hpre hagree
  refine ⟨fun c => WinArray.result (WinArray.X m c) (WinArray.Y m c) (WinArray.S m c),
    (θ_run Cert.KernelIdeal.defs _ _).mono (fun _ h c => ⟨(h c).1.trans (WinArray.final m c), (h c).2⟩)
      (Cert.KernelIdeal.Value.run_blocks (F := Ideal) m ρ),
    (θ_run Cert.ReferenceIdeal.defs _ _).mono (fun _ h c => ⟨(h c).1.trans ?_, (h c).2⟩)
      (Cert.ReferenceIdeal.Value.run (F := Ideal) m' ρ')⟩
  have hx : ∀ (i : Fin 32768) (j : Fin 2560), ∃ r : ℝ, j.val < 2304 → WinArray.X m c (ix2 i j) = (r : EReal) := fun i j =>
    if hj : j.val < 2304 then (WinPre.real_qk _ _ _ (hpre c).1 i j hj).imp fun r h _ => h else ⟨0, fun h => absurd h hj⟩
  choose x hx using hx
  choose y hy using WinPre.real_k _ _ _ (hpre c).2.1
  choose s hs using WinPre.real_sink _ _ _ (hpre c).2.2
  rw [WinRef.result_eq, (hagree c).1, (hagree c).2.1, (hagree c).2.2]
  refine WinEq.reference_result _ _ _ x y s hx (fun i j e he => ?_) hs
  have h : e = ⟨2048 + j.val, by omega⟩ := Fin.ext he
  rw [h]
  exact hy i j

end Cert.WinClaim

end
-- ==== Proof.ResArray.lean ====
module
public import proofs.«01_k».proof.Proof.Gen.KernelResIdeal.Value
public import proofs.«01_k».proof.Proof.Gen.ReferenceResIdeal.Run
public import Idealize.ShloMosaic.Lib.Pipeline.ValueKit
public import Idealize.ShloMosaic.Lib.Quiescent

/-! The output projection with its gated residual: the kernel's array and the reference's, entry by entry. -/

@[expose] public section

set_option maxRecDepth 16384

noncomputable section

namespace Cert.ResArray

open Idealize.ShloMosaic Idealize.ShloMosaic.TcCoe Idealize.SL.Sem
open Idealize.ShloMosaic.Pipeline (Dat)
open Cert.KernelResIdeal Cert.KernelResIdeal.Gen

/-- The gated residual at a token and a column: the residual, plus the gate of the token's sequence times the token's row
    against the column of the weights. -/
def result (a : FVec Ideal S32768x2048 .bf16) (w : FVec Ideal S2048x2048 .bf16) (r : FVec Ideal S32768x2048 .f32)
    (g : FVec Ideal S8x1x2048 .f32) : FVec Ideal S32768x2048 .f32 := fun i =>
  r i + g (ix3 ⟨(i 0).val / 4096, by have := (i 0).isLt; simp at this; omega⟩ 0 ⟨(i 1).val, (i 1).isLt⟩)
    * ∑ k : Fin 2048, a (ix2 ⟨(i 0).val, (i 0).isLt⟩ k) * w (ix2 k ⟨(i 1).val, (i 1).isLt⟩)

/-- What a grid point computes, at an entry of its block. -/
theorem pay_apply (a : Vec Ideal S1024x2048 .bf16) (w : Vec Ideal S2048x1024 .bf16) (r : Vec Ideal S1024x1024 .f32)
    (g : Vec Ideal S1x1x1024 .f32) (i j : Fin 1024) :
    k0_pay1 (F := Ideal) a w r g (ix2 i j) = r (ix2 i j) + g (ix3 0 0 j) * ∑ k : Fin 2048, a (ix2 i k) * w (ix2 k j) := by
  pointwise [k0_pay1]

/-- Which blocks a grid point reads and writes. -/
theorem idx : ∀ t : Fin cfg0.N, win0_0.index t = ![t.val / 2, 0] ∧ win0_1.index t = ![0, t.val % 2]
    ∧ win0_2.index t = ![t.val / 2, t.val % 2] ∧ win0_3.index t = ![t.val / 8, 0, t.val % 2]
    ∧ win0_4.index t = ![t.val / 2, t.val % 2] :=
  (by decide +kernel : ∀ t : Fin grid0.N, _)

/-- What a grid point leaves in its output block, at an entry. -/
theorem out_apply (a : Vec Ideal S1024x2048 .bf16) (w : Vec Ideal S2048x1024 .bf16) (r : Vec Ideal S1024x1024 .f32)
    (g : Vec Ideal S1x1x1024 .f32) (i j : Fin 1024) :
    out0_4 (F := Ideal) a w r g (ix2 i j) = r (ix2 i j) + g (ix3 0 0 j) * ∑ k : Fin 2048, a (ix2 i k) * w (ix2 k j) := by
  rw [← pay_apply]
  unfold out0_4 r0_0 r0_1 r0_2 r0_3
  rw [View.ld_unit_lit, View.ld_unit_lit, View.ld_unit_lit, View.ld_unit_lit, View.canon_cons_unit_lit] <;> decide

variable (m : (ℓ : Loc nD τ sig) → Buf (Elt Ideal) ℓ) (c : Dev nD) (t : Fin cfg0.N)

/-- The mixer's rows a launch finds in memory. -/
abbrev A : FVec Ideal S32768x2048 .bf16 := m ((c.tc : Thread nD τ).loc main_arg0)

/-- The weights a launch finds in memory. -/
abbrev W : FVec Ideal S2048x2048 .bf16 := m ((c.tc : Thread nD τ).loc main_arg1)

/-- The residual stream a launch finds in memory. -/
abbrev R : FVec Ideal S32768x2048 .f32 := m ((c.tc : Thread nD τ).loc main_arg2)

/-- The gates a launch finds in memory. -/
abbrev G : FVec Ideal S8x1x2048 .f32 := m ((c.tc : Thread nD τ).loc main_arg3)

/-- A grid point's rows. -/
theorem rows_at (i : Fin 1024) (k : Fin 2048) :
    iblk m c 0 t (ix2 i k) = A m c (ix2 ⟨t.val / 2 * 1024 + i.val, by have := lt_of_lt_of_eq t.isLt N_0; omega⟩ k) := by
  blk_point [iblk, V, idx t]

/-- A grid point's columns of the weights. -/
theorem cols_at (k : Fin 2048) (j : Fin 1024) :
    iblk m c 1 t (ix2 k j) = W m c (ix2 k ⟨t.val % 2 * 1024 + j.val, by omega⟩) := by
  blk_point [iblk, V, idx t]

/-- A grid point's block of the residual. -/
theorem res_at (i j : Fin 1024) :
    iblk m c 2 t (ix2 i j) = R m c (ix2 ⟨t.val / 2 * 1024 + i.val, by have := lt_of_lt_of_eq t.isLt N_0; omega⟩
      ⟨t.val % 2 * 1024 + j.val, by omega⟩) := by
  blk_point [iblk, V, idx t]

/-- A grid point's gates: those of the sequence its rows belong to. -/
theorem gate_at (j : Fin 1024) :
    iblk m c 3 t (ix3 0 0 j) = G m c (ix3 ⟨t.val / 8, by have := lt_of_lt_of_eq t.isLt N_0; omega⟩ 0
      ⟨t.val % 2 * 1024 + j.val, by omega⟩) := by
  blk_point [iblk, V, idx t]

/-- A grid point's block of the result. -/
theorem block_at (i j : Fin 1024) :
    out0_4 (iblk m c 0 t) (iblk m c 1 t) (iblk m c 2 t) (iblk m c 3 t) (ix2 i j)
      = result (A m c) (W m c) (R m c) (G m c) (ix2 ⟨t.val / 2 * 1024 + i.val, by have := lt_of_lt_of_eq t.isLt N_0; omega⟩
          ⟨t.val % 2 * 1024 + j.val, by omega⟩) := by
  have ht := lt_of_lt_of_eq t.isLt N_0
  rw [out_apply]
  simp only [rows_at, cols_at, res_at, gate_at]
  unfold result
  have hs : (⟨t.val / 8, by omega⟩ : Fin 8) = ⟨(t.val / 2 * 1024 + i.val) / 4096, by omega⟩ := Fin.ext (by simp only []; omega)
  rw [hs]
  rfl

/-- The array the run leaves. -/
theorem final : (dats m 0 c).arrAt 4 cfg0.N = result (A m c) (W m c) (R m c) (G m c) := by
  refine (dats m 0 c).arrAt_eq_of_covers 4 _ (by decide +kernel) fun t _ y => ?_
  have ht := lt_of_lt_of_eq t.isLt N_0
  have h0 : (y 0 : ℕ) < 1024 := (y 0).isLt
  have h1 : (y 1 : ℕ) < 1024 := (y 1).isLt
  have e0 : ((((cfg0.win 4).blk t).view.emb y) 0 : ℕ) = t.val / 2 * 1024 + (y 0 : ℕ) := by blk_simp [idx t]
  have e1 : ((((cfg0.win 4).blk t).view.emb y) 1 : ℕ) = t.val % 2 * 1024 + (y 1 : ℕ) := by blk_simp [idx t]
  have hy : y = ix2 (⟨(y 0 : ℕ), h0⟩ : Fin 1024) (⟨(y 1 : ℕ), h1⟩ : Fin 1024) := eq_ix2 y
  have hi : ((cfg0.win 4).blk t).view.emb y = ix2 (⟨t.val / 2 * 1024 + (y 0 : ℕ), by omega⟩ : Fin 32768)
      (⟨t.val % 2 * 1024 + (y 1 : ℕ), by omega⟩ : Fin 2048) := by
    funext a
    match a with
    | ⟨0, _⟩ => exact Fin.ext e0
    | ⟨1, _⟩ => exact Fin.ext e1
  rw [hi, ← block_at m c t ⟨(y 0 : ℕ), h0⟩ ⟨(y 1 : ℕ), h1⟩]
  blk_simp
  rw [after0_4]
  exact congrArg _ hy

end Cert.ResArray

end
-- ==== Proof.ResClaim.lean ====
module
public import proofs.«01_k».proof.Defs
public import proofs.«01_k».proof.Proof.ResArray

/-! The claims about the output projection with its gated residual. -/

@[expose] public section

set_option maxRecDepth 16384

noncomputable section

namespace Cert.ResClaim

open Idealize.ShloMosaic Idealize.ShloMosaic.TcCoe Idealize.SL.Sem

section
open Cert.ReferenceResIdeal Cert.ReferenceResIdeal.Gen

/-- The reference as a function of its arguments: the product over all tokens, then the residual a sequence at a time. -/
def reference (a : FVec Ideal S32768x2048 .bf16) (w : FVec Ideal S2048x2048 .bf16) (r : FVec Ideal S32768x2048 .f32)
    (g : FVec Ideal S8x1x2048 .f32) : FVec Ideal S32768x2048 .f32 :=
  shapeCast S32768x2048 (addf (shapeCast S8x4096x2048 r shapeCasts_S32768x2048_S8x4096x2048)
    (mulf (broadcastInDim S8x4096x2048 ![0, 1, 2] bcast_S8x1x2048_S8x4096x2048_0_1_2 g)
      (shapeCast S8x4096x2048 (Host.dotGeneral (F := Ideal) dot_S32768x2048_S2048x2048_S32768x2048_1_0_0_1_n_n none
        (extf .f32 a bitsLt_bf16_f32) (extf .f32 w bitsLt_bf16_f32)) shapeCasts_S32768x2048_S8x4096x2048)))
    shapeCasts_S8x4096x2048_S32768x2048

/-- The reference, entry by entry, is what the kernel computes. -/
theorem reference_eq (a : FVec Ideal S32768x2048 .bf16) (w : FVec Ideal S2048x2048 .bf16) (r : FVec Ideal S32768x2048 .f32)
    (g : FVec Ideal S8x1x2048 .f32) : reference a w r g = ResArray.result a w r g := by
  funext i
  obtain ⟨p, q, rfl⟩ : ∃ (p : Fin 32768) (q : Fin 2048), i = ix2 p q := ⟨i 0, i 1, eq_ix2 i⟩
  pointwise [reference, ResArray.result]

end

/-- The reference runs, keeps its arguments and leaves the machine quiet. -/
theorem frame_reference : Cert.quiescent_ReferenceResIdeal := fun m ρ _ =>
  (θ_run Cert.ReferenceResIdeal.defs _ _).mono
    (fun r h => ⟨fun c => (h c).2, Idealize.ShloMosaic.sem_eq_zero_of_no_sems (by decide) r.2⟩)
    (Cert.ReferenceResIdeal.Value.run (F := Ideal) m ρ)

/-- On any arguments, the kernel and the reference leave the same array. -/
theorem algebraic : Cert.algebraic_KernelResIdeal_ReferenceResIdeal := by
  intro m ρ m' ρ' _ hagree
  refine ⟨fun c => ResArray.result (ResArray.A m c) (ResArray.W m c) (ResArray.R m c) (ResArray.G m c),
    (θ_run Cert.KernelResIdeal.defs _ _).mono (fun _ h c => ⟨(h c).1.trans (ResArray.final m c), (h c).2⟩)
      (Cert.KernelResIdeal.Value.run_blocks (F := Ideal) m ρ),
    (θ_run Cert.ReferenceResIdeal.defs _ _).mono (fun _ h c => ⟨(h c).1.trans ?_, (h c).2⟩)
      (Cert.ReferenceResIdeal.Value.run (F := Ideal) m' ρ')⟩
  rw [(hagree c).1, (hagree c).2.1, (hagree c).2.2.1, (hagree c).2.2.2]
  exact reference_eq _ _ _ _

end Cert.ResClaim

end
-- ==== Proof.ConvBlock.lean ====
module
public import proofs.«01_k».proof.Proof.Gen.KernelConvIdeal.Frame
public import Idealize.ShloMosaic.Lib.Pipeline.ValueKit
public import Idealize.ShloMosaic.Lib.Pipeline.ReadBack
public import Idealize.ShloMosaic.Lib.Routing.Words

/-! What one grid point of the projection with the short convolution leaves behind: in its scratch the normed rows of
    its block and of the sixteen rows before and after, in its output block the convolved product of those rows with
    the point's columns of the weights. -/

@[expose] public section

set_option maxRecDepth 16384

noncomputable section

namespace Cert.ConvBlock

open Idealize.ShloMosaic Idealize.ShloMosaic.TcCoe Idealize.SL.Sem
open Idealize.ShloMosaic.Pipeline (Dat)
open Cert.KernelConvIdeal Cert.KernelConvIdeal.Gen

/-- The scratch once filled: 1024 normed rows, then sixteen before them, then sixteen after. -/
def rows (x : FVec Ideal S1024x2048 .f32) (xp xn : FVec Ideal S16x2048 .f32) (sh sc : FVec Ideal S1x1x2048 .f32) :
    FVec Ideal S1056x2048 .bf16 :=
  View.canon (Val := Elt Ideal) (e := .bf16)
    [⟨Rect.unit ![1040, 0] ![16, 2048] inb_S1056x2048_S16x2048_1040_0, k0_pay8 (F := Ideal) (k0_pay2 sh) (k0_pay3 sc) xn⟩,
     ⟨Rect.unit ![1024, 0] ![16, 2048] inb_S1056x2048_S16x2048_1024_0, k0_pay7 (F := Ideal) (k0_pay2 sh) (k0_pay5 xp) (k0_pay6 sc)⟩,
     ⟨Rect.unit ![0, 0] ![1024, 2048] inb_S1056x2048_S1024x2048_0_0, k0_pay4 (F := Ideal) sh sc x⟩]

/-- A point's output block, from the scratch and the point's columns of the weights, the filters and the biases. -/
def block (i : grid0.Coords) (H : FVec Ideal S1056x2048 .bf16) (w : FVec Ideal S2048x1024 .bf16)
    (cw : FVec Ideal S3x1024 .f32) (cb : FVec Ideal S1x1024 .f32) : FVec Ideal S1024x1024 .bf16 :=
  k0_pay1 (k0_pay9 H w) (k0_pay10 H w) (iota Kind.tc S1024x1024 32 [0] iota_S1024x1024_d0_w32) (k0_pay11 i) (k0_pay12 i H w)
    1023#32 (View.ld (Val := Elt Ideal) (e' := .f32) cw (Rect.unit ![0, 0] ![1, 1024] inb_S3x1024_S1x1024_0_0))
    (View.ld (Val := Elt Ideal) (e' := .f32) cw (Rect.unit ![1, 0] ![1, 1024] inb_S3x1024_S1x1024_1_0))
    (View.ld (Val := Elt Ideal) (e' := .f32) cw (Rect.unit ![2, 0] ![1, 1024] inb_S3x1024_S1x1024_2_0)) cb

section
variable (m : (ℓ : Loc nD τ sig) → Buf (Elt Ideal) ℓ) (c : Dev nD) (t : Fin cfg0.N)

/-- At a row block's first point the scratch is filled and then read. -/
theorem outs_first (h0 : t.val % 6 = 0) : outsAt0 m c t.val t.isLt
    = (block (grid0.coords t) (rows (iblk m c 0 t) (iblk m c 1 t) (iblk m c 2 t) (iblk m c 3 t) (iblk m c 4 t))
        (iblk m c 5 t) (iblk m c 6 t) (iblk m c 7 t),
       rows (iblk m c 0 t) (iblk m c 1 t) (iblk m c 2 t) (iblk m c 3 t) (iblk m c 4 t)) := by
  have whole : ∀ L : List (View.Piece (Elt Ideal) S1056x2048 .bf16),
      (View.whole cc0_scratch0).readCov L (Rect.unit ![0, 0] ![1056, 2048] inb_S1056x2048_S1056x2048_0_0).toLoadRect
        = View.canon L := fun L => by
    refine (View.readCov_eq_canon' _ _ _).trans ?_
    change View.ld (View.canon L) _ = _
    rw [View.ld_unit_lit] <;> decide
  rw [outsAt0_A m c t h0]
  unfold out0_A_8 sout0_A_0
  frame_out
  rw [whole]
  rfl

/-- At the other points the scratch is the one the point before left. -/
theorem outs_next (h0 : ¬ t.val % 6 = 0) : outsAt0 m c t.val t.isLt
    = (block (grid0.coords t) (outsAt0 m c (t.val - 1) (by omega)).2 (iblk m c 5 t) (iblk m c 6 t) (iblk m c 7 t),
       (outsAt0 m c (t.val - 1) (by omega)).2) := by
  rw [outsAt0_B m c t h0]
  unfold out0_B_8 sout0_B_0
  frame_out
  rw [read_unread_whole]
  rfl

end

/-- One entry of a modulated, normed row. -/
def normed (x sh sc : Fin 2048 → EReal) (k : Fin 2048) : EReal :=
  x k * Ideal.rsqrt (Ideal.div (∑ l, x l * x l) (Ideal.ofBits FTy.f32 0x45000000#32) + Ideal.ofBits FTy.f32 0x358637BD#32)
    * (1 + sc k) + sh k

theorem pay4_apply (x : FVec Ideal S1024x2048 .f32) (sh sc : FVec Ideal S1x1x2048 .f32) (r : Fin 1024) (k : Fin 2048) :
    k0_pay4 (F := Ideal) sh sc x (ix2 r k) = normed (fun l => x (ix2 r l)) (fun l => sh (ix3 0 0 l)) (fun l => sc (ix3 0 0 l)) k := by
  pointwise [k0_pay4, k0_pay2, k0_pay3]
  rfl

theorem pay8_apply (x : FVec Ideal S16x2048 .f32) (sh sc : FVec Ideal S1x1x2048 .f32) (r : Fin 16) (k : Fin 2048) :
    k0_pay8 (F := Ideal) (k0_pay2 sh) (k0_pay3 sc) x (ix2 r k) = normed (fun l => x (ix2 r l)) (fun l => sh (ix3 0 0 l)) (fun l => sc (ix3 0 0 l)) k := by
  pointwise [k0_pay8, k0_pay2, k0_pay3]
  rfl

theorem pay7_apply (x : FVec Ideal S16x2048 .f32) (sh sc : FVec Ideal S1x1x2048 .f32) (r : Fin 16) (k : Fin 2048) :
    k0_pay7 (F := Ideal) (k0_pay2 sh) (k0_pay5 x) (k0_pay6 sc) (ix2 r k)
      = normed (fun l => x (ix2 r l)) (fun l => sh (ix3 0 0 l)) (fun l => sc (ix3 0 0 l)) k := by
  pointwise [k0_pay7, k0_pay5, k0_pay6, k0_pay2, k0_pay3]
  rfl

/-- The row that a row of the scratch is the normed form of. -/
def source (x : FVec Ideal S1024x2048 .f32) (xp xn : FVec Ideal S16x2048 .f32) (r : Fin 1056) (l : Fin 2048) : EReal :=
  if h : r.val < 1024 then x (ix2 ⟨r.val, h⟩ l)
  else if h : r.val < 1040 then xp (ix2 ⟨r.val - 1024, by omega⟩ l) else xn (ix2 ⟨r.val - 1040, by omega⟩ l)

/-- Every row of the scratch is a normed row of one of its three sources. -/
theorem rows_apply (x : FVec Ideal S1024x2048 .f32) (xp xn : FVec Ideal S16x2048 .f32) (sh sc : FVec Ideal S1x1x2048 .f32)
    (r : Fin 1056) (k : Fin 2048) :
    rows x xp xn sh sc (ix2 r k) = normed (source x xp xn r) (fun l => sh (ix3 0 0 l)) (fun l => sc (ix3 0 0 l)) k := by
  unfold rows
  canon_tiles y hy using View.cover_of_tiledBy _ ![16, 2048] (by sl_kernel_rfl) _
  all_goals
    obtain ⟨p, q, rfl⟩ : ∃ p q, y = ix2 p q := ⟨y 0, y 1, eq_ix2 y⟩
    change r.val = _ at hy0
    change k.val = q.val at hy1
    obtain rfl : k = q := Fin.ext hy1
  · change r.val = 1040 + p.val at hy0
    rw [pay8_apply]
    congr 1
    funext l
    rw [source, dif_neg (by omega), dif_neg (by omega)]
    exact congrArg (fun z => xn (ix2 z l)) (Fin.ext (by simp only []; omega))
  · change r.val = 1024 + p.val at hy0
    have hp : p.val < 16 := p.isLt
    rw [pay7_apply]
    congr 1
    funext l
    rw [source, dif_neg (by omega), dif_pos (by omega)]
    exact congrArg (fun z => xp (ix2 z l)) (Fin.ext (by simp only []; omega))
  · change r.val = p.val at hy0
    have hp : p.val < 1024 := p.isLt
    rw [pay4_apply]
    congr 1
    funext l
    rw [source, dif_pos (by omega)]
    exact congrArg (fun z => x (ix2 z l)) (Fin.ext (by simp only []; omega))

/-- The position of a block's row in its sequence. -/
theorem pos_apply (i : grid0.Coords) (r j : Fin 1024) :
    k0_pay11 i (ix2 r j) = BitVec.ofNat 32 (((i 0).val * 1024 + r.val) % 4096) := by
  have hi : (i 0).val < 32 := (i 0).isLt
  have hr := r.isLt
  have hx : IntOp.addi (Scalar.muli (BitVec.ofNat 32 (i 0).val) 1024#32) (BitVec.ofNat 32 r.val)
      = BitVec.ofNat 32 ((i 0).val * 1024 + r.val) := by
    change BitVec.ofNat 32 (i 0).val * 1024#32 + BitVec.ofNat 32 r.val = _
    apply BitVec.eq_of_toNat_eq
    simp only [BitVec.toNat_add, BitVec.toNat_mul, BitVec.toNat_ofNat]
    omega
  have hc : Scalar.select (Scalar.cmpi CmpIPredicate.eq 4096#32 0#32) 1#32 4096#32 = 4096#32 := by decide
  have hslt : IntOp.cmpi CmpIPredicate.slt (BitVec.ofNat 32 (((i 0).val * 1024 + r.val) % 4096)) 0#32 = 0#1 := by
    have : ((i 0).val * 1024 + r.val) % 4096 < 4096 := Nat.mod_lt _ (by decide)
    generalize ((i 0).val * 1024 + r.val) % 4096 = z at this
    change BitVec.ofBool (BitVec.slt (BitVec.ofNat 32 z) 0#32) = 0#1
    have : BitVec.slt (BitVec.ofNat 32 z) 0#32 = false := by
      rw [BitVec.slt, decide_eq_false_iff_not, BitVec.toInt_eq_toNat_of_lt (by rw [BitVec.toNat_ofNat]; omega)]
      simp only [BitVec.toNat_ofNat, BitVec.toInt_zero]
      omega
    rw [this]; rfl
  have hn : Scalar.cmpi CmpIPredicate.slt 4096#32 0#32 = 0#1 := by decide
  pointwise [k0_pay11]
  rw [hc, hx, Routing.remsi_word .vector (by omega) (by decide) (by decide), hslt, hn]
  have hand : ∀ x : BitVec 1, IntOp.andi (IntOp.xori 0#1 0#1) x = 0#1 := by decide
  rw [hand]
  rfl

theorem block_apply (i : grid0.Coords) (H : FVec Ideal S1056x2048 .bf16) (w : FVec Ideal S2048x1024 .bf16)
    (cw : FVec Ideal S3x1024 .f32) (cb : FVec Ideal S1x1024 .f32) (r j : Fin 1024) (P : Fin 1056 → EReal)
    (hP : ∀ r, P r = ∑ x, H (ix2 r x) * w (ix2 x j)) :
    block i H w cw cb (ix2 r j)
      = (if ((i 0).val * 1024 + r.val) % 4096 = 0 then 0
          else P (if r.val = 0 then 1039 else ⟨r.val - 1, by omega⟩) * cw (ix2 0 j))
        + P ⟨r.val, by omega⟩ * cw (ix2 1 j)
        + (if ((i 0).val * 1024 + r.val) % 4096 = 4095 then 0
          else P (if r.val = 1023 then 1040 else ⟨r.val + 1, by omega⟩) * cw (ix2 2 j))
        + cb (ix2 0 j) := by
  have hr := r.isLt
  have sel : ∀ (n k : Nat) (hn : n < 4096) (hk : k < 4096) (a b : EReal),
      Scalar.select (IntOp.cmpi CmpIPredicate.eq (BitVec.ofNat 32 n) (BitVec.ofNat 32 k)) a b = if n = k then a else b := by
    intro n k hn hk a b
    change (if BitVec.ofBool (BitVec.ofNat 32 n == BitVec.ofNat 32 k) = 1#1 then a else b) = _
    by_cases h : n = k
    · subst h; simp
    · have : (BitVec.ofNat 32 n == BitVec.ofNat 32 k) = false := by
        rw [beq_eq_false_iff_ne]
        intro e
        have := congrArg BitVec.toNat e
        rw [BitVec.toNat_ofNat, BitVec.toNat_ofNat] at this
        omega
      rw [this, if_neg h]
      rfl
  pointwise [block, k0_pay1, k0_pay9, k0_pay10, k0_pay12]
  rw [pos_apply, sel _ 0 (Nat.mod_lt _ (by decide)) (by decide), sel _ 4095 (Nat.mod_lt _ (by decide)) (by decide),
    sel _ 0 (by omega) (by decide), sel _ 1023 (by omega) (by decide)]
  have back : ∀ (a b : Fin 1056), a.val = b.val → ∀ z : EReal,
      (∑ x, H (ix2 a x) * w (ix2 x j)) * z = (∑ x, H (ix2 b x) * w (ix2 x j)) * z := by
    intro a b h z
    rw [Fin.ext h]
  simp only [hP]
  congr 2
  · congr 1
    split
    · rfl
    · by_cases h0 : r.val = 0
      · rw [if_pos h0, if_pos h0]
      · rw [if_neg h0, if_neg h0]
        exact back _ _ (by simp only []; omega) _
  · split
    · rfl
    · by_cases h0 : r.val = 1023
      · rw [if_pos h0, if_pos h0]
      · rw [if_neg h0, if_neg h0]
        exact back _ _ (by simp only []; omega) _

end Cert.ConvBlock

end
-- ==== Proof.ConvArray.lean ====
module
public import proofs.«01_k».proof.Proof.ConvBlock
public import proofs.«01_k».proof.Proof.Gen.KernelConvIdeal.Value
public import Idealize.ShloMosaic.Lib.Quiescent

/-! The array that the projection with the short convolution leaves, entry by entry. -/

@[expose] public section

set_option maxRecDepth 16384

noncomputable section

namespace Cert.ConvArray

open Idealize.ShloMosaic Idealize.ShloMosaic.TcCoe Idealize.SL.Sem
open Idealize.ShloMosaic.Pipeline (Dat)
open Cert.KernelConvIdeal Cert.KernelConvIdeal.Gen Cert.ConvBlock

/-- A token's normed row, modulated as sequence `s` asks, against a column of the weights. -/
def product (x : FVec Ideal S32768x2048 .f32) (sh sc : FVec Ideal S8x1x2048 .f32) (w : FVec Ideal S2048x6144 .bf16)
    (s : Fin 8) (p : Fin 32768) (j : Fin 6144) : EReal :=
  ∑ k : Fin 2048, normed (fun l => x (ix2 p l)) (fun l => sh (ix3 s 0 l)) (fun l => sc (ix3 s 0 l)) k * w (ix2 k j)

/-- The convolved product at a token and a column: the products of the token before, of the token and of the token after,
    those outside the token's sequence being zero, against the column's three taps, and the column's bias. -/
def entry (x : FVec Ideal S32768x2048 .f32) (sh sc : FVec Ideal S8x1x2048 .f32) (w : FVec Ideal S2048x6144 .bf16)
    (cw : FVec Ideal S3x6144 .f32) (cb : FVec Ideal S6144 .f32) (p : Fin 32768) (j : Fin 6144) : EReal :=
  (if h : p.val % 4096 = 0 then 0 else product x sh sc w ⟨p.val / 4096, by omega⟩ ⟨p.val - 1, by omega⟩ j * cw (ix2 0 j))
    + product x sh sc w ⟨p.val / 4096, by omega⟩ p j * cw (ix2 1 j)
    + (if h : p.val % 4096 = 4095 then 0 else product x sh sc w ⟨p.val / 4096, by omega⟩ ⟨p.val + 1, by omega⟩ j * cw (ix2 2 j))
    + cb (ix1 j)

/-- The convolved product. -/
def result (x : FVec Ideal S32768x2048 .f32) (sh sc : FVec Ideal S8x1x2048 .f32) (w : FVec Ideal S2048x6144 .bf16)
    (cw : FVec Ideal S3x6144 .f32) (cb : FVec Ideal S6144 .f32) : FVec Ideal S32768x6144 .bf16 :=
  fun i => entry x sh sc w cw cb ⟨(i 0).val, (i 0).isLt⟩ ⟨(i 1).val, (i 1).isLt⟩

/-- Which blocks a grid point reads and writes. -/
theorem idx : ∀ t : Fin cfg0.N, win0_0.index t = ![t.val / 6, 0] ∧ win0_1.index t = ![t.val / 6 * 64 - 1, 0]
    ∧ win0_2.index t = ![min (t.val / 6 * 64 + 64) 2047, 0] ∧ win0_3.index t = ![t.val / 24, 0, 0]
    ∧ win0_4.index t = ![t.val / 24, 0, 0] ∧ win0_5.index t = ![0, t.val % 6] ∧ win0_6.index t = ![0, t.val % 6]
    ∧ win0_7.index t = ![0, t.val % 6] ∧ win0_8.index t = ![t.val / 6, t.val % 6] :=
  (by decide +kernel : ∀ t : Fin grid0.N, _)

/-- The row block of a grid point. -/
theorem coord : ∀ t : Fin cfg0.N, (grid0.coords t 0).val = t.val / 6 :=
  (by decide +kernel : ∀ t : Fin grid0.N, _)

variable (m : (ℓ : Loc nD τ sig) → Buf (Elt Ideal) ℓ) (c : Dev nD) (t : Fin cfg0.N)

/-- The residual stream a launch finds in memory. -/
abbrev X : FVec Ideal S32768x2048 .f32 := m ((c.tc : Thread nD τ).loc main_arg0)

/-- The shifts a launch finds in memory. -/
abbrev SH : FVec Ideal S8x1x2048 .f32 := m ((c.tc : Thread nD τ).loc main_arg1)

/-- The scales a launch finds in memory. -/
abbrev SC : FVec Ideal S8x1x2048 .f32 := m ((c.tc : Thread nD τ).loc main_arg2)

/-- The weights a launch finds in memory. -/
abbrev W : FVec Ideal S2048x6144 .bf16 := m ((c.tc : Thread nD τ).loc main_arg3)

/-- The taps a launch finds in memory. -/
abbrev CW : FVec Ideal S3x6144 .f32 := m ((c.tc : Thread nD τ).loc main_arg4)

/-- The biases a launch finds in memory. -/
abbrev CB : FVec Ideal S6144 .f32 := m ((c.tc : Thread nD τ).loc main_arg5)

/-- A grid point's rows. -/
theorem rows_at (i : Fin 1024) (k : Fin 2048) :
    iblk m c 0 t (ix2 i k) = X m c (ix2 ⟨t.val / 6 * 1024 + i.val, by have := lt_of_lt_of_eq t.isLt N_0; omega⟩ k) := by
  blk_point [iblk, V, idx t]

/-- The sixteen rows before them. -/
theorem before_at (i : Fin 16) (k : Fin 2048) :
    iblk m c 1 t (ix2 i k) = X m c (ix2 ⟨(t.val / 6 * 64 - 1) * 16 + i.val, by have := lt_of_lt_of_eq t.isLt N_0; omega⟩ k) := by
  blk_point [iblk, V, idx t]

/-- The sixteen rows after them. -/
theorem after_at (i : Fin 16) (k : Fin 2048) :
    iblk m c 2 t (ix2 i k) = X m c (ix2 ⟨min (t.val / 6 * 64 + 64) 2047 * 16 + i.val, by omega⟩ k) := by
  blk_point [iblk, V, idx t]

/-- The shifts of the sequence its rows belong to. -/
theorem shift_at (k : Fin 2048) :
    iblk m c 3 t (ix3 0 0 k) = SH m c (ix3 ⟨t.val / 24, by have := lt_of_lt_of_eq t.isLt N_0; omega⟩ 0 k) := by
  blk_point [iblk, V, idx t]

/-- The scales of the sequence its rows belong to. -/
theorem scale_at (k : Fin 2048) :
    iblk m c 4 t (ix3 0 0 k) = SC m c (ix3 ⟨t.val / 24, by have := lt_of_lt_of_eq t.isLt N_0; omega⟩ 0 k) := by
  blk_point [iblk, V, idx t]

/-- A grid point's columns of the weights. -/
theorem cols_at (k : Fin 2048) (j : Fin 1024) :
    iblk m c 5 t (ix2 k j) = W m c (ix2 k ⟨t.val % 6 * 1024 + j.val, by omega⟩) := by
  blk_point [iblk, V, idx t]

/-- A grid point's columns of the taps. -/
theorem taps_at (i : Fin 3) (j : Fin 1024) :
    iblk m c 6 t (ix2 i j) = CW m c (ix2 i ⟨t.val % 6 * 1024 + j.val, by omega⟩) := by
  blk_point [iblk, V, idx t]

/-- A grid point's biases. -/
theorem bias_at (j : Fin 1024) :
    iblk m c 7 t (ix2 0 j) = CB m c (ix1 ⟨t.val % 6 * 1024 + j.val, by omega⟩) := by
  blk_point [iblk, V, idx t]

/-- The token whose normed row stands at a row of the scratch, while row block `i` is computed. -/
def token (i : Nat) (hi : i < 32) (r : Fin 1056) : Fin 32768 :=
  if h : r.val < 1024 then ⟨i * 1024 + r.val, by omega⟩
  else if h : r.val < 1040 then ⟨(i * 64 - 1) * 16 + (r.val - 1024), by omega⟩
  else ⟨min (i * 64 + 64) 2047 * 16 + (r.val - 1040), by omega⟩

/-- What a point's three blocks of rows hold, as tokens. -/
theorem source_at (r : Fin 1056) (k : Fin 2048) : source (iblk m c 0 t) (iblk m c 1 t) (iblk m c 2 t) r k
    = X m c (ix2 (token (t.val / 6) (by have := lt_of_lt_of_eq t.isLt N_0; omega) r) k) := by
  unfold source token
  split
  · exact rows_at m c t _ k
  · split
    · exact before_at m c t _ k
    · exact after_at m c t _ k

/-- The normed row that a row of the scratch holds while row block `i` is computed. -/
def held (i : Nat) (hi : i < 32) (r : Fin 1056) (k : Fin 2048) : EReal :=
  normed (fun l => X m c (ix2 (token i hi r) l)) (fun l => SH m c (ix3 ⟨i / 4, by omega⟩ 0 l))
    (fun l => SC m c (ix3 ⟨i / 4, by omega⟩ 0 l)) k

/-- A normed row depends on nothing but its entries, its shifts and its scales. -/
theorem normed_congr {x x' sh sh' sc sc' : Fin 2048 → EReal} (hx : ∀ l, x l = x' l) (hh : ∀ l, sh l = sh' l) (hc : ∀ l, sc l = sc' l)
    (k : Fin 2048) : normed x sh sc k = normed x' sh' sc' k := by
  rw [funext hx, funext hh, funext hc]

/-- What a row block's first point stores in the scratch. -/
theorem filled (r : Fin 1056) (k : Fin 2048) :
    rows (iblk m c 0 t) (iblk m c 1 t) (iblk m c 2 t) (iblk m c 3 t) (iblk m c 4 t) (ix2 r k)
      = held m c (t.val / 6) (by have := lt_of_lt_of_eq t.isLt N_0; omega) r k := by
  have hs : (⟨t.val / 24, by have := lt_of_lt_of_eq t.isLt N_0; omega⟩ : Fin 8)
      = ⟨t.val / 6 / 4, by have := lt_of_lt_of_eq t.isLt N_0; omega⟩ := Fin.ext (by simp only []; omega)
  refine (rows_apply _ _ _ _ _ r k).trans (normed_congr (fun l => source_at m c t r l) (fun l => ?_) (fun l => ?_) k)
  · exact (shift_at m c t l).trans (congrArg (fun s => SH m c (ix3 s 0 l)) hs)
  · exact (scale_at m c t l).trans (congrArg (fun s => SC m c (ix3 s 0 l)) hs)

/-- The rows held depend on nothing but the row block's number. -/
theorem held_congr {i i' : Nat} (h : i = i') (hi : i < 32) (hi' : i' < 32) (r : Fin 1056) (k : Fin 2048) :
    held m c i hi r k = held m c i' hi' r k := by
  subst h; rfl

/-- After a row block's first point the scratch holds the rows just stored. -/
theorem scratch_first (h0 : t.val % 6 = 0) (r : Fin 1056) (k : Fin 2048) : (outsAt0 m c t.val t.isLt).2 (ix2 r k)
    = held m c (t.val / 6) (by have := lt_of_lt_of_eq t.isLt N_0; omega) r k := by
  rw [← filled m c t r k, outs_first m c t h0]

/-- The other points leave the scratch as the point before left it. -/
theorem scratch_next (h0 : ¬ t.val % 6 = 0) (s : Fin cfg0.N) (hs : s.val = t.val - 1) (r : Fin 1056) (k : Fin 2048) :
    (outsAt0 m c t.val t.isLt).2 (ix2 r k) = (outsAt0 m c s.val s.isLt).2 (ix2 r k) := by
  rw [outs_next m c t h0]
  obtain ⟨s, h⟩ := s
  simp only [] at hs
  subst hs
  rfl

/-- After any point the scratch holds the normed rows of the point's row block and of its neighbours. -/
theorem scratch : ∀ (n : Nat) (t : Fin cfg0.N) (ht : t.val = n) (r : Fin 1056) (k : Fin 2048),
    (outsAt0 m c t.val t.isLt).2 (ix2 r k) = held m c (t.val / 6) (by have := lt_of_lt_of_eq t.isLt N_0; omega) r k := by
  intro n
  induction n with
  | zero =>
    intro t ht r k
    exact scratch_first m c t (by omega) r k
  | succ n ih =>
    intro t ht r k
    by_cases h0 : t.val % 6 = 0
    · exact scratch_first m c t h0 r k
    · rw [scratch_next m c t h0 ⟨n, by omega⟩ (by simp only []; omega) r k]
      rw [ih ⟨n, by omega⟩ rfl r k]
      exact held_congr m c (by simp only []; omega) _ _ r k

/-- A point's output block is computed from the scratch it leaves. -/
theorem out_eq : (outsAt0 m c t.val t.isLt).1
    = block (grid0.coords t) (outsAt0 m c t.val t.isLt).2 (iblk m c 5 t) (iblk m c 6 t) (iblk m c 7 t) := by
  by_cases h0 : t.val % 6 = 0
  · rw [outs_first m c t h0]
  · rw [outs_next m c t h0]

/-- The product at a token and a column of the weights, from the launch's memory. -/
abbrev prod (s : Fin 8) (p : Fin 32768) (j : Fin 6144) : EReal := product (X m c) (SH m c) (SC m c) (W m c) s p j

/-- The products a point forms: those of the tokens in its scratch. -/
theorem prod_at (r : Fin 1056) (j : Fin 1024) :
    prod m c ⟨t.val / 24, by have := lt_of_lt_of_eq t.isLt N_0; omega⟩
        (token (t.val / 6) (by have := lt_of_lt_of_eq t.isLt N_0; omega) r) ⟨t.val % 6 * 1024 + j.val, by omega⟩
      = ∑ x, (outsAt0 m c t.val t.isLt).2 (ix2 r x) * iblk m c 5 t (ix2 x j) := by
  unfold prod product
  refine Finset.sum_congr rfl fun x _ => ?_
  rw [scratch m c t.val t rfl r x, cols_at m c t x j]
  unfold held
  have hs : (⟨t.val / 6 / 4, by have := lt_of_lt_of_eq t.isLt N_0; omega⟩ : Fin 8)
      = ⟨t.val / 24, by have := lt_of_lt_of_eq t.isLt N_0; omega⟩ := Fin.ext (by simp only []; omega)
  rw [hs]

/-- A grid point's block of the result. -/
theorem block_at (i j : Fin 1024) :
    (outsAt0 m c t.val t.isLt).1 (ix2 i j) = entry (X m c) (SH m c) (SC m c) (W m c) (CW m c) (CB m c)
      ⟨t.val / 6 * 1024 + i.val, by have := lt_of_lt_of_eq t.isLt N_0; omega⟩ ⟨t.val % 6 * 1024 + j.val, by omega⟩ := by
  have ht := lt_of_lt_of_eq t.isLt N_0
  have hi := i.isLt
  have same : ∀ (a b : Fin 8) (p q : Fin 32768) (y : Fin 6144), a.val = b.val → p.val = q.val →
      prod m c a p y = prod m c b q y := by
    intro a b p q y h h'
    rw [Fin.ext h, Fin.ext h']
  rw [out_eq]
  refine (block_apply (grid0.coords t) _ _ _ _ i j _ fun r => prod_at m c t r j).trans ?_
  rw [coord t, taps_at, taps_at, taps_at, bias_at]
  unfold entry
  congr 1
  congr 1
  · congr 1
    · by_cases h0 : (t.val / 6 * 1024 + i.val) % 4096 = 0
      · rw [if_pos h0, dif_pos h0]
      · rw [if_neg h0, dif_neg h0]
        congr 1
        refine same _ _ _ _ _ (by simp only []; omega) ?_
        by_cases hz : i.val = 0
        · rw [if_pos hz]
          simp only [token]
          simp
          omega
        · rw [if_neg hz]
          unfold token
          rw [dif_pos (by simp only []; omega)]
          simp only []
          omega
    · congr 1
      refine same _ _ _ _ _ (by simp only []; omega) ?_
      unfold token
      rw [dif_pos (by simp only []; omega)]
  · by_cases h0 : (t.val / 6 * 1024 + i.val) % 4096 = 4095
    · rw [if_pos h0, dif_pos h0]
    · rw [if_neg h0, dif_neg h0]
      congr 1
      refine same _ _ _ _ _ (by simp only []; omega) ?_
      by_cases hz : i.val = 1023
      · rw [if_pos hz]
        simp only [token]
        simp
        omega
      · rw [if_neg hz]
        unfold token
        rw [dif_pos (by simp only []; omega)]
        simp only []
        omega

/-- The array the run leaves. -/
theorem final : (dats m 0 c).arrAt 8 cfg0.N = result (X m c) (SH m c) (SC m c) (W m c) (CW m c) (CB m c) := by
  refine (dats m 0 c).arrAt_eq_of_covers 8 _ (by decide +kernel) fun t _ y => ?_
  have ht := lt_of_lt_of_eq t.isLt N_0
  have h0 : (y 0 : ℕ) < 1024 := (y 0).isLt
  have h1 : (y 1 : ℕ) < 1024 := (y 1).isLt
  have e0 : ((((cfg0.win 8).blk t).view.emb y) 0 : ℕ) = t.val / 6 * 1024 + (y 0 : ℕ) := by blk_simp [idx t]
  have e1 : ((((cfg0.win 8).blk t).view.emb y) 1 : ℕ) = t.val % 6 * 1024 + (y 1 : ℕ) := by blk_simp [idx t]
  have hy : y = ix2 (⟨(y 0 : ℕ), h0⟩ : Fin 1024) (⟨(y 1 : ℕ), h1⟩ : Fin 1024) := eq_ix2 y
  have hi : ((cfg0.win 8).blk t).view.emb y = ix2 (⟨t.val / 6 * 1024 + (y 0 : ℕ), by omega⟩ : Fin 32768)
      (⟨t.val % 6 * 1024 + (y 1 : ℕ), by omega⟩ : Fin 6144) := by
    funext a
    match a with
    | ⟨0, _⟩ => exact Fin.ext e0
    | ⟨1, _⟩ => exact Fin.ext e1
  rw [hi]
  refine Eq.trans ?_ (block_at m c t ⟨(y 0 : ℕ), h0⟩ ⟨(y 1 : ℕ), h1⟩)
  blk_simp
  rw [after0_8]
  exact congrArg _ hy

end Cert.ConvArray

end
-- ==== Proof.ConvRef.lean ====
module
public import proofs.«01_k».proof.Proof.Gen.ReferenceConvIdeal.Run
public import proofs.«01_k».proof.Proof.ConvArray

/-! What the reference of the projection with the short convolution computes, stage by stage, at an index. -/

@[expose] public section

set_option maxRecDepth 16384

noncomputable section

namespace Cert.ConvRef

open Idealize.ShloMosaic Idealize.ShloMosaic.TcCoe Idealize.SL.Sem
open Cert.ReferenceConvIdeal Cert.ReferenceConvIdeal.Gen Cert.ConvBlock

/-- The residual stream, a sequence at a time. -/
def rows (x : FVec Ideal S32768x2048 .f32) : FVec Ideal S8x4096x2048 .f32 :=
  shapeCast _ x shapeCasts_S32768x2048_S8x4096x2048

/-- The normed rows, modulated. -/
def hidden (x : FVec Ideal S32768x2048 .f32) (sh sc : FVec Ideal S8x1x2048 .f32) : FVec Ideal S8x4096x2048 .f32 :=
  addf (mulf (mulf (rows x) (broadcastInDim S8x4096x2048 ![0, 1, 2] bcast_S8x4096x1_S8x4096x2048_0_1_2 (Host.rsqrt (addf
    (Host.divf (broadcastInDim S8x4096x1 ![0, 1] bcast_S8x4096_S8x4096x1_0_1 (Host.reduceAdd (mulf (rows x) (rows x))
      (constant (F := Ideal) S_ .f32 0x00000000#32) reducesTo_S8x4096x2048_S8x4096_d2 h_S_))
      (broadcastInDim S8x4096x1 ![] bcast_S_S8x4096x1 (constant (F := Ideal) S_ .f32 0x45000000#32)))
    (broadcastInDim S8x4096x1 ![] bcast_S_S8x4096x1 (constant (F := Ideal) S_ .f32 0x358637BD#32))))))
    (broadcastInDim S8x4096x2048 ![0, 1, 2] bcast_S8x1x2048_S8x4096x2048_0_1_2
      (addf (broadcastInDim S8x1x2048 ![] bcast_S_S8x1x2048 (constant (F := Ideal) S_ .f32 0x3F800000#32)) sc)))
    (broadcastInDim S8x4096x2048 ![0, 1, 2] bcast_S8x1x2048_S8x4096x2048_0_1_2 sh)

/-- The product with the weights. -/
def product (h : FVec Ideal S8x4096x2048 .f32) (w : FVec Ideal S2048x6144 .bf16) : FVec Ideal S8x4096x6144 .f32 :=
  Host.dotGeneral (F := Ideal) dot_S8x4096x2048_S2048x6144_S8x4096x6144_2_0_01_1_n_n none h (extf .f32 w bitsLt_bf16_f32)

/-- The product with a zero row before and after each sequence. -/
def padded (u : FVec Ideal S8x4096x6144 .f32) : FVec Ideal S8x4098x6144 .f32 :=
  pad S8x4098x6144 ![0, 1, 0] ![0, 1, 0] ![0, 0, 0] u (sitofp (F := Ideal) .f32 (constantI S_ 32 0#32))
    pads_S8x4096x6144_S8x4098x6144_000_110_000 h_S_

/-- A row of numbers, one a column, at every token. -/
def spread (b : FVec Ideal S6144 .f32) : FVec Ideal S8x4096x6144 .f32 :=
  broadcastInDim S8x4096x6144 ![0, 1, 2] bcast_S1x1x6144_S8x4096x6144_0_1_2 (broadcastInDim S1x1x6144 ![2] bcast_S6144_S1x1x6144_2 b)

/-- The convolution of the padded product. -/
def convolved (u : FVec Ideal S8x4098x6144 .f32) (cw : FVec Ideal S3x6144 .f32) (cb : FVec Ideal S6144 .f32) :
    FVec Ideal S8x4096x6144 .f32 :=
  addf (addf (addf
    (mulf (extractStridedSlice S8x4096x6144 ![0, 0, 0] u slices_S8x4098x6144_S8x4096x6144_0_0_0)
      (spread (shapeCast _ (extractStridedSlice S1x6144 ![0, 0] cw slices_S3x6144_S1x6144_0_0) shapeCasts_S1x6144_S6144)))
    (mulf (extractStridedSlice S8x4096x6144 ![0, 1, 0] u slices_S8x4098x6144_S8x4096x6144_0_1_0)
      (spread (shapeCast _ (extractStridedSlice S1x6144 ![1, 0] cw slices_S3x6144_S1x6144_1_0) shapeCasts_S1x6144_S6144))))
    (mulf (extractStridedSlice S8x4096x6144 ![0, 2, 0] u slices_S8x4098x6144_S8x4096x6144_0_2_0)
      (spread (shapeCast _ (extractStridedSlice S1x6144 ![2, 0] cw slices_S3x6144_S1x6144_2_0) shapeCasts_S1x6144_S6144))))
    (spread cb)

/-- The reference as a function of its arguments. -/
def reference (x : FVec Ideal S32768x2048 .f32) (sh sc : FVec Ideal S8x1x2048 .f32) (w : FVec Ideal S2048x6144 .bf16)
    (cw : FVec Ideal S3x6144 .f32) (cb : FVec Ideal S6144 .f32) : FVec Ideal S32768x6144 .bf16 :=
  truncf .bf16 (shapeCast S32768x6144 (convolved (padded (product (hidden x sh sc) w)) cw cb)
    shapeCasts_S8x4096x6144_S32768x6144) bitsLt_bf16_f32

/-- The reference's run leaves this function of its arguments. -/
theorem res_eq (m : (ℓ : Loc nD τ sig) → Buf (Elt Ideal) ℓ) (c : Dev nD) : Value.res_main_v44 (F := Ideal) m c
    = reference (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) :=
  rfl

/-- A modulated, normed row, at a token of a sequence. -/
theorem hidden_apply (x : FVec Ideal S32768x2048 .f32) (sh sc : FVec Ideal S8x1x2048 .f32) (s : Fin 8) (r : Fin 4096) (k : Fin 2048) :
    hidden x sh sc (ix3 s r k) = normed (fun l => x (ix2 ⟨s.val * 4096 + r.val, by omega⟩ l)) (fun l => sh (ix3 s 0 l))
      (fun l => sc (ix3 s 0 l)) k := by
  pointwise [hidden, rows]
  rfl

/-- The product, at a token of a sequence and a column. -/
theorem product_apply (x : FVec Ideal S32768x2048 .f32) (sh sc : FVec Ideal S8x1x2048 .f32) (w : FVec Ideal S2048x6144 .bf16)
    (s : Fin 8) (r : Fin 4096) (j : Fin 6144) :
    product (hidden x sh sc) w (ix3 s r j) = ConvArray.product x sh sc w s ⟨s.val * 4096 + r.val, by omega⟩ j := by
  unfold ConvArray.product
  simp only [← hidden_apply]
  pointwise [product]

/-- The padded product, at a token of a sequence and a column. -/
theorem padded_apply (u : FVec Ideal S8x4096x6144 .f32) (s : Fin 8) (r : Fin 4098) (j : Fin 6144) :
    padded u (ix3 s r j) = if h : 1 ≤ r.val ∧ r.val < 4097 then u (ix3 s ⟨r.val - 1, by omega⟩ j) else 0 := by
  have zero : FloatOps.sitofp (F := Ideal) FTy.f32 (0#32 : BitVec 32) = (0 : EReal) := by
    change ((((0#32 : BitVec 32).toInt : ℝ)) : EReal) = 0
    simp
  pointwise [padded]
  rw [zero]
  by_cases h : 1 ≤ r.val ∧ r.val < 4097
  · rw [dif_pos h, dif_pos (by omega)]
  · rw [dif_neg h, dif_neg (by omega)]

/-- The convolution, at a token of a sequence and a column: three rows of the padded product against the three taps. -/
theorem convolved_apply (u : FVec Ideal S8x4098x6144 .f32) (cw : FVec Ideal S3x6144 .f32) (cb : FVec Ideal S6144 .f32)
    (s : Fin 8) (r : Fin 4096) (j : Fin 6144) :
    convolved u cw cb (ix3 s r j) = u (ix3 s ⟨r.val, by omega⟩ j) * cw (ix2 0 j) + u (ix3 s ⟨r.val + 1, by omega⟩ j) * cw (ix2 1 j)
      + u (ix3 s ⟨r.val + 2, by omega⟩ j) * cw (ix2 2 j) + cb (ix1 j) := by
  pointwise [convolved, spread]
  simp only [Nat.add_comm]

/-- The reference, entry by entry, is what the kernel computes. -/
theorem reference_eq (x : FVec Ideal S32768x2048 .f32) (sh sc : FVec Ideal S8x1x2048 .f32) (w : FVec Ideal S2048x6144 .bf16)
    (cw : FVec Ideal S3x6144 .f32) (cb : FVec Ideal S6144 .f32) :
    reference x sh sc w cw cb = ConvArray.result x sh sc w cw cb := by
  funext i
  obtain ⟨p, q, rfl⟩ : ∃ (p : Fin 32768) (q : Fin 6144), i = ix2 p q := ⟨i 0, i 1, eq_ix2 i⟩
  pointwise [reference]
  have hp := p.isLt
  have same : ∀ (a b : Fin 32768), a.val = b.val → ∀ s,
      ConvArray.product x sh sc w s a q = ConvArray.product x sh sc w s b q := by
    intro a b h s
    rw [Fin.ext h]
  rw [convolved_apply, padded_apply, padded_apply, padded_apply]
  change _ = ConvArray.entry x sh sc w cw cb p q
  unfold ConvArray.entry
  congr 1
  congr 1
  · congr 1
    · by_cases h : p.val % 4096 = 0
      · rw [dif_pos h, dif_neg (by simp only []; omega), zero_mul]
      · rw [dif_neg h, dif_pos (by simp only []; omega), product_apply]
        exact congrArg (· * cw (ix2 0 q)) (same _ _ (by simp only []; omega) _)
    · rw [dif_pos (by simp only []; omega), product_apply]
      exact congrArg (· * cw (ix2 1 q)) (same _ _ (by simp only []; omega) _)
  · by_cases h : p.val % 4096 = 4095
    · rw [dif_pos h, dif_neg (by simp only []; omega), zero_mul]
    · rw [dif_neg h, dif_pos (by simp only []; omega), product_apply]
      exact congrArg (· * cw (ix2 2 q)) (same _ _ (by simp only []; omega) _)

end Cert.ConvRef

end
-- ==== Proof.ConvClaim.lean ====
module
public import proofs.«01_k».proof.Defs
public import proofs.«01_k».proof.Proof.ConvRef

/-! The claims about the projection with the short convolution. -/

@[expose] public section

set_option maxRecDepth 16384

noncomputable section

namespace Cert.ConvClaim

open Idealize.ShloMosaic Idealize.ShloMosaic.TcCoe Idealize.SL.Sem

/-- The reference runs, keeps its arguments and leaves the machine quiet. -/
theorem frame_reference : Cert.quiescent_ReferenceConvIdeal := fun m ρ _ =>
  (θ_run Cert.ReferenceConvIdeal.defs _ _).mono
    (fun r h => ⟨fun c => (h c).2, Idealize.ShloMosaic.sem_eq_zero_of_no_sems (by decide) r.2⟩)
    (Cert.ReferenceConvIdeal.Value.run (F := Ideal) m ρ)

/-- On any arguments, the kernel and the reference leave the same array. -/
theorem algebraic : Cert.algebraic_KernelConvIdeal_ReferenceConvIdeal := by
  intro m ρ m' ρ' _ hagree
  refine ⟨fun c => ConvArray.result (ConvArray.X m c) (ConvArray.SH m c) (ConvArray.SC m c) (ConvArray.W m c) (ConvArray.CW m c)
      (ConvArray.CB m c),
    (θ_run Cert.KernelConvIdeal.defs _ _).mono (fun _ h c => ⟨(h c).1.trans (ConvArray.final m c), (h c).2⟩)
      (Cert.KernelConvIdeal.Value.run_blocks (F := Ideal) m ρ),
    (θ_run Cert.ReferenceConvIdeal.defs _ _).mono (fun _ h c => ⟨(h c).1.trans ?_, (h c).2⟩)
      (Cert.ReferenceConvIdeal.Value.run (F := Ideal) m' ρ')⟩
  rw [ConvRef.res_eq, (hagree c).1, (hagree c).2.1, (hagree c).2.2.1, (hagree c).2.2.2.1, (hagree c).2.2.2.2.1, (hagree c).2.2.2.2.2]
  exact ConvRef.reference_eq _ _ _ _ _ _

end Cert.ConvClaim

end
-- ==== Proof.QkvBlock.lean ====
module
public import proofs.«01_k».proof.Proof.Gen.KernelQkvIdeal.Frame
public import Idealize.ShloMosaic.Lib.Pipeline.ValueKit
public import Idealize.ShloMosaic.Lib.Pipeline.ReadBack
public import Idealize.ShloMosaic.Lib.Routing.Words

/-! What one grid point of the projection into queries, keys and values leaves behind: in its scratch the normed rows of
    its block, in its output block their product with the point's columns of the weights, each strip of 128 columns
    turned by the position's angles or, for values, left as it is. -/

@[expose] public section

set_option maxRecDepth 16384

noncomputable section

namespace Cert.QkvBlock

open Idealize.ShloMosaic Idealize.ShloMosaic.TcCoe Idealize.SL.Sem
open Idealize.ShloMosaic.Pipeline (Dat)
open Cert.KernelQkvIdeal Cert.KernelQkvIdeal.Gen

/-- The scratch once filled: the normed rows. -/
def rows (x : FVec Ideal S1024x2048 .f32) (sh sc : FVec Ideal S1x1x2048 .f32) : FVec Ideal S1024x2048 .bf16 :=
  k0_pay9 (F := Ideal) x sh sc

/-- A point's first three strips, always turned. -/
def opening (i : grid0.Coords) (H : FVec Ideal S1024x2048 .bf16) (w : FVec Ideal S2048x640 .bf16)
    (co sa sb : FVec Ideal S1024x128 .f32) : List (View.Piece (Elt Ideal) S1024x640 .bf16) :=
  [⟨Rect.unit ![0, 256] ![1024, 128] inb_S1024x640_S1024x128_0_256,
      k0_pay1 (F := Ideal) (Scalar.addi (Scalar.muli (BitVec.ofNat 32 (i 1).val) 640#32) 256#32) (k0_pay17 H w) co sa sb⟩,
   ⟨Rect.unit ![0, 128] ![1024, 128] inb_S1024x640_S1024x128_0_128, k0_pay15 (F := Ideal) i H w co sa sb⟩,
   ⟨Rect.unit ![0, 0] ![1024, 128] inb_S1024x640_S1024x128_0_0, k0_pay12 (F := Ideal) i H w co sa sb⟩]

/-- A block of queries: every strip turned. -/
def turned (i : grid0.Coords) (H : FVec Ideal S1024x2048 .bf16) (w : FVec Ideal S2048x640 .bf16)
    (co sa sb : FVec Ideal S1024x128 .f32) : FVec Ideal S1024x640 .bf16 :=
  View.canon (Val := Elt Ideal) (e := .bf16)
    (⟨Rect.unit ![0, 512] ![1024, 128] inb_S1024x640_S1024x128_0_512,
        k0_pay7 (F := Ideal) (BitVec.ofNat 32 (i 1).val) (k0_pay10 H w) co sa sb⟩
     :: ⟨Rect.unit ![0, 384] ![1024, 128] inb_S1024x640_S1024x128_0_384,
        k0_pay4 (F := Ideal) (BitVec.ofNat 32 (i 1).val) (k0_pay10 H w) co sa sb⟩
     :: opening i H w co sa sb)

/-- The last block: queries, keys and, in its last two strips, values as they are. -/
def ended (i : grid0.Coords) (H : FVec Ideal S1024x2048 .bf16) (w : FVec Ideal S2048x640 .bf16)
    (co sa sb : FVec Ideal S1024x128 .f32) : FVec Ideal S1024x640 .bf16 :=
  View.canon (Val := Elt Ideal) (e := .bf16)
    (⟨Rect.unit ![0, 512] ![1024, 128] inb_S1024x640_S1024x128_0_512, k0_pay8 (F := Ideal) (k0_pay10 H w)⟩
     :: ⟨Rect.unit ![0, 384] ![1024, 128] inb_S1024x640_S1024x128_0_384, k0_pay5 (F := Ideal) (k0_pay10 H w)⟩
     :: opening i H w co sa sb)

section
variable (m : (ℓ : Loc nD τ sig) → Buf (Elt Ideal) ℓ) (c : Dev nD) (t : Fin cfg0.N)

/-- At a row block's first point the scratch is filled and then read. -/
theorem outs_first (h0 : t.val % 4 = 0) : outsAt0 m c t.val t.isLt
    = (turned (grid0.coords t) (rows (iblk m c 0 t) (iblk m c 1 t) (iblk m c 2 t)) (iblk m c 3 t)
        (iblk m c 4 t) (iblk m c 5 t) (iblk m c 6 t),
       rows (iblk m c 0 t) (iblk m c 1 t) (iblk m c 2 t)) := by
  rw [outsAt0_A m c t h0 (by omega) (by omega) (by omega) (by omega)]
  unfold out0_A_7 sout0_A_0
  frame_out
  rfl

/-- At the two points after it the scratch is the one the point before left. -/
theorem outs_next (h0 : ¬ t.val % 4 = 0) (h3 : ¬ t.val % 4 = 3) : outsAt0 m c t.val t.isLt
    = (turned (grid0.coords t) (outsAt0 m c (t.val - 1) (by omega)).2 (iblk m c 3 t)
        (iblk m c 4 t) (iblk m c 5 t) (iblk m c 6 t), (outsAt0 m c (t.val - 1) (by omega)).2) := by
  rw [outsAt0_B m c t h0 (by omega) (by omega) (by omega) (by omega)]
  unfold out0_B_7 sout0_B_0
  frame_out
  rw [read_unread_whole]
  rfl

/-- So it is at the last, whose block ends with the values. -/
theorem outs_last (h0 : t.val % 4 = 3) : outsAt0 m c t.val t.isLt
    = (ended (grid0.coords t) (outsAt0 m c (t.val - 1) (by omega)).2 (iblk m c 3 t)
        (iblk m c 4 t) (iblk m c 5 t) (iblk m c 6 t), (outsAt0 m c (t.val - 1) (by omega)).2) := by
  rw [outsAt0_C m c t (by omega) (by omega) h0 (by omega) h0]
  unfold out0_C_7 sout0_C_0
  frame_out
  rw [read_unread_whole]
  rfl

end

/-- One entry of a modulated, normed row. -/
def normed (x sh sc : Fin 2048 → EReal) (k : Fin 2048) : EReal :=
  x k * Ideal.rsqrt (Ideal.div (∑ l, x l * x l) (Ideal.ofBits FTy.f32 0x45000000#32) + Ideal.ofBits FTy.f32 0x358637BD#32)
    * (1 + sc k) + sh k

theorem rows_apply (x : FVec Ideal S1024x2048 .f32) (sh sc : FVec Ideal S1x1x2048 .f32) (r : Fin 1024) (k : Fin 2048) :
    rows x sh sc (ix2 r k) = normed (fun l => x (ix2 r l)) (fun l => sh (ix3 0 0 l)) (fun l => sc (ix3 0 0 l)) k := by
  pointwise [rows, k0_pay9]
  rfl

/-- An entry of the product. -/
theorem product_apply (H : FVec Ideal S1024x2048 .bf16) (w : FVec Ideal S2048x640 .bf16) (r : Fin 1024) (j : Fin 640) :
    k0_pay10 (F := Ideal) H w (ix2 r j) = ∑ k : Fin 2048, H (ix2 r k) * w (ix2 k j) := by
  pointwise [k0_pay10]

/-- A strip's entry, turned: with it go the entries sixteen columns on and sixteen columns back, round the strip. -/
def turn (A : Fin 128 → EReal) (co sa sb : Fin 128 → EReal) (l : Fin 128) : EReal :=
  A l * co l + A ⟨(l.val + 128 - 112) % 128, by omega⟩ * sa l + A ⟨(l.val + 128 - 16) % 128, by omega⟩ * sb l

/-- What a strip that begins at column `a * 640 + o` is multiplied by. -/
def factor (a o : BitVec 32) : EReal :=
  Scalar.select (Scalar.cmpi .slt (Scalar.addi (Scalar.muli a 640#32) o) 2048#32)
    (Named.named κ "q_scale" (1043900987#32 : BitVec (FTy.bits .f32)) : Ideal .f32) (1 : EReal)

/-- A strip of a block, as columns of the block. -/
def strip (A : Fin 640 → EReal) (o : Nat) (ho : o ≤ 512) (l : Fin 128) : EReal := A ⟨o + l.val, by omega⟩

section
variable (i : grid0.Coords) (H : FVec Ideal S1024x2048 .bf16) (w : FVec Ideal S2048x640 .bf16)
  (co sa sb : FVec Ideal S1024x128 .f32) (r : Fin 1024) (l : Fin 128)

/-- A row of the product. -/
abbrev prod (j : Fin 640) : EReal := ∑ k : Fin 2048, H (ix2 r k) * w (ix2 k j)

theorem pay7_apply (a : BitVec 32) : k0_pay7 (F := Ideal) a (k0_pay10 H w) co sa sb (ix2 r l)
    = turn (strip (prod H w r) 512 (by omega)) (fun l => co (ix2 r l)) (fun l => sa (ix2 r l)) (fun l => sb (ix2 r l)) l
      * factor a 512#32 := by
  pointwise [k0_pay7, k0_pay6]
  rw [product_apply, product_apply, product_apply]
  rfl

theorem pay4_apply (a : BitVec 32) : k0_pay4 (F := Ideal) a (k0_pay10 H w) co sa sb (ix2 r l)
    = turn (strip (prod H w r) 384 (by omega)) (fun l => co (ix2 r l)) (fun l => sa (ix2 r l)) (fun l => sb (ix2 r l)) l
      * factor a 384#32 := by
  pointwise [k0_pay4, k0_pay3]
  rw [product_apply, product_apply, product_apply]
  rfl

theorem pay1_apply (a : BitVec 32) : k0_pay1 (F := Ideal) (Scalar.addi (Scalar.muli a 640#32) 256#32) (k0_pay17 H w) co sa sb (ix2 r l)
    = turn (strip (prod H w r) 256 (by omega)) (fun l => co (ix2 r l)) (fun l => sa (ix2 r l)) (fun l => sb (ix2 r l)) l
      * factor a 256#32 := by
  pointwise [k0_pay1, k0_pay17]
  rw [product_apply, product_apply, product_apply]
  rfl

theorem pay15_apply : k0_pay15 (F := Ideal) i H w co sa sb (ix2 r l)
    = turn (strip (prod H w r) 128 (by omega)) (fun l => co (ix2 r l)) (fun l => sa (ix2 r l)) (fun l => sb (ix2 r l)) l
      * factor (BitVec.ofNat 32 (i 1).val) 128#32 := by
  pointwise [k0_pay15, k0_pay14]
  rw [product_apply, product_apply, product_apply]
  rfl

theorem pay12_apply : k0_pay12 (F := Ideal) i H w co sa sb (ix2 r l)
    = turn (strip (prod H w r) 0 (by omega)) (fun l => co (ix2 r l)) (fun l => sa (ix2 r l)) (fun l => sb (ix2 r l)) l
      * factor (BitVec.ofNat 32 (i 1).val) 0#32 := by
  have e : strip (prod H w r) 0 (by omega) = fun l => prod H w r ⟨l.val, by omega⟩ :=
    funext fun l => congrArg (prod H w r) (Fin.ext (Nat.zero_add _))
  pointwise [k0_pay12, k0_pay11]
  rw [product_apply, product_apply, product_apply, e]
  rfl

theorem pay5_apply : k0_pay5 (F := Ideal) (k0_pay10 H w) (ix2 r l) = strip (prod H w r) 384 (by omega) l := by
  pointwise [k0_pay5, k0_pay3]
  rw [product_apply]
  rfl

theorem pay8_apply : k0_pay8 (F := Ideal) (k0_pay10 H w) (ix2 r l) = strip (prod H w r) 512 (by omega) l := by
  pointwise [k0_pay8, k0_pay6]
  rw [product_apply]
  rfl

end

/-- Strips that begin before column 2048 hold queries and are scaled. -/
theorem factor_eq (a : Fin 4) (s : Fin 5) : factor (BitVec.ofNat 32 a.val) (BitVec.ofNat 32 (s.val * 128))
    = if a.val * 640 + s.val * 128 < 2048 then (((1 / 8) * (Real.log 2)⁻¹ : ℝ) : EReal) else 1 := by
  have h : ∀ (a : Fin 4) (s : Fin 5), Scalar.cmpi .slt (Scalar.addi (Scalar.muli (BitVec.ofNat 32 a.val) 640#32) (BitVec.ofNat 32 (s.val * 128))) 2048#32
      = if a.val * 640 + s.val * 128 < 2048 then 1#1 else 0#1 := by decide +kernel
  unfold factor
  rw [h a s, IdealRules.named_const.ideal_named_scalar _ _ _ _ rfl]
  split <;> rfl

/-- An entry of a block, its columns turned strip by strip. -/
def spun (A : Fin 640 → EReal) (co sa sb : Fin 128 → EReal) (j : Fin 640) : EReal :=
  turn (strip A (j.val / 128 * 128) (by omega)) co sa sb ⟨j.val % 128, by omega⟩

/-- What a block's column is multiplied by. -/
def gain (n : Nat) : EReal := if n < 2048 then (((1 / 8) * (Real.log 2)⁻¹ : ℝ) : EReal) else 1

/-- A turned strip's entries, as entries of the block. -/
theorem spun_of (A : Fin 640 → EReal) (co sa sb : Fin 128 → EReal) (a : Nat) (ha : a < 4) (s : Fin 5) (q : Fin 128) (j : Fin 640)
    (hj : j.val = s.val * 128 + q.val) :
    turn (strip A (s.val * 128) (by omega)) co sa sb q * factor (BitVec.ofNat 32 a) (BitVec.ofNat 32 (s.val * 128))
      = spun A co sa sb j * gain (a * 640 + j.val) := by
  have hs : j.val / 128 = s.val := by omega
  have hq : (⟨j.val % 128, by omega⟩ : Fin 128) = q := Fin.ext (by simp only []; omega)
  unfold spun gain
  have e : ∀ (o o' : Nat) (ho : o ≤ 512) (ho' : o' ≤ 512), o = o' → strip A o ho = strip A o' ho' := by
    intro o o' ho ho' h
    subst h
    rfl
  rw [factor_eq ⟨a, ha⟩ s, hq, e (j.val / 128 * 128) (s.val * 128) (by omega) (by omega) (by omega)]
  refine congrArg₂ (· * ·) rfl ?_
  have : (a * 640 + s.val * 128 < 2048) ↔ (a * 640 + j.val < 2048) := by omega
  simp only [this]

/-- An entry of a block of queries. -/
theorem turned_apply (i : grid0.Coords) (hi : (i 1).val < 4) (H : FVec Ideal S1024x2048 .bf16) (w : FVec Ideal S2048x640 .bf16)
    (co sa sb : FVec Ideal S1024x128 .f32) (r : Fin 1024) (j : Fin 640) :
    turned i H w co sa sb (ix2 r j)
      = spun (prod H w r) (fun l => co (ix2 r l)) (fun l => sa (ix2 r l)) (fun l => sb (ix2 r l)) j * gain ((i 1).val * 640 + j.val) := by
  unfold turned opening
  canon_tiles y hy using View.cover_of_tiledBy _ ![1024, 128] (by sl_kernel_rfl) _
  all_goals
    obtain ⟨p, q, rfl⟩ : ∃ p q, y = ix2 p q := ⟨y 0, y 1, eq_ix2 y⟩
    change r.val = p.val at hy0
    obtain rfl : r = p := Fin.ext hy0
  · change j.val = 512 + q.val at hy1
    exact (pay7_apply H w co sa sb r q _).trans (spun_of _ _ _ _ _ hi 4 q j hy1)
  · change j.val = 384 + q.val at hy1
    exact (pay4_apply H w co sa sb r q _).trans (spun_of _ _ _ _ _ hi 3 q j hy1)
  · change j.val = 256 + q.val at hy1
    exact (pay1_apply H w co sa sb r q _).trans (spun_of _ _ _ _ _ hi 2 q j hy1)
  · change j.val = 128 + q.val at hy1
    exact (pay15_apply i H w co sa sb r q).trans (spun_of _ _ _ _ _ hi 1 q j hy1)
  · change j.val = q.val at hy1
    exact (pay12_apply i H w co sa sb r q).trans (spun_of _ _ _ _ _ hi 0 q j (hy1.trans (by simp)))

/-- An entry of a row block's last block. -/
theorem ended_apply (i : grid0.Coords) (hi : (i 1).val < 4) (H : FVec Ideal S1024x2048 .bf16) (w : FVec Ideal S2048x640 .bf16)
    (co sa sb : FVec Ideal S1024x128 .f32) (r : Fin 1024) (j : Fin 640) :
    ended i H w co sa sb (ix2 r j)
      = if j.val < 384 then spun (prod H w r) (fun l => co (ix2 r l)) (fun l => sa (ix2 r l)) (fun l => sb (ix2 r l)) j
          * gain ((i 1).val * 640 + j.val) else prod H w r j := by
  unfold ended opening
  canon_tiles y hy using View.cover_of_tiledBy _ ![1024, 128] (by sl_kernel_rfl) _
  all_goals
    obtain ⟨p, q, rfl⟩ : ∃ p q, y = ix2 p q := ⟨y 0, y 1, eq_ix2 y⟩
    change r.val = p.val at hy0
    obtain rfl : r = p := Fin.ext hy0
    have hq : q.val < 128 := q.isLt
  · change j.val = 512 + q.val at hy1
    rw [if_neg (by omega)]
    exact (pay8_apply H w r q).trans (congrArg (prod H w r) (Fin.ext hy1.symm))
  · change j.val = 384 + q.val at hy1
    rw [if_neg (by omega)]
    exact (pay5_apply H w r q).trans (congrArg (prod H w r) (Fin.ext hy1.symm))
  · change j.val = 256 + q.val at hy1
    rw [if_pos (by omega)]
    exact (pay1_apply H w co sa sb r q _).trans (spun_of _ _ _ _ _ hi 2 q j hy1)
  · change j.val = 128 + q.val at hy1
    rw [if_pos (by omega)]
    exact (pay15_apply i H w co sa sb r q).trans (spun_of _ _ _ _ _ hi 1 q j hy1)
  · change j.val = q.val at hy1
    rw [if_pos (by omega)]
    exact (pay12_apply i H w co sa sb r q).trans (spun_of _ _ _ _ _ hi 0 q j (hy1.trans (by simp)))

end Cert.QkvBlock
-- ==== Proof.QkvTables.lean ====
module
public import proofs.«01_k».proof.Proof.Gen.KernelQkvIdeal.Frame
public import Idealize.ShloMosaic.Lib.Pipeline.ValueKit
public import Idealize.ShloMosaic.Lib.StableHlo.ReadAt

/-! The three tables of rotary embedding that the launch of the projection into queries, keys and values computes before
    it: at a position and a column the cosine of the column's angle, and the sine, negated on the first half of a rotated
    pair and plain on the second, zero elsewhere. -/

@[expose] public section

set_option maxRecDepth 16384

noncomputable section

namespace Cert.QkvTables

open Idealize.ShloMosaic Idealize.ShloMosaic.TcCoe Idealize.SL.Sem
open Idealize.ShloMosaic.Pipeline (Dat)
open Cert.KernelQkvIdeal Cert.KernelQkvIdeal.Gen

/-- The frequency of pair `k` of a head's sixteen. -/
def freq (k : Nat) : EReal :=
  Ideal.pow (Ideal.ofBits FTy.f32 1176256512#32)
    (Ideal.div (-(Ideal.ofBits FTy.f32 1073741824#32 * FloatOps.sitofp (F := Ideal) FTy.f32 (BitVec.ofNat 32 k)))
      (Ideal.ofBits FTy.f32 1107296256#32))

/-- The angle of pair `k` at coordinate `a`. -/
def angle (a k : Nat) : EReal := FloatOps.sitofp (F := Ideal) FTy.f32 (BitVec.ofNat 32 a) * freq k

/-- The coordinate that turns a column: the first half of a head turns by the position's row, the second by its column. -/
def place (p l : Nat) : Nat := if l % 64 < 32 then p / 64 else p % 64

/-- The angle by which position `p` turns column `l`. -/
def theta (p l : Nat) : EReal := angle (place p l) (l % 16)

/-- The floor division of a position by the grid's width, as words. -/
theorem row_word : ∀ p : Fin 4096, (Scalar.select
        (IntOp.andi
          (IntOp.cmpi CmpIPredicate.ne
            (if BitVec.ofNat 32 p.val = 0 then 0 else if (BitVec.ofNat 32 p.val).msb = true then -1 else 1)
            (if 64#32 = 0 then (0 : BitVec 32) else if BitVec.msb 64#32 = true then -1 else 1))
          (IntOp.cmpi CmpIPredicate.ne (IntOp.remsi ArithUnit.host (BitVec.ofNat 32 p.val) 64#32) 0#32))
        (IntOp.subi (IntOp.divsi ArithUnit.host (BitVec.ofNat 32 p.val) 64#32) 1#32)
        (IntOp.divsi ArithUnit.host (BitVec.ofNat 32 p.val) 64#32)) = BitVec.ofNat 32 (p.val / 64) := by decide +kernel

/-- The width that a remainder is taken by, guarded against zero, as a word. -/
abbrev width : BitVec 32 := Scalar.select (IntOp.cmpi CmpIPredicate.eq 64#32 0#32) (1#32) 64#32

/-- The remainder of a position by the grid's width, as words. -/
theorem col_word : ∀ p : Fin 4096, (Scalar.select
        (IntOp.andi
          (IntOp.cmpi CmpIPredicate.ne
            (IntOp.cmpi CmpIPredicate.slt (IntOp.remsi ArithUnit.host (BitVec.ofNat 32 p.val) width) 0#32)
            (IntOp.cmpi CmpIPredicate.slt width 0#32))
          (IntOp.cmpi CmpIPredicate.ne (IntOp.remsi ArithUnit.host (BitVec.ofNat 32 p.val) width) 0#32))
        (IntOp.addi (IntOp.remsi ArithUnit.host (BitVec.ofNat 32 p.val) width) width)
        (IntOp.remsi ArithUnit.host (BitVec.ofNat 32 p.val) width)) = BitVec.ofNat 32 (p.val % 64) := by decide +kernel

variable (m : (ℓ : Loc nD τ sig) → Buf (Elt Ideal) ℓ) (c : Dev nD)

set_option maxHeartbeats 1600000 in
/-- The table of cosines. -/
theorem cos_at (p : Fin 4096) (l : Fin 128) : (V m c main_v39 : FVec Ideal S4096x128 .f32) (ix2 p l) = Ideal.cos (theta p.val l.val) := by
  have hl := l.isLt
  unfold V
  after_reads_at
  unfold theta angle place
  by_cases h : l.val % 64 < 16
  · rw [dif_pos h]
    after_reads_at
    rw [if_pos (by omega : l.val % 64 < 32), (by omega : l.val % 16 = l.val % 64)]
    exact congrArg (fun z => Ideal.cos (FloatOps.sitofp (F := Ideal) FTy.f32 z * freq (l.val % 64))) (row_word p)
  by_cases h1 : l.val % 64 - 16 < 16
  · rw [dif_neg h, dif_pos h1]
    after_reads_at
    rw [if_pos (by omega : l.val % 64 < 32), (by omega : l.val % 16 = l.val % 64 - 16)]
    exact congrArg (fun z => Ideal.cos (FloatOps.sitofp (F := Ideal) FTy.f32 z * freq (l.val % 64 - 16))) (row_word p)
  by_cases h2 : l.val % 64 - 16 - 16 < 16
  · rw [dif_neg h, dif_neg h1, dif_pos h2]
    after_reads_at
    rw [if_neg (by omega : ¬ l.val % 64 < 32), (by omega : l.val % 16 = l.val % 64 - 16 - 16)]
    exact congrArg (fun z => Ideal.cos (FloatOps.sitofp (F := Ideal) FTy.f32 z * freq (l.val % 64 - 16 - 16))) (col_word p)
  rw [dif_neg h, dif_neg h1, dif_neg h2]
  after_reads_at
  rw [if_neg (by omega : ¬ l.val % 64 < 32), (by omega : l.val % 16 = l.val % 64 - 16 - 16 - 16)]
  exact congrArg (fun z => Ideal.cos (FloatOps.sitofp (F := Ideal) FTy.f32 z * freq (l.val % 64 - 16 - 16 - 16))) (col_word p)

set_option maxHeartbeats 1600000 in
/-- The table that the columns sixteen on are multiplied by. -/
theorem sa_at (p : Fin 4096) (l : Fin 128) : (V m c main_v42 : FVec Ideal S4096x128 .f32) (ix2 p l) = if l.val % 32 < 16 then -Ideal.sin (theta p.val l.val) else 0 := by
  have hl := l.isLt
  unfold V
  after_reads_at
  unfold theta angle place
  by_cases h : l.val % 64 < 16
  · rw [dif_pos h]
    after_reads_at
    rw [if_pos (by omega : l.val % 32 < 16), if_pos (by omega : l.val % 64 < 32), (by omega : l.val % 16 = l.val % 64)]
    exact congrArg (fun z => -Ideal.sin (FloatOps.sitofp (F := Ideal) FTy.f32 z * freq (l.val % 64))) (row_word p)
  by_cases h1 : l.val % 64 - 16 < 16
  · rw [dif_neg h, dif_pos h1]
    after_reads_at
    rw [if_neg (by omega : ¬ l.val % 32 < 16)]
  by_cases h2 : l.val % 64 - 16 - 16 < 16
  · rw [dif_neg h, dif_neg h1, dif_pos h2]
    after_reads_at
    rw [if_pos (by omega : l.val % 32 < 16), if_neg (by omega : ¬ l.val % 64 < 32), (by omega : l.val % 16 = l.val % 64 - 16 - 16)]
    exact congrArg (fun z => -Ideal.sin (FloatOps.sitofp (F := Ideal) FTy.f32 z * freq (l.val % 64 - 16 - 16))) (col_word p)
  rw [dif_neg h, dif_neg h1, dif_neg h2]
  after_reads_at
  rw [if_neg (by omega : ¬ l.val % 32 < 16)]

set_option maxHeartbeats 1600000 in
/-- The table that the columns sixteen back are multiplied by. -/
theorem sb_at (p : Fin 4096) (l : Fin 128) : (V m c main_v45 : FVec Ideal S4096x128 .f32) (ix2 p l) = if l.val % 32 < 16 then 0 else Ideal.sin (theta p.val l.val) := by
  have hl := l.isLt
  unfold V
  after_reads_at
  unfold theta angle place
  by_cases h : l.val % 64 < 16
  · rw [dif_pos h]
    after_reads_at
    rw [if_pos (by omega : l.val % 32 < 16)]
  by_cases h1 : l.val % 64 - 16 < 16
  · rw [dif_neg h, dif_pos h1]
    after_reads_at
    rw [if_neg (by omega : ¬ l.val % 32 < 16), if_pos (by omega : l.val % 64 < 32), (by omega : l.val % 16 = l.val % 64 - 16)]
    exact congrArg (fun z => Ideal.sin (FloatOps.sitofp (F := Ideal) FTy.f32 z * freq (l.val % 64 - 16))) (row_word p)
  by_cases h2 : l.val % 64 - 16 - 16 < 16
  · rw [dif_neg h, dif_neg h1, dif_pos h2]
    after_reads_at
    rw [if_pos (by omega : l.val % 32 < 16)]
  rw [dif_neg h, dif_neg h1, dif_neg h2]
  after_reads_at
  rw [if_neg (by omega : ¬ l.val % 32 < 16), if_neg (by omega : ¬ l.val % 64 < 32), (by omega : l.val % 16 = l.val % 64 - 16 - 16 - 16)]
  exact congrArg (fun z => Ideal.sin (FloatOps.sitofp (F := Ideal) FTy.f32 z * freq (l.val % 64 - 16 - 16 - 16))) (col_word p)

end Cert.QkvTables
-- ==== Proof.QkvArray.lean ====
module
public import proofs.«01_k».proof.Proof.QkvBlock
public import proofs.«01_k».proof.Proof.QkvTables
public import proofs.«01_k».proof.Proof.Gen.KernelQkvIdeal.Value
public import Idealize.ShloMosaic.Lib.Quiescent

/-! The array that the projection into queries, keys and values leaves, entry by entry. -/

@[expose] public section

set_option maxRecDepth 16384

noncomputable section

namespace Cert.QkvArray

open Idealize.ShloMosaic Idealize.ShloMosaic.TcCoe Idealize.SL.Sem
open Idealize.ShloMosaic.Pipeline (Dat)
open Cert.KernelQkvIdeal Cert.KernelQkvIdeal.Gen Cert.QkvBlock Cert.QkvTables

/-- A token's normed row, modulated as sequence `s` asks, against a column of the weights. -/
def product (x : FVec Ideal S32768x2048 .f32) (sh sc : FVec Ideal S8x1x2048 .f32) (w : FVec Ideal S2048x2560 .bf16)
    (s : Fin 8) (p : Fin 32768) (j : Fin 2560) : EReal :=
  ∑ k : Fin 2048, normed (fun l => x (ix2 p l)) (fun l => sh (ix3 s 0 l)) (fun l => sc (ix3 s 0 l)) k * w (ix2 k j)

/-- Column `j` of a row turned by position `p`'s angle: the first half of a rotated pair takes the column sixteen on,
    the second the column sixteen back. -/
def rotated (A : Fin 2560 → EReal) (p : Nat) (j : Fin 2560) : EReal :=
  if h : j.val % 32 < 16 then A j * Ideal.cos (theta p j.val) - A ⟨j.val + 16, by omega⟩ * Ideal.sin (theta p j.val)
  else A j * Ideal.cos (theta p j.val) + A ⟨j.val - 16, by omega⟩ * Ideal.sin (theta p j.val)

/-- An entry of the result: queries, scaled, then keys, both turned, then values. -/
def entry (x : FVec Ideal S32768x2048 .f32) (sh sc : FVec Ideal S8x1x2048 .f32) (w : FVec Ideal S2048x2560 .bf16)
    (p : Fin 32768) (j : Fin 2560) : EReal :=
  if j.val < 2304 then rotated (product x sh sc w ⟨p.val / 4096, by omega⟩ p) (p.val % 4096) j * gain j.val
  else product x sh sc w ⟨p.val / 4096, by omega⟩ p j

/-- The result. -/
def result (x : FVec Ideal S32768x2048 .f32) (sh sc : FVec Ideal S8x1x2048 .f32) (w : FVec Ideal S2048x2560 .bf16) :
    FVec Ideal S32768x2560 .bf16 :=
  fun i => entry x sh sc w ⟨(i 0).val, (i 0).isLt⟩ ⟨(i 1).val, (i 1).isLt⟩

/-- Which blocks a grid point reads and writes. -/
theorem idx : ∀ t : Fin cfg0.N, win0_0.index t = ![t.val / 4, 0] ∧ win0_1.index t = ![t.val / 16, 0, 0]
    ∧ win0_2.index t = ![t.val / 16, 0, 0] ∧ win0_3.index t = ![0, t.val % 4]
    ∧ win0_4.index t = ![t.val / 4 % 4, 0] ∧ win0_5.index t = ![t.val / 4 % 4, 0] ∧ win0_6.index t = ![t.val / 4 % 4, 0]
    ∧ win0_7.index t = ![t.val / 4, t.val % 4] :=
  (by decide +kernel : ∀ t : Fin grid0.N, _)

/-- The column block of a grid point. -/
theorem coord : ∀ t : Fin cfg0.N, (grid0.coords t 1).val = t.val % 4 :=
  (by decide +kernel : ∀ t : Fin grid0.N, _)

variable (m : (ℓ : Loc nD τ sig) → Buf (Elt Ideal) ℓ) (c : Dev nD) (t : Fin cfg0.N)

/-- The residual stream a launch finds in memory. -/
abbrev X : FVec Ideal S32768x2048 .f32 := m ((c.tc : Thread nD τ).loc main_arg0)

/-- The shifts a launch finds in memory. -/
abbrev SH : FVec Ideal S8x1x2048 .f32 := m ((c.tc : Thread nD τ).loc main_arg1)

/-- The scales a launch finds in memory. -/
abbrev SC : FVec Ideal S8x1x2048 .f32 := m ((c.tc : Thread nD τ).loc main_arg2)

/-- The weights a launch finds in memory. -/
abbrev W : FVec Ideal S2048x2560 .bf16 := m ((c.tc : Thread nD τ).loc main_arg3)

/-- A grid point's rows. -/
theorem rows_at (i : Fin 1024) (k : Fin 2048) :
    iblk m c 0 t (ix2 i k) = X m c (ix2 ⟨t.val / 4 * 1024 + i.val, by have := lt_of_lt_of_eq t.isLt N_0; omega⟩ k) := by
  blk_point [iblk, V, idx t]

/-- The shifts of the sequence its rows belong to. -/
theorem shift_at (k : Fin 2048) :
    iblk m c 1 t (ix3 0 0 k) = SH m c (ix3 ⟨t.val / 16, by have := lt_of_lt_of_eq t.isLt N_0; omega⟩ 0 k) := by
  blk_point [iblk, V, idx t]

/-- The scales of the sequence its rows belong to. -/
theorem scale_at (k : Fin 2048) :
    iblk m c 2 t (ix3 0 0 k) = SC m c (ix3 ⟨t.val / 16, by have := lt_of_lt_of_eq t.isLt N_0; omega⟩ 0 k) := by
  blk_point [iblk, V, idx t]

/-- A grid point's columns of the weights. -/
theorem cols_at (k : Fin 2048) (j : Fin 640) :
    iblk m c 3 t (ix2 k j) = W m c (ix2 k ⟨t.val % 4 * 640 + j.val, by omega⟩) := by
  blk_point [iblk, V, idx t]

/-- A grid point's rows of the table of cosines. -/
theorem cosine_at (i : Fin 1024) (l : Fin 128) :
    iblk m c 4 t (ix2 i l) = Ideal.cos (theta (t.val / 4 % 4 * 1024 + i.val) l.val) := by
  have e : iblk m c 4 t (ix2 i l) = (V m c main_v39 : FVec Ideal S4096x128 .f32)
      (ix2 (⟨t.val / 4 % 4 * 1024 + i.val, by omega⟩ : Fin 4096) l) := by
    blk_point [iblk, idx t]
  rw [e, cos_at]

/-- A grid point's rows of the table for the columns sixteen on. -/
theorem ahead_at (i : Fin 1024) (l : Fin 128) :
    iblk m c 5 t (ix2 i l) = if l.val % 32 < 16 then -Ideal.sin (theta (t.val / 4 % 4 * 1024 + i.val) l.val) else 0 := by
  have e : iblk m c 5 t (ix2 i l) = (V m c main_v42 : FVec Ideal S4096x128 .f32)
      (ix2 (⟨t.val / 4 % 4 * 1024 + i.val, by omega⟩ : Fin 4096) l) := by
    blk_point [iblk, idx t]
  rw [e, sa_at]

/-- A grid point's rows of the table for the columns sixteen back. -/
theorem back_at (i : Fin 1024) (l : Fin 128) :
    iblk m c 6 t (ix2 i l) = if l.val % 32 < 16 then 0 else Ideal.sin (theta (t.val / 4 % 4 * 1024 + i.val) l.val) := by
  have e : iblk m c 6 t (ix2 i l) = (V m c main_v45 : FVec Ideal S4096x128 .f32)
      (ix2 (⟨t.val / 4 % 4 * 1024 + i.val, by omega⟩ : Fin 4096) l) := by
    blk_point [iblk, idx t]
  rw [e, sb_at]

/-- The normed row that a row of the scratch holds while row block `i` is computed. -/
def held (i : Nat) (hi : i < 32) (r : Fin 1024) (k : Fin 2048) : EReal :=
  normed (fun l => X m c (ix2 ⟨i * 1024 + r.val, by omega⟩ l)) (fun l => SH m c (ix3 ⟨i / 4, by omega⟩ 0 l))
    (fun l => SC m c (ix3 ⟨i / 4, by omega⟩ 0 l)) k

/-- A normed row depends on nothing but its entries, its shifts and its scales. -/
theorem normed_congr {x x' sh sh' sc sc' : Fin 2048 → EReal} (hx : ∀ l, x l = x' l) (hh : ∀ l, sh l = sh' l) (hc : ∀ l, sc l = sc' l)
    (k : Fin 2048) : normed x sh sc k = normed x' sh' sc' k := by
  rw [funext hx, funext hh, funext hc]

/-- What a row block's first point stores in the scratch. -/
theorem filled (r : Fin 1024) (k : Fin 2048) :
    rows (iblk m c 0 t) (iblk m c 1 t) (iblk m c 2 t) (ix2 r k)
      = held m c (t.val / 4) (by have := lt_of_lt_of_eq t.isLt N_0; omega) r k := by
  have hs : (⟨t.val / 16, by have := lt_of_lt_of_eq t.isLt N_0; omega⟩ : Fin 8)
      = ⟨t.val / 4 / 4, by have := lt_of_lt_of_eq t.isLt N_0; omega⟩ := Fin.ext (by simp only []; omega)
  refine (rows_apply _ _ _ r k).trans (normed_congr (fun l => rows_at m c t r l) (fun l => ?_) (fun l => ?_) k)
  · exact (shift_at m c t l).trans (congrArg (fun s => SH m c (ix3 s 0 l)) hs)
  · exact (scale_at m c t l).trans (congrArg (fun s => SC m c (ix3 s 0 l)) hs)

/-- The rows held depend on nothing but the row block's number. -/
theorem held_congr {i i' : Nat} (h : i = i') (hi : i < 32) (hi' : i' < 32) (r : Fin 1024) (k : Fin 2048) :
    held m c i hi r k = held m c i' hi' r k := by
  subst h; rfl

/-- After a row block's first point the scratch holds the rows just stored. -/
theorem scratch_first (h0 : t.val % 4 = 0) (r : Fin 1024) (k : Fin 2048) : (outsAt0 m c t.val t.isLt).2 (ix2 r k)
    = held m c (t.val / 4) (by have := lt_of_lt_of_eq t.isLt N_0; omega) r k := by
  rw [← filled m c t r k, outs_first m c t h0]

/-- The other points leave the scratch as the point before left it. -/
theorem scratch_next (h0 : ¬ t.val % 4 = 0) (s : Fin cfg0.N) (hs : s.val = t.val - 1) (r : Fin 1024) (k : Fin 2048) :
    (outsAt0 m c t.val t.isLt).2 (ix2 r k) = (outsAt0 m c s.val s.isLt).2 (ix2 r k) := by
  by_cases h3 : t.val % 4 = 3
  · rw [outs_last m c t h3]
    obtain ⟨s, h⟩ := s
    simp only [] at hs
    subst hs
    rfl
  · rw [outs_next m c t h0 h3]
    obtain ⟨s, h⟩ := s
    simp only [] at hs
    subst hs
    rfl

/-- After any point the scratch holds the normed rows of the point's row block. -/
theorem scratch : ∀ (n : Nat) (t : Fin cfg0.N) (ht : t.val = n) (r : Fin 1024) (k : Fin 2048),
    (outsAt0 m c t.val t.isLt).2 (ix2 r k) = held m c (t.val / 4) (by have := lt_of_lt_of_eq t.isLt N_0; omega) r k := by
  intro n
  induction n with
  | zero =>
    intro t ht r k
    exact scratch_first m c t (by omega) r k
  | succ n ih =>
    intro t ht r k
    by_cases h0 : t.val % 4 = 0
    · exact scratch_first m c t h0 r k
    · rw [scratch_next m c t h0 ⟨n, by omega⟩ (by simp only []; omega) r k]
      rw [ih ⟨n, by omega⟩ rfl r k]
      exact held_congr m c (by simp only []; omega) _ _ r k

/-- A block of queries is computed from the scratch its point leaves. -/
theorem out_turned (h3 : ¬ t.val % 4 = 3) : (outsAt0 m c t.val t.isLt).1
    = turned (grid0.coords t) (outsAt0 m c t.val t.isLt).2 (iblk m c 3 t) (iblk m c 4 t) (iblk m c 5 t) (iblk m c 6 t) := by
  by_cases h0 : t.val % 4 = 0
  · rw [outs_first m c t h0]
  · rw [outs_next m c t h0 h3]

/-- So is a row block's last block. -/
theorem out_ended (h3 : t.val % 4 = 3) : (outsAt0 m c t.val t.isLt).1
    = ended (grid0.coords t) (outsAt0 m c t.val t.isLt).2 (iblk m c 3 t) (iblk m c 4 t) (iblk m c 5 t) (iblk m c 6 t) := by
  rw [outs_last m c t h3]

/-- A row of the product, from the launch's memory. -/
abbrev line (s : Fin 8) (p : Fin 32768) (j : Fin 2560) : EReal := product (X m c) (SH m c) (SC m c) (W m c) s p j

/-- The products a point forms. -/
theorem prod_at (r : Fin 1024) (j : Fin 640) :
    prod (outsAt0 m c t.val t.isLt).2 (iblk m c 3 t) r j
      = line m c ⟨t.val / 16, by have := lt_of_lt_of_eq t.isLt N_0; omega⟩
        ⟨t.val / 4 * 1024 + r.val, by have := lt_of_lt_of_eq t.isLt N_0; omega⟩ ⟨t.val % 4 * 640 + j.val, by omega⟩ := by
  unfold prod line product
  refine Finset.sum_congr rfl fun x _ => ?_
  rw [scratch m c t.val t rfl r x, cols_at m c t x j]
  unfold held
  have hs : (⟨t.val / 4 / 4, by have := lt_of_lt_of_eq t.isLt N_0; omega⟩ : Fin 8)
      = ⟨t.val / 16, by have := lt_of_lt_of_eq t.isLt N_0; omega⟩ := Fin.ext (by simp only []; omega)
  rw [hs]

/-- A column's angle depends on nothing but its place in its head. -/
theorem theta_congr (p : Nat) {l l' : Nat} (h : l % 64 = l' % 64) : theta p l = theta p l' := by
  unfold theta place
  rw [h, (by omega : l % 16 = l' % 16)]

/-- Turning a block's columns strip by strip with the three tables is turning the row's columns by their angles. -/
theorem spun_eq (A : Fin 640 → EReal) (P : Fin 2560 → EReal) (a : Nat) (ha : a < 4) (q : Nat) (co sa sb : Fin 128 → EReal)
    (hA : ∀ j, A j = P ⟨a * 640 + j.val, by omega⟩) (hc : ∀ l, co l = Ideal.cos (theta q l.val))
    (hs : ∀ l, sa l = if l.val % 32 < 16 then -Ideal.sin (theta q l.val) else 0)
    (hb : ∀ l, sb l = if l.val % 32 < 16 then 0 else Ideal.sin (theta q l.val)) (j : Fin 640) :
    spun A co sa sb j = rotated P q ⟨a * 640 + j.val, by omega⟩ := by
  have at' : ∀ (i i' : Fin 640), i.val = i'.val → A i = A i' := fun i i' h => congrArg A (Fin.ext h)
  have atP : ∀ (i i' : Fin 2560), i.val = i'.val → P i = P i' := fun i i' h => congrArg P (Fin.ext h)
  have ht : theta q (j.val % 128) = theta q (a * 640 + j.val) := theta_congr q (by omega)
  unfold spun turn strip rotated
  rw [hc, hs, hb]
  simp only []
  rw [ht, hA, hA, hA]
  by_cases h : j.val % 32 < 16
  · rw [if_pos (by omega), if_pos (by omega), dif_pos (by omega), mul_zero, add_zero, mul_neg, ← sub_eq_add_neg]
    exact congrArg₂ (· - ·) (congrArg (· * _) (atP _ _ (by simp only []; omega))) (congrArg (· * _) (atP _ _ (by simp only []; omega)))
  · rw [if_neg (by omega), if_neg (by omega), dif_neg (by omega), mul_zero, add_zero]
    exact congrArg₂ (· + ·) (congrArg (· * _) (atP _ _ (by simp only []; omega))) (congrArg (· * _) (atP _ _ (by simp only []; omega)))

/-- A grid point's block of the result. -/
theorem block_at (i : Fin 1024) (j : Fin 640) :
    (outsAt0 m c t.val t.isLt).1 (ix2 i j) = entry (X m c) (SH m c) (SC m c) (W m c)
      ⟨t.val / 4 * 1024 + i.val, by have := lt_of_lt_of_eq t.isLt N_0; omega⟩ ⟨t.val % 4 * 640 + j.val, by omega⟩ := by
  have ht := lt_of_lt_of_eq t.isLt N_0
  have hi := i.isLt
  have hj := j.isLt
  have hs : (⟨(t.val / 4 * 1024 + i.val) / 4096, by omega⟩ : Fin 8) = ⟨t.val / 16, by omega⟩ := Fin.ext (by simp only []; omega)
  have hq : (t.val / 4 * 1024 + i.val) % 4096 = t.val / 4 % 4 * 1024 + i.val := by omega
  have spin := spun_eq (prod (outsAt0 m c t.val t.isLt).2 (iblk m c 3 t) i)
    (line m c ⟨t.val / 16, by omega⟩ ⟨t.val / 4 * 1024 + i.val, by omega⟩) (t.val % 4) (by omega) (t.val / 4 % 4 * 1024 + i.val)
    (fun l => iblk m c 4 t (ix2 i l)) (fun l => iblk m c 5 t (ix2 i l)) (fun l => iblk m c 6 t (ix2 i l))
    (fun j => prod_at m c t i j) (fun l => cosine_at m c t i l) (fun l => ahead_at m c t i l) (fun l => back_at m c t i l) j
  unfold entry
  simp only []
  rw [hs, hq]
  by_cases h3 : t.val % 4 = 3
  · rw [out_ended m c t h3]
    refine (ended_apply (grid0.coords t) (by rw [coord t]; omega) _ _ _ _ _ i j).trans ?_
    by_cases hl : j.val < 384
    · rw [if_pos hl, if_pos (by omega), coord t, spin]
    · rw [if_neg hl, if_neg (by omega)]
      exact prod_at m c t i j
  · rw [out_turned m c t h3]
    refine (turned_apply (grid0.coords t) (by rw [coord t]; omega) _ _ _ _ _ i j).trans ?_
    rw [if_pos (by omega), coord t, spin]

/-- The array the run leaves. -/
theorem final : (dats m 0 c).arrAt 7 cfg0.N = result (X m c) (SH m c) (SC m c) (W m c) := by
  refine (dats m 0 c).arrAt_eq_of_covers 7 _ (by decide +kernel) fun t _ y => ?_
  have ht := lt_of_lt_of_eq t.isLt N_0
  have h0 : (y 0 : ℕ) < 1024 := (y 0).isLt
  have h1 : (y 1 : ℕ) < 640 := (y 1).isLt
  have e0 : ((((cfg0.win 7).blk t).view.emb y) 0 : ℕ) = t.val / 4 * 1024 + (y 0 : ℕ) := by blk_simp [idx t]
  have e1 : ((((cfg0.win 7).blk t).view.emb y) 1 : ℕ) = t.val % 4 * 640 + (y 1 : ℕ) := by blk_simp [idx t]
  have hy : y = ix2 (⟨(y 0 : ℕ), h0⟩ : Fin 1024) (⟨(y 1 : ℕ), h1⟩ : Fin 640) := eq_ix2 y
  have hi : ((cfg0.win 7).blk t).view.emb y = ix2 (⟨t.val / 4 * 1024 + (y 0 : ℕ), by omega⟩ : Fin 32768)
      (⟨t.val % 4 * 640 + (y 1 : ℕ), by omega⟩ : Fin 2560) := by
    funext a
    match a with
    | ⟨0, _⟩ => exact Fin.ext e0
    | ⟨1, _⟩ => exact Fin.ext e1
  rw [hi]
  refine Eq.trans ?_ (block_at m c t ⟨(y 0 : ℕ), h0⟩ ⟨(y 1 : ℕ), h1⟩)
  blk_simp
  rw [after0_7]
  exact congrArg _ hy

end Cert.QkvArray

end
-- ==== Proof.QkvRef.lean ====
module
public import proofs.«01_k».proof.Proof.Gen.ReferenceQkvIdeal.Run
public import proofs.«01_k».proof.Proof.QkvArray

/-! What the reference of the projection into queries, keys and values computes, stage by stage, at an index. -/

@[expose] public section

set_option maxRecDepth 16384

noncomputable section

namespace Cert.QkvRef

open Idealize.ShloMosaic Idealize.ShloMosaic.TcCoe Idealize.SL.Sem
open Cert.ReferenceQkvIdeal Cert.ReferenceQkvIdeal.Gen Cert.QkvBlock Cert.QkvTables
open Cert.QkvArray (rotated)

/-- The residual stream, a sequence at a time. -/
def rows (x : FVec Ideal S32768x2048 .f32) : FVec Ideal S8x4096x2048 .f32 :=
  shapeCast _ x shapeCasts_S32768x2048_S8x4096x2048

/-- The normed rows, modulated. -/
def hidden (x : FVec Ideal S32768x2048 .f32) (sh sc : FVec Ideal S8x1x2048 .f32) : FVec Ideal S8x4096x2048 .f32 :=
  addf (mulf (mulf (rows x) (broadcastInDim S8x4096x2048 ![0, 1, 2] bcast_S8x4096x1_S8x4096x2048_0_1_2 (Host.rsqrt (addf
    (Host.divf (broadcastInDim S8x4096x1 ![0, 1] bcast_S8x4096_S8x4096x1_0_1 (Host.reduceAdd (mulf (rows x) (rows x))
      (constant (F := Ideal) S_ .f32 0x00000000#32) reducesTo_S8x4096x2048_S8x4096_d2 h_S_))
      (broadcastInDim S8x4096x1 ![] bcast_S_S8x4096x1 (constant (F := Ideal) S_ .f32 0x45000000#32)))
    (broadcastInDim S8x4096x1 ![] bcast_S_S8x4096x1 (constant (F := Ideal) S_ .f32 0x358637BD#32))))))
    (broadcastInDim S8x4096x2048 ![0, 1, 2] bcast_S8x1x2048_S8x4096x2048_0_1_2
      (addf (broadcastInDim S8x1x2048 ![] bcast_S_S8x1x2048 (constant (F := Ideal) S_ .f32 0x3F800000#32)) sc)))
    (broadcastInDim S8x4096x2048 ![0, 1, 2] bcast_S8x1x2048_S8x4096x2048_0_1_2 sh)

/-- The product with the weights. -/
def product (h : FVec Ideal S8x4096x2048 .f32) (w : FVec Ideal S2048x2560 .bf16) : FVec Ideal S8x4096x2560 .f32 :=
  Host.dotGeneral (F := Ideal) dot_S8x4096x2048_S2048x2560_S8x4096x2560_2_0_01_1_n_n none h (extf .f32 w bitsLt_bf16_f32)

/-- The frequencies of a head's sixteen pairs. -/
def freqs : FVec Ideal S16 .f32 :=
  Host.powf (broadcastInDim S16 ![] bcast_S_S16 (constant (F := Ideal) S_ .f32 0x461C4000#32))
    (Host.divf (Host.negf (mulf (broadcastInDim S16 ![] bcast_S_S16 (constant (F := Ideal) S_ .f32 0x40000000#32))
      (sitofp (F := Ideal) .f32 (iotaInDim S16 32 0)))) (broadcastInDim S16 ![] bcast_S_S16 (constant (F := Ideal) S_ .f32 0x42000000#32)))

/-- The products of coordinates and frequencies. -/
def angles (a : FVec Ideal S4096 .f32) : FVec Ideal S4096x1x16 .f32 :=
  broadcastInDim S4096x1x16 ![0, 2] bcast_S4096x16_S4096x1x16_0_2
    (mulf (broadcastInDim S4096x16 ![0, 1] bcast_S4096x1_S4096x16_0_1 (broadcastInDim S4096x1 ![0] bcast_S4096_S4096x1_0 a))
      (broadcastInDim S4096x16 ![0, 1] bcast_S1x16_S4096x16_0_1 (broadcastInDim S1x16 ![1] bcast_S16_S1x16_1 freqs)))

/-- Every position's row in the grid. -/
def downs : FVec Ideal S4096 .f32 :=
  shapeCast _ (broadcastInDim S64x64 ![0] bcast_S64_S64x64_0 (sitofp (F := Ideal) .f32 (iotaInDim S64 32 0))) shapeCasts_S64x64_S4096

/-- Every position's column. -/
def acrosses : FVec Ideal S4096 .f32 :=
  shapeCast _ (broadcastInDim S64x64 ![0, 1] bcast_S1x64_S64x64_0_1
    (shapeCast S1x64 (sitofp (F := Ideal) .f32 (iotaInDim S64 32 0)) shapeCasts_S64_S1x64)) shapeCasts_S64x64_S4096

/-- The angles of both halves of a head. -/
def both : FVec Ideal S4096x2x16 .f32 :=
  concatenate S4096x2x16 1 [⟨S4096x1x16, angles downs⟩, ⟨S4096x1x16, angles acrosses⟩] concatenates_S4096x1x16_S4096x1x16_S4096x2x16_d1

/-- The first columns of the rotated pairs of the queries. -/
def firstQueries (u : FVec Ideal S8x4096x2048 .f32) : FVec Ideal S8x4096x32x2x16 .f32 :=
  shapeCast _ (extractStridedSlice S8x4096x32x2x1x16 ![0, 0, 0, 0, 0, 0] (shapeCast S8x4096x32x2x2x16 (shapeCast S8x4096x32x64 u
    shapeCasts_S8x4096x2048_S8x4096x32x64) shapeCasts_S8x4096x32x64_S8x4096x32x2x2x16)
    slices_S8x4096x32x2x2x16_S8x4096x32x2x1x16_0_0_0_0_0_0) shapeCasts_S8x4096x32x2x1x16_S8x4096x32x2x16

/-- Their second columns. -/
def secondQueries (u : FVec Ideal S8x4096x2048 .f32) : FVec Ideal S8x4096x32x2x16 .f32 :=
  shapeCast _ (extractStridedSlice S8x4096x32x2x1x16 ![0, 0, 0, 0, 1, 0] (shapeCast S8x4096x32x2x2x16 (shapeCast S8x4096x32x64 u
    shapeCasts_S8x4096x2048_S8x4096x32x64) shapeCasts_S8x4096x32x64_S8x4096x32x2x2x16)
    slices_S8x4096x32x2x2x16_S8x4096x32x2x1x16_0_0_0_0_1_0) shapeCasts_S8x4096x32x2x1x16_S8x4096x32x2x16

/-- A table of numbers, one a position and pair, for every head of the queries. -/
def everyQueries (t : FVec Ideal S4096x2x16 .f32) : FVec Ideal S8x4096x32x2x16 .f32 :=
  broadcastInDim S8x4096x32x2x16 ![0, 1, 2, 3, 4] bcast_S1x4096x1x2x16_S8x4096x32x2x16_0_1_2_3_4
    (broadcastInDim S1x4096x1x2x16 ![1, 2, 3, 4] bcast_S4096x1x2x16_S1x4096x1x2x16_1_2_3_4
      (broadcastInDim S4096x1x2x16 ![0, 2, 3] bcast_S4096x2x16_S4096x1x2x16_0_2_3 t))

/-- The queries, turned. -/
def turnedQueries (u : FVec Ideal S8x4096x2048 .f32) (co si : FVec Ideal S4096x2x16 .f32) : FVec Ideal S8x4096x32x64 .f32 :=
  shapeCast _ (concatenate S8x4096x32x2x2x16 4
    [⟨S8x4096x32x2x1x16, broadcastInDim S8x4096x32x2x1x16 ![0, 1, 2, 3, 5] bcast_S8x4096x32x2x16_S8x4096x32x2x1x16_0_1_2_3_5
      (subf (mulf (firstQueries u) (everyQueries co)) (mulf (secondQueries u) (everyQueries si)))⟩,
     ⟨S8x4096x32x2x1x16, broadcastInDim S8x4096x32x2x1x16 ![0, 1, 2, 3, 5] bcast_S8x4096x32x2x16_S8x4096x32x2x1x16_0_1_2_3_5
      (addf (mulf (secondQueries u) (everyQueries co)) (mulf (firstQueries u) (everyQueries si)))⟩]
    concatenates_S8x4096x32x2x1x16_S8x4096x32x2x1x16_S8x4096x32x2x2x16_d4) shapeCasts_S8x4096x32x2x2x16_S8x4096x32x64

/-- The first columns of the rotated pairs of the keys. -/
def firstKeys (u : FVec Ideal S8x4096x256 .f32) : FVec Ideal S8x4096x4x2x16 .f32 :=
  shapeCast _ (extractStridedSlice S8x4096x4x2x1x16 ![0, 0, 0, 0, 0, 0] (shapeCast S8x4096x4x2x2x16 (shapeCast S8x4096x4x64 u
    shapeCasts_S8x4096x256_S8x4096x4x64) shapeCasts_S8x4096x4x64_S8x4096x4x2x2x16)
    slices_S8x4096x4x2x2x16_S8x4096x4x2x1x16_0_0_0_0_0_0) shapeCasts_S8x4096x4x2x1x16_S8x4096x4x2x16

/-- Their second columns. -/
def secondKeys (u : FVec Ideal S8x4096x256 .f32) : FVec Ideal S8x4096x4x2x16 .f32 :=
  shapeCast _ (extractStridedSlice S8x4096x4x2x1x16 ![0, 0, 0, 0, 1, 0] (shapeCast S8x4096x4x2x2x16 (shapeCast S8x4096x4x64 u
    shapeCasts_S8x4096x256_S8x4096x4x64) shapeCasts_S8x4096x4x64_S8x4096x4x2x2x16)
    slices_S8x4096x4x2x2x16_S8x4096x4x2x1x16_0_0_0_0_1_0) shapeCasts_S8x4096x4x2x1x16_S8x4096x4x2x16

/-- A table of numbers, one a position and pair, for every head of the keys. -/
def everyKeys (t : FVec Ideal S4096x2x16 .f32) : FVec Ideal S8x4096x4x2x16 .f32 :=
  broadcastInDim S8x4096x4x2x16 ![0, 1, 2, 3, 4] bcast_S1x4096x1x2x16_S8x4096x4x2x16_0_1_2_3_4
    (broadcastInDim S1x4096x1x2x16 ![1, 2, 3, 4] bcast_S4096x1x2x16_S1x4096x1x2x16_1_2_3_4
      (broadcastInDim S4096x1x2x16 ![0, 2, 3] bcast_S4096x2x16_S4096x1x2x16_0_2_3 t))

/-- The keys, turned. -/
def turnedKeys (u : FVec Ideal S8x4096x256 .f32) (co si : FVec Ideal S4096x2x16 .f32) : FVec Ideal S8x4096x4x64 .f32 :=
  shapeCast _ (concatenate S8x4096x4x2x2x16 4
    [⟨S8x4096x4x2x1x16, broadcastInDim S8x4096x4x2x1x16 ![0, 1, 2, 3, 5] bcast_S8x4096x4x2x16_S8x4096x4x2x1x16_0_1_2_3_5
      (subf (mulf (firstKeys u) (everyKeys co)) (mulf (secondKeys u) (everyKeys si)))⟩,
     ⟨S8x4096x4x2x1x16, broadcastInDim S8x4096x4x2x1x16 ![0, 1, 2, 3, 5] bcast_S8x4096x4x2x16_S8x4096x4x2x1x16_0_1_2_3_5
      (addf (mulf (secondKeys u) (everyKeys co)) (mulf (firstKeys u) (everyKeys si)))⟩]
    concatenates_S8x4096x4x2x1x16_S8x4096x4x2x1x16_S8x4096x4x2x2x16_d4) shapeCasts_S8x4096x4x2x2x16_S8x4096x4x64

/-- What a query is multiplied by. -/
def scale : FVec Ideal S_ .f32 :=
  Host.divf (constant (F := Ideal) S_ .f32 0x3E000000#32) (Host.log (constant (F := Ideal) S_ .f32 0x40000000#32))

/-- The heads of the queries side by side, scaled. -/
def scaled (v : FVec Ideal S8x4096x32x64 .f32) (g : FVec Ideal S_ .f32) : FVec Ideal S8x4096x2048 .f32 :=
  shapeCast S8x4096x2048 (mulf v (broadcastInDim S8x4096x32x64 ![] bcast_S_S8x4096x32x64 g)) shapeCasts_S8x4096x32x64_S8x4096x2048

/-- The queries of a product, scaled. -/
def queries (u : FVec Ideal S8x4096x2560 .f32) (co si : FVec Ideal S4096x2x16 .f32) : FVec Ideal S8x4096x2048 .f32 :=
  scaled (turnedQueries (extractStridedSlice S8x4096x2048 ![0, 0, 0] u slices_S8x4096x2560_S8x4096x2048_0_0_0) co si) scale

/-- The keys of a product. -/
def keys (u : FVec Ideal S8x4096x2560 .f32) (co si : FVec Ideal S4096x2x16 .f32) : FVec Ideal S8x4096x256 .f32 :=
  shapeCast S8x4096x256 (turnedKeys (extractStridedSlice S8x4096x256 ![0, 0, 2048] u
    slices_S8x4096x2560_S8x4096x256_0_0_2048) co si) shapeCasts_S8x4096x4x64_S8x4096x256

/-- The values of a product. -/
def values (u : FVec Ideal S8x4096x2560 .f32) : FVec Ideal S8x4096x256 .f32 :=
  extractStridedSlice S8x4096x256 ![0, 0, 2304] u slices_S8x4096x2560_S8x4096x256_0_0_2304

/-- Queries, keys and values side by side. -/
def joined (q : FVec Ideal S8x4096x2048 .f32) (k v : FVec Ideal S8x4096x256 .f32) : FVec Ideal S8x4096x2560 .f32 :=
  concatenate S8x4096x2560 2 [⟨S8x4096x2048, q⟩, ⟨S8x4096x256, k⟩, ⟨S8x4096x256, v⟩]
    concatenates_S8x4096x2048_S8x4096x256_S8x4096x256_S8x4096x2560_d2

/-- Queries, keys and values of a product. -/
def parts (u : FVec Ideal S8x4096x2560 .f32) (co si : FVec Ideal S4096x2x16 .f32) : FVec Ideal S8x4096x2560 .f32 :=
  joined (queries u co si) (keys u co si) (values u)

/-- The reference as a function of its arguments. -/
def reference (x : FVec Ideal S32768x2048 .f32) (sh sc : FVec Ideal S8x1x2048 .f32) (w : FVec Ideal S2048x2560 .bf16) :
    FVec Ideal S32768x2560 .bf16 :=
  truncf .bf16 (shapeCast S32768x2560 (parts (product (hidden x sh sc) w) (Host.cos both) (Host.sin both))
    shapeCasts_S8x4096x2560_S32768x2560) bitsLt_bf16_f32

/-- The reference's run leaves this function of its arguments. -/
theorem res_eq (m : (ℓ : Loc nD τ sig) → Buf (Elt Ideal) ℓ) (c : Dev nD) : Value.res_main_v112 (F := Ideal) m c
    = reference (m ((c.tc : Thread nD τ).loc main_arg0)) (m ((c.tc : Thread nD τ).loc main_arg1)) (m ((c.tc : Thread nD τ).loc main_arg2))
        (m ((c.tc : Thread nD τ).loc main_arg3)) :=
  rfl

/-- A modulated, normed row, at a token of a sequence. -/
theorem hidden_apply (x : FVec Ideal S32768x2048 .f32) (sh sc : FVec Ideal S8x1x2048 .f32) (s : Fin 8) (r : Fin 4096) (k : Fin 2048) :
    hidden x sh sc (ix3 s r k) = normed (fun l => x (ix2 ⟨s.val * 4096 + r.val, by omega⟩ l)) (fun l => sh (ix3 s 0 l))
      (fun l => sc (ix3 s 0 l)) k := by
  pointwise [hidden, rows]
  rfl

/-- The product, at a token of a sequence and a column. -/
theorem product_apply (x : FVec Ideal S32768x2048 .f32) (sh sc : FVec Ideal S8x1x2048 .f32) (w : FVec Ideal S2048x2560 .bf16)
    (s : Fin 8) (r : Fin 4096) (j : Fin 2560) :
    product (hidden x sh sc) w (ix3 s r j) = QkvArray.product x sh sc w s ⟨s.val * 4096 + r.val, by omega⟩ j := by
  unfold QkvArray.product
  simp only [← hidden_apply]
  pointwise [product]

/-- Columns of the same half and the same pair turn by the same angle. -/
theorem theta_same (p : Nat) {l l' : Nat} (h : l % 64 < 32 ↔ l' % 64 < 32) (h' : l % 16 = l' % 16) : theta p l = theta p l' := by
  unfold theta place
  rw [h', if_congr h rfl rfl]

/-- The angles, at a position, a half and a pair. -/
theorem both_apply (p : Fin 4096) (h : Fin 2) (k : Fin 16) : both (ix3 p h k) = theta p.val (h.val * 32 + k.val) := by
  have hk : (h.val * 32 + k.val) % 16 = k.val := by omega
  pointwise [both, angles, downs, acrosses, freqs]
  unfold theta place angle freq
  rw [hk]
  by_cases hh : h.val < 1
  · rw [dif_pos hh, if_pos (by omega)]
  · rw [dif_neg hh, if_neg (by omega)]

/-- The turned queries, head by head. -/
theorem turnedQueries_apply (u : FVec Ideal S8x4096x2048 .f32) (co si : FVec Ideal S4096x2x16 .f32) (s : Fin 8) (r : Fin 4096)
    (h : Fin 32) (d : Fin 64) : turnedQueries u co si (ix4 s r h d) = if d.val / 16 % 2 < 1 then
      u (ix3 s r ⟨h.val * 64 + d.val / 32 * 32 + d.val % 16, by omega⟩) * co (ix3 r ⟨d.val / 32, by omega⟩ ⟨d.val % 16, by omega⟩)
        - u (ix3 s r ⟨h.val * 64 + d.val / 32 * 32 + 16 + d.val % 16, by omega⟩) * si (ix3 r ⟨d.val / 32, by omega⟩ ⟨d.val % 16, by omega⟩)
    else
      u (ix3 s r ⟨h.val * 64 + d.val / 32 * 32 + 16 + d.val % 16, by omega⟩) * co (ix3 r ⟨d.val / 32, by omega⟩ ⟨d.val % 16, by omega⟩)
        + u (ix3 s r ⟨h.val * 64 + d.val / 32 * 32 + d.val % 16, by omega⟩) * si (ix3 r ⟨d.val / 32, by omega⟩ ⟨d.val % 16, by omega⟩) := by
  pointwise [turnedQueries, everyQueries, firstQueries, secondQueries]
  rfl

/-- The turned queries, column by column. -/
theorem turnedQueries_eq (u : FVec Ideal S8x4096x2048 .f32) (s : Fin 8) (r : Fin 4096) (A : Fin 2560 → EReal)
    (hA : ∀ l : Fin 2048, u (ix3 s r l) = A ⟨l.val, by omega⟩) (j : Fin 2048) :
    turnedQueries u (Host.cos both) (Host.sin both) (ix4 s r ⟨j.val / 64, by omega⟩ ⟨j.val % 64, by omega⟩)
      = rotated A r.val ⟨j.val, by omega⟩ := by
  have atA : ∀ (l : Fin 2048) (b : Fin 2560), l.val = b.val → u (ix3 s r l) = A b := fun l b h =>
    (hA l).trans (congrArg A (Fin.ext h))
  have angle : both (ix3 r ⟨j.val % 64 / 32, by omega⟩ ⟨j.val % 64 % 16, by omega⟩) = theta r.val (j.val) :=
    (both_apply _ _ _).trans (theta_same _ (by simp only []; omega) (by simp only []; omega))
  rw [turnedQueries_apply]
  unfold rotated
  by_cases h : j.val % 32 < 16
  · rw [if_pos (by simp only []; omega), dif_pos (by simp only []; omega)]
    exact congrArg₂ (· - ·) (congrArg₂ (· * ·) (atA _ _ (by simp only []; omega)) (congrArg Ideal.cos angle))
      (congrArg₂ (· * ·) (atA _ _ (by simp only []; omega)) (congrArg Ideal.sin angle))
  · rw [if_neg (by simp only []; omega), dif_neg (by simp only []; omega)]
    exact congrArg₂ (· + ·) (congrArg₂ (· * ·) (atA _ _ (by simp only []; omega)) (congrArg Ideal.cos angle))
      (congrArg₂ (· * ·) (atA _ _ (by simp only []; omega)) (congrArg Ideal.sin angle))

/-- The turned keys, head by head. -/
theorem turnedKeys_apply (u : FVec Ideal S8x4096x256 .f32) (co si : FVec Ideal S4096x2x16 .f32) (s : Fin 8) (r : Fin 4096)
    (h : Fin 4) (d : Fin 64) : turnedKeys u co si (ix4 s r h d) = if d.val / 16 % 2 < 1 then
      u (ix3 s r ⟨h.val * 64 + d.val / 32 * 32 + d.val % 16, by omega⟩) * co (ix3 r ⟨d.val / 32, by omega⟩ ⟨d.val % 16, by omega⟩)
        - u (ix3 s r ⟨h.val * 64 + d.val / 32 * 32 + 16 + d.val % 16, by omega⟩) * si (ix3 r ⟨d.val / 32, by omega⟩ ⟨d.val % 16, by omega⟩)
    else
      u (ix3 s r ⟨h.val * 64 + d.val / 32 * 32 + 16 + d.val % 16, by omega⟩) * co (ix3 r ⟨d.val / 32, by omega⟩ ⟨d.val % 16, by omega⟩)
        + u (ix3 s r ⟨h.val * 64 + d.val / 32 * 32 + d.val % 16, by omega⟩) * si (ix3 r ⟨d.val / 32, by omega⟩ ⟨d.val % 16, by omega⟩) := by
  pointwise [turnedKeys, everyKeys, firstKeys, secondKeys]
  rfl

/-- The turned keys, column by column. -/
theorem turnedKeys_eq (u : FVec Ideal S8x4096x256 .f32) (s : Fin 8) (r : Fin 4096) (A : Fin 2560 → EReal)
    (hA : ∀ l : Fin 256, u (ix3 s r l) = A ⟨l.val + 2048, by omega⟩) (j : Fin 256) :
    turnedKeys u (Host.cos both) (Host.sin both) (ix4 s r ⟨j.val / 64, by omega⟩ ⟨j.val % 64, by omega⟩)
      = rotated A r.val ⟨j.val + 2048, by omega⟩ := by
  have atA : ∀ (l : Fin 256) (b : Fin 2560), l.val + 2048 = b.val → u (ix3 s r l) = A b := fun l b h =>
    (hA l).trans (congrArg A (Fin.ext h))
  have angle : both (ix3 r ⟨j.val % 64 / 32, by omega⟩ ⟨j.val % 64 % 16, by omega⟩) = theta r.val (j.val + 2048) :=
    (both_apply _ _ _).trans (theta_same _ (by simp only []; omega) (by simp only []; omega))
  rw [turnedKeys_apply]
  unfold rotated
  by_cases h : j.val % 32 < 16
  · rw [if_pos (by simp only []; omega), dif_pos (by simp only []; omega)]
    exact congrArg₂ (· - ·) (congrArg₂ (· * ·) (atA _ _ (by simp only []; omega)) (congrArg Ideal.cos angle))
      (congrArg₂ (· * ·) (atA _ _ (by simp only []; omega)) (congrArg Ideal.sin angle))
  · rw [if_neg (by simp only []; omega), dif_neg (by simp only []; omega)]
    exact congrArg₂ (· + ·) (congrArg₂ (· * ·) (atA _ _ (by simp only []; omega)) (congrArg Ideal.cos angle))
      (congrArg₂ (· * ·) (atA _ _ (by simp only []; omega)) (congrArg Ideal.sin angle))

end Cert.QkvRef

end
-- ==== Proof.QkvEq.lean ====
module
public import proofs.«01_k».proof.Proof.QkvRef

/-! The reference of the projection into queries, keys and values is what its kernel computes. -/

@[expose] public section

set_option maxRecDepth 16384

noncomputable section

namespace Cert.QkvEq

open Idealize.ShloMosaic Idealize.ShloMosaic.TcCoe Idealize.SL.Sem
open Cert.ReferenceQkvIdeal Cert.ReferenceQkvIdeal.Gen Cert.QkvBlock Cert.QkvTables
open Cert.QkvArray (rotated)
open Cert.QkvRef

/-- Two, as a number. -/
theorem ofBits_two : Ideal.ofBits FTy.f32 0x40000000#32 = ((2 : ℝ) : EReal) := by
  simp [Ideal.ofBits, Ideal.ieee]
  rw [← EReal.coe_mul]
  norm_num

/-- An eighth, as a number. -/
theorem ofBits_eighth : Ideal.ofBits FTy.f32 0x3E000000#32 = ((1 / 8 : ℝ) : EReal) := by
  simp [Ideal.ofBits, Ideal.ieee]
  rw [← EReal.coe_mul]
  norm_num

/-- What a query is multiplied by, as a number. -/
theorem scale_eq : scale ix0 = (((1 / 8) * (Real.log 2)⁻¹ : ℝ) : EReal) := by
  change Ideal.div (Ideal.ofBits FTy.f32 0x3E000000#32) (Ideal.log (Ideal.ofBits FTy.f32 0x40000000#32)) = _
  have hl : Real.log 2 ≠ 0 := (Real.log_pos (by norm_num)).ne'
  rw [ofBits_two, ofBits_eighth, Ideal.log_coe, if_neg (by norm_num)]
  rw [Ideal.div_coe hl, ← EReal.coe_mul, one_div, one_div]

/-- The parts side by side, column by column. -/
theorem joined_apply (q : FVec Ideal S8x4096x2048 .f32) (k v : FVec Ideal S8x4096x256 .f32) (s : Fin 8) (r : Fin 4096) (j : Fin 2560) :
    joined q k v (ix3 s r j) = if h : j.val < 2048 then q (ix3 s r ⟨j.val, h⟩)
      else if h' : j.val - 2048 < 256 then k (ix3 s r ⟨j.val - 2048, h'⟩)
      else v (ix3 s r ⟨j.val - 2048 - 256, by omega⟩) := by
  pointwise [joined]
  try rfl

/-- The columns of the queries. -/
theorem query_columns (u : FVec Ideal S8x4096x2560 .f32) (s : Fin 8) (r : Fin 4096) (l : Fin 2048) :
    extractStridedSlice S8x4096x2048 ![0, 0, 0] u slices_S8x4096x2560_S8x4096x2048_0_0_0 (ix3 s r l) = u (ix3 s r ⟨l.val, by omega⟩) := by
  pointwise []

/-- The scaled queries, column by column. -/
theorem scaled_apply (v : FVec Ideal S8x4096x32x64 .f32) (g : FVec Ideal S_ .f32) (s : Fin 8) (r : Fin 4096) (j : Fin 2048) :
    scaled v g (ix3 s r j) = v (ix4 s r ⟨j.val / 64, by omega⟩ ⟨j.val % 64, by omega⟩) * g ix0 := by
  pointwise [scaled]

/-- The queries, column by column. -/
theorem queries_eq (u : FVec Ideal S8x4096x2560 .f32) (s : Fin 8) (r : Fin 4096) (A : Fin 2560 → EReal)
    (hA : ∀ l, u (ix3 s r l) = A l) (j : Fin 2048) :
    queries u (Host.cos both) (Host.sin both) (ix3 s r j) = rotated A r.val ⟨j.val, by omega⟩ * gain j.val := by
  have hj : j.val < 2048 := j.isLt
  unfold queries
  rw [scaled_apply, scale_eq, turnedQueries_eq _ s r A (fun l => (query_columns u s r l).trans (hA _)) j]
  unfold gain
  rw [if_pos hj]

/-- The keys, column by column. -/
theorem keys_eq (u : FVec Ideal S8x4096x2560 .f32) (s : Fin 8) (r : Fin 4096) (A : Fin 2560 → EReal)
    (hA : ∀ l, u (ix3 s r l) = A l) (j : Fin 256) :
    keys u (Host.cos both) (Host.sin both) (ix3 s r j) = rotated A r.val ⟨j.val + 2048, by omega⟩ * gain (j.val + 2048) := by
  rw [gain, if_neg (by omega), mul_one]
  pointwise [keys]
  rw [turnedKeys_eq _ s r A (fun l => ?_) j]
  refine Eq.trans ?_ (hA _)
  pointwise []
  try simp only [Nat.add_comm]

/-- The values, column by column. -/
theorem values_eq (u : FVec Ideal S8x4096x2560 .f32) (s : Fin 8) (r : Fin 4096) (j : Fin 256) :
    values u (ix3 s r j) = u (ix3 s r ⟨2304 + j.val, by omega⟩) := by
  pointwise [values]

/-- The reference, entry by entry, is what the kernel computes. -/
theorem reference_eq (x : FVec Ideal S32768x2048 .f32) (sh sc : FVec Ideal S8x1x2048 .f32) (w : FVec Ideal S2048x2560 .bf16) :
    reference x sh sc w = QkvArray.result x sh sc w := by
  funext i
  obtain ⟨p, j, rfl⟩ : ∃ (p : Fin 32768) (j : Fin 2560), i = ix2 p j := ⟨i 0, i 1, eq_ix2 i⟩
  have hp := p.isLt
  have hj := j.isLt
  have hA : ∀ l, product (hidden x sh sc) w (ix3 (⟨p.val / 4096, by omega⟩ : Fin 8) (⟨p.val % 4096, by omega⟩ : Fin 4096) l)
      = QkvArray.product x sh sc w ⟨p.val / 4096, by omega⟩ p l := fun l =>
    (product_apply x sh sc w _ _ l).trans (by
      rw [show (⟨(⟨p.val / 4096, by omega⟩ : Fin 8).val * 4096 + (⟨p.val % 4096, by omega⟩ : Fin 4096).val, by simp only []; omega⟩ : Fin 32768) = p from
        Fin.ext (by simp only []; omega)])
  pointwise [reference]
  change _ = QkvArray.entry x sh sc w p j
  unfold QkvArray.entry parts
  rw [joined_apply]
  by_cases h : j.val < 2048
  · rw [dif_pos h, if_pos (by omega), queries_eq _ _ _ _ hA]
  · rw [dif_neg h]
    by_cases h' : j.val - 2048 < 256
    · have e : (⟨j.val - 2048 + 2048, by omega⟩ : Fin 2560) = j := Fin.ext (by simp only []; omega)
      rw [dif_pos h', if_pos (by omega), keys_eq _ _ _ _ hA]
      simp only []
      rw [e, show j.val - 2048 + 2048 = j.val by omega]
    · rw [dif_neg h', if_neg (by omega), values_eq, hA]
      exact congrArg _ (Fin.ext (by simp only []; omega))

end Cert.QkvEq

end
-- ==== Proof.QkvClaim.lean ====
module
public import proofs.«01_k».proof.Defs
public import proofs.«01_k».proof.Proof.QkvEq

/-! The claims about the projection into queries, keys and values. -/

@[expose] public section

set_option maxRecDepth 16384

noncomputable section

namespace Cert.QkvClaim

open Idealize.ShloMosaic Idealize.ShloMosaic.TcCoe Idealize.SL.Sem

/-- The reference runs, keeps its arguments and leaves the machine quiet. -/
theorem frame_reference : Cert.quiescent_ReferenceQkvIdeal := fun m ρ _ =>
  (θ_run Cert.ReferenceQkvIdeal.defs _ _).mono
    (fun r h => ⟨fun c => (h c).2, Idealize.ShloMosaic.sem_eq_zero_of_no_sems (by decide) r.2⟩)
    (Cert.ReferenceQkvIdeal.Value.run (F := Ideal) m ρ)

/-- On any arguments, the kernel and the reference leave the same array. -/
theorem algebraic : Cert.algebraic_KernelQkvIdeal_ReferenceQkvIdeal := by
  intro m ρ m' ρ' _ hagree
  refine ⟨fun c => QkvArray.result (QkvArray.X m c) (QkvArray.SH m c) (QkvArray.SC m c) (QkvArray.W m c),
    (θ_run Cert.KernelQkvIdeal.defs _ _).mono (fun _ h c => ⟨(h c).1.trans (QkvArray.final m c), (h c).2⟩)
      (Cert.KernelQkvIdeal.Value.run_blocks (F := Ideal) m ρ),
    (θ_run Cert.ReferenceQkvIdeal.defs _ _).mono (fun _ h c => ⟨(h c).1.trans ?_, (h c).2⟩)
      (Cert.ReferenceQkvIdeal.Value.run (F := Ideal) m' ρ')⟩
  rw [QkvRef.res_eq, (hagree c).1, (hagree c).2.1, (hagree c).2.2.1, (hagree c).2.2.2]
  exact QkvEq.reference_eq _ _ _ _

end Cert.QkvClaim

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelCtx
public import proofs.«01_k».proof.Proof.Gen.KernelCtx.Skeleton
public import proofs.«01_k».proof.Proof.Gen.KernelCtx.Launch
public import proofs.«01_k».proof.Proof.Gen.KernelCtx.Points
public import proofs.«01_k».proof.Proof.Gen.KernelCtx.Frame
public import proofs.«01_k».proof.Proof.Gen.KernelCtxIdeal
public import proofs.«01_k».proof.Proof.Gen.KernelCtxIdeal.Skeleton
public import proofs.«01_k».proof.Proof.Gen.KernelCtxIdeal.Launch
public import proofs.«01_k».proof.Proof.Gen.KernelCtxIdeal.Points
public import proofs.«01_k».proof.Proof.Gen.KernelCtxIdeal.Frame
public import proofs.«01_k».proof.Proof.Gen.ReferenceCtxIdeal
public import proofs.«01_k».proof.Proof.Gen.KernelIdeal.Value
public import proofs.«01_k».proof.Proof.Gen.KernelCtxIdeal.Value
public import proofs.«01_k».proof.Proof.Gen.ReferenceIdeal.Run
public import proofs.«01_k».proof.Proof.Gen.ReferenceCtxIdeal.Run
public import proofs.«01_k».proof.Proof.Gen.KernelRes
public import proofs.«01_k».proof.Proof.Gen.KernelRes.Skeleton
public import proofs.«01_k».proof.Proof.Gen.KernelRes.Launch
public import proofs.«01_k».proof.Proof.Gen.KernelRes.Points
public import proofs.«01_k».proof.Proof.Gen.KernelRes.Frame
public import proofs.«01_k».proof.Proof.Gen.KernelResIdeal
public import proofs.«01_k».proof.Proof.Gen.KernelResIdeal.Skeleton
public import proofs.«01_k».proof.Proof.Gen.KernelResIdeal.Launch
public import proofs.«01_k».proof.Proof.Gen.KernelResIdeal.Points
public import proofs.«01_k».proof.Proof.Gen.KernelResIdeal.Frame
public import proofs.«01_k».proof.Proof.Gen.KernelResIdeal.Value
public import proofs.«01_k».proof.Proof.Gen.ReferenceResIdeal
public import proofs.«01_k».proof.Proof.Gen.ReferenceResIdeal.Run
public import proofs.«01_k».proof.Proof.Gen.KernelConv
public import proofs.«01_k».proof.Proof.Gen.KernelConv.Skeleton
public import proofs.«01_k».proof.Proof.Gen.KernelConv.Launch
public import proofs.«01_k».proof.Proof.Gen.KernelConv.Points
public import proofs.«01_k».proof.Proof.Gen.KernelConv.Frame
public import proofs.«01_k».proof.Proof.Gen.KernelConvIdeal
public import proofs.«01_k».proof.Proof.Gen.KernelConvIdeal.Skeleton
public import proofs.«01_k».proof.Proof.Gen.KernelConvIdeal.Launch
public import proofs.«01_k».proof.Proof.Gen.KernelConvIdeal.Points
public import proofs.«01_k».proof.Proof.Gen.KernelConvIdeal.Frame
public import proofs.«01_k».proof.Proof.Gen.KernelConvIdeal.Value
public import proofs.«01_k».proof.Proof.Gen.ReferenceConvIdeal
public import proofs.«01_k».proof.Proof.Gen.ReferenceConvIdeal.Run
public import proofs.«01_k».proof.Proof.Gen.KernelQkv
public import proofs.«01_k».proof.Proof.Gen.KernelQkv.Skeleton
public import proofs.«01_k».proof.Proof.Gen.KernelQkv.Launch
public import proofs.«01_k».proof.Proof.Gen.KernelQkv.Points
public import proofs.«01_k».proof.Proof.Gen.KernelQkv.Frame
public import proofs.«01_k».proof.Proof.Gen.KernelQkvIdeal
public import proofs.«01_k».proof.Proof.Gen.KernelQkvIdeal.Skeleton
public import proofs.«01_k».proof.Proof.Gen.KernelQkvIdeal.Launch
public import proofs.«01_k».proof.Proof.Gen.KernelQkvIdeal.Points
public import proofs.«01_k».proof.Proof.Gen.KernelQkvIdeal.Frame
public import proofs.«01_k».proof.Proof.Gen.KernelQkvIdeal.Value
public import proofs.«01_k».proof.Proof.Gen.ReferenceQkvIdeal
public import proofs.«01_k».proof.Proof.Gen.ReferenceQkvIdeal.Run
public import Idealize.ShloMosaic.Adequacy
public import Idealize.ShloMosaic.Init
public import Idealize.ShloMosaic.Lib.Quiescent
public import proofs.«01_k».proof.Proof.CtxClaim
public import proofs.«01_k».proof.Proof.WinClaim
public import proofs.«01_k».proof.Proof.ResClaim
public import proofs.«01_k».proof.Proof.ConvClaim
public import proofs.«01_k».proof.Proof.QkvClaim

/-! The certificate of the calls, assembled from the modules under Proof/. -/

@[expose] public section

noncomputable section

namespace Cert.Proof

open Idealize.ShloMosaic Idealize.SL.Sem Cert.Kernel

/-- The window kernel's named constants are the numbers their names say. -/
theorem preserves_window : Cert.preserves_Kernel_KernelIdeal :=
  ⟨IdealRules.named_const.statement Cert.KernelIdeal.κ "mask" .f32 0xF149F2CA#32 ⊥ rfl,
    IdealRules.named_const.statement Cert.KernelIdeal.κ "log2e" .f32 0x3FB8AA3B#32 (((Real.log 2)⁻¹ : ℝ) : EReal) rfl⟩

/-- The context kernel's named constants are the numbers their names say. -/
theorem preserves_ctx : Cert.preserves_KernelCtx_KernelCtxIdeal :=
  ⟨IdealRules.named_const.statement Cert.KernelCtxIdeal.κ "q_scale" .f32 0x3E38AA3B#32 (((1 / 8) * (Real.log 2)⁻¹ : ℝ) : EReal) rfl,
    IdealRules.named_const.statement Cert.KernelCtxIdeal.κ "log2e" .f32 0x3FB8AA3B#32 (((Real.log 2)⁻¹ : ℝ) : EReal) rfl⟩

/-- The projection kernel's named constant is the number its name says. -/
theorem preserves_qkv : Cert.preserves_KernelQkv_KernelQkvIdeal :=
  IdealRules.named_const.statement Cert.KernelQkvIdeal.κ "q_scale" .f32 0x3E38AA3B#32 (((1 / 8) * (Real.log 2)⁻¹ : ℝ) : EReal) rfl

/-- Everything claimed. -/
theorem claim : Cert.Claim :=
  ⟨Cert.Kernel.Gen.facts, Cert.KernelIdeal.Gen.facts, Cert.ReferenceIdeal.Gen.facts, Cert.KernelCtx.Gen.facts,
    Cert.KernelCtxIdeal.Gen.facts, Cert.ReferenceCtxIdeal.Gen.facts,
    Cert.KernelRes.Gen.facts, Cert.KernelResIdeal.Gen.facts, Cert.ReferenceResIdeal.Gen.facts,
    Cert.KernelConv.Gen.facts, Cert.KernelConvIdeal.Gen.facts, Cert.ReferenceConvIdeal.Gen.facts,
    Cert.KernelQkv.Gen.facts, Cert.KernelQkvIdeal.Gen.facts, Cert.ReferenceQkvIdeal.Gen.facts,
    Cert.WinPre.facts, Cert.CtxPre.facts,
    fun m ρ _ => Cert.Kernel.Gen.frame m ρ,
    fun m ρ _ => Cert.KernelIdeal.Gen.frame m ρ,
    fun m ρ _ => Cert.KernelIdeal.Gen.frame m ρ,
    Cert.WinClaim.frame_reference,
    fun m ρ _ => Cert.WinClaim.frame_reference m ρ trivial,
    fun m ρ _ => Cert.KernelCtx.Gen.frame m ρ,
    fun m ρ _ => Cert.KernelCtxIdeal.Gen.frame m ρ,
    fun m ρ _ => Cert.KernelCtxIdeal.Gen.frame m ρ,
    Cert.CtxClaim.frame_reference,
    fun m ρ _ => Cert.CtxClaim.frame_reference m ρ trivial,
    fun m ρ _ => Cert.KernelRes.Gen.frame m ρ,
    fun m ρ _ => Cert.KernelResIdeal.Gen.frame m ρ,
    Cert.ResClaim.frame_reference,
    fun m ρ _ => Cert.KernelConv.Gen.frame m ρ,
    fun m ρ _ => Cert.KernelConvIdeal.Gen.frame m ρ,
    Cert.ConvClaim.frame_reference,
    fun m ρ _ => Cert.KernelQkv.Gen.frame m ρ,
    fun m ρ _ => Cert.KernelQkvIdeal.Gen.frame m ρ,
    Cert.QkvClaim.frame_reference,
    preserves_window, Cert.WinClaim.algebraic, preserves_ctx, Cert.CtxClaim.algebraic,
    trivial, Cert.ResClaim.algebraic,
    trivial, Cert.ConvClaim.algebraic,
    preserves_qkv, Cert.QkvClaim.algebraic⟩

end Cert.Proof

end
